-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![65536, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2x4x128x1024 : Shape := ⟨4, ![2, 4, 128, 1024]⟩
abbrev S2x4 : Shape := ⟨2, ![2, 4]⟩
abbrev S4 : Shape := ⟨1, ![4]⟩
abbrev S8x2x128x1024 : Shape := ⟨4, ![8, 2, 128, 1024]⟩
abbrev S8x2 : Shape := ⟨2, ![8, 2]⟩
abbrev S_ : Shape := ⟨0, ![]⟩
abbrev S1x1 : Shape := ⟨2, ![1, 1]⟩
abbrev S1x1x128x1024 : Shape := ⟨4, ![1, 1, 128, 1024]⟩
abbrev S128x1024 : Shape := ⟨2, ![128, 1024]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S2x4x128x1024, .f32⟩
  | .local _ .vmem, ⟨1, _⟩ => ⟨S2x4x128x1024, .f32⟩
  | .local _ .vmem, ⟨2, _⟩ => ⟨S8x2x128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 9 56 bufScoped semScoped dmaSemScoped tileCredit tileCredit_eq_zero tileCredit_pos).withBarriers [(0, 8)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch10 : Ref sig .tc := ⟨.vmem, 2, rfl⟩
abbrev barrier0 : Sem sig := 8

abbrev nD : Nat := 8
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_18 : BitVec 32 := 1#32
  let v35 : BitVec 32 := Scalar.muli v33 c1_i32_18
  let v36 : BitVec 32 := Scalar.addi c0_i32_19 v35
  v36.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_21 : BitVec 32 := 1#32
  let v37 : BitVec 32 := Scalar.muli v19 c1_i32_21
  let v38 : BitVec 32 := Scalar.addi c0_i32_22 v37
  v38.toNat
def k0_off1 (d0 : Dev nD) (c0_i32_23 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1024_i32 : BitVec 32 := 1024#32
  let v39 : BitVec 32 := Scalar.muli v5 c1024_i32
  let v40 : BitVec 32 := Scalar.addi v39 c0_i32_23
  let c0_i32_34 : BitVec 32 := 0#32
  ![v40.toNat, 0]
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_30 : BitVec 32 := 1#32
  let v41 : BitVec 32 := Scalar.muli v19 c1_i32_30
  let v42 : BitVec 32 := Scalar.addi c0_i32_31 v41
  v42.toNat
def k0_off2 (d0 : Dev nD) (c1_i32_35 : BitVec 32) (c0_i32_43 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v50 : BitVec 32 := Scalar.subi v5 c1_i32_35
  let c8_i32_36 : BitVec 32 := 8#32
  let c0_i32_37 : BitVec 32 := 0#32
  let v51 : BitVec 1 := Scalar.cmpi .eq c8_i32_36 c0_i32_37
  let c1_i32_38 : BitVec 32 := 1#32
  let v52 : BitVec 32 := Scalar.select v51 c1_i32_38 c8_i32_36
  let v53 : BitVec 32 := Scalar.remsi v50 v52
  let c0_i32_40 : BitVec 32 := 0#32
  let v55 : BitVec 1 := Scalar.cmpi .slt v53 c0_i32_40
  let c0_i32_41 : BitVec 32 := 0#32
  let v56 : BitVec 1 := Scalar.cmpi .slt v52 c0_i32_41
  let v57 : BitVec 1 := Scalar.xori v55 v56
  let c0_i32_39 : BitVec 32 := 0#32
  let v54 : BitVec 1 := Scalar.cmpi .ne v53 c0_i32_39
  let v58 : BitVec 1 := Scalar.andi v57 v54
  let v59 : BitVec 32 := Scalar.addi v53 v52
  let v60 : BitVec 32 := Scalar.select v58 v59 v53
  let c1024_i32_42 : BitVec 32 := 1024#32
  let v61 : BitVec 32 := Scalar.muli v60 c1024_i32_42
  let v62 : BitVec 32 := Scalar.addi v61 c0_i32_43
  let c0_i32_50 : BitVec 32 := 0#32
  ![v62.toNat, 0]
def k0_off3 (d0 : Dev nD) (c0_i32_52 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1024_i32_51 : BitVec 32 := 1024#32
  let v68 : BitVec 32 := Scalar.muli v5 c1024_i32_51
  let c512_i32 : BitVec 32 := 512#32
  let v69 : BitVec 32 := Scalar.addi v68 c512_i32
  let v70 : BitVec 32 := Scalar.addi v69 c0_i32_52
  let c0_i32_63 : BitVec 32 := 0#32
  ![v70.toNat, 0]
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_59 : BitVec 32 := 1#32
  let v71 : BitVec 32 := Scalar.muli v33 c1_i32_59
  let v72 : BitVec 32 := Scalar.addi c0_i32_60 v71
  v72.toNat
def k0_off4 (d0 : Dev nD) (c_m1_i32 : BitVec 32) (c0_i32_72 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v80 : BitVec 32 := Scalar.subi v5 c_m1_i32
  let c8_i32_64 : BitVec 32 := 8#32
  let c0_i32_65 : BitVec 32 := 0#32
  let v81 : BitVec 1 := Scalar.cmpi .eq c8_i32_64 c0_i32_65
  let c1_i32_66 : BitVec 32 := 1#32
  let v82 : BitVec 32 := Scalar.select v81 c1_i32_66 c8_i32_64
  let v83 : BitVec 32 := Scalar.remsi v80 v82
  let c0_i32_68 : BitVec 32 := 0#32
  let v85 : BitVec 1 := Scalar.cmpi .slt v83 c0_i32_68
  let c0_i32_69 : BitVec 32 := 0#32
  let v86 : BitVec 1 := Scalar.cmpi .slt v82 c0_i32_69
  let v87 : BitVec 1 := Scalar.xori v85 v86
  let c0_i32_67 : BitVec 32 := 0#32
  let v84 : BitVec 1 := Scalar.cmpi .ne v83 c0_i32_67
  let v88 : BitVec 1 := Scalar.andi v87 v84
  let v89 : BitVec 32 := Scalar.addi v83 v82
  let v90 : BitVec 32 := Scalar.select v88 v89 v83
  let c1024_i32_70 : BitVec 32 := 1024#32
  let v91 : BitVec 32 := Scalar.muli v90 c1024_i32_70
  let c512_i32_71 : BitVec 32 := 512#32
  let v92 : BitVec 32 := Scalar.addi v91 c512_i32_71
  let v93 : BitVec 32 := Scalar.addi v92 c0_i32_72
  let c0_i32_79 : BitVec 32 := 0#32
  ![v93.toNat, 0]
def k0_off4_at (r : Fin 32) : BitVec 32 × BitVec 32 :=
  if r.val < 16 then
    if r.val < 8 then
      if r.val < 4 then
        if r.val < 2 then
          if r.val < 1 then
            (4294967295#32, 0#32)
          else
            (4294967295#32, 128#32)
        else
          if r.val < 3 then
            (4294967295#32, 256#32)
          else
            (4294967295#32, 384#32)
      else
        if r.val < 6 then
          if r.val < 5 then
            (4294967294#32, 0#32)
          else
            (4294967294#32, 128#32)
        else
          if r.val < 7 then
            (4294967294#32, 256#32)
          else
            (4294967294#32, 384#32)
    else
      if r.val < 12 then
        if r.val < 10 then
          if r.val < 9 then
            (4294967293#32, 0#32)
          else
            (4294967293#32, 128#32)
        else
          if r.val < 11 then
            (4294967293#32, 256#32)
          else
            (4294967293#32, 384#32)
      else
        if r.val < 14 then
          if r.val < 13 then
            (4294967292#32, 0#32)
          else
            (4294967292#32, 128#32)
        else
          if r.val < 15 then
            (4294967292#32, 256#32)
          else
            (4294967292#32, 384#32)
  else
    if r.val < 24 then
      if r.val < 20 then
        if r.val < 18 then
          if r.val < 17 then
            (4294967291#32, 0#32)
          else
            (4294967291#32, 128#32)
        else
          if r.val < 19 then
            (4294967291#32, 256#32)
          else
            (4294967291#32, 384#32)
      else
        if r.val < 22 then
          if r.val < 21 then
            (4294967290#32, 0#32)
          else
            (4294967290#32, 128#32)
        else
          if r.val < 23 then
            (4294967290#32, 256#32)
          else
            (4294967290#32, 384#32)
    else
      if r.val < 28 then
        if r.val < 26 then
          if r.val < 25 then
            (4294967289#32, 0#32)
          else
            (4294967289#32, 128#32)
        else
          if r.val < 27 then
            (4294967289#32, 256#32)
          else
            (4294967289#32, 384#32)
      else
        if r.val < 30 then
          if r.val < 29 then
            (0#32, 0#32)
          else
            (0#32, 128#32)
        else
          if r.val < 31 then
            (0#32, 256#32)
          else
            (0#32, 384#32)
def k0_dev5 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_87 : BitVec 32 := 1#32
  let v101 : BitVec 32 := Scalar.muli v19 c1_i32_87
  let v102 : BitVec 32 := Scalar.addi c0_i32_88 v101
  v102.toNat
def k0_dev6 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_117 : BitVec 32 := 1#32
  let v131 : BitVec 32 := Scalar.muli v33 c1_i32_117
  let v132 : BitVec 32 := Scalar.addi c0_i32_118 v131
  v132.toNat
def k0_dev7 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_145 : BitVec 32 := 1#32
  let v161 : BitVec 32 := Scalar.muli v19 c1_i32_145
  let v162 : BitVec 32 := Scalar.addi c0_i32_146 v161
  v162.toNat
def k0_dev8 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_175 : BitVec 32 := 1#32
  let v191 : BitVec 32 := Scalar.muli v33 c1_i32_175
  let v192 : BitVec 32 := Scalar.addi c0_i32_176 v191
  v192.toNat
def k0_dev9 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_203 : BitVec 32 := 1#32
  let v221 : BitVec 32 := Scalar.muli v19 c1_i32_203
  let v222 : BitVec 32 := Scalar.addi c0_i32_204 v221
  v222.toNat
def k0_dev10 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_232 : BitVec 32 := 1#32
  let v251 : BitVec 32 := Scalar.muli v33 c1_i32_232
  let v252 : BitVec 32 := Scalar.addi c0_i32_233 v251
  v252.toNat
def k0_dev11 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_325 : BitVec 32 := 1#32
  let v335 : BitVec 32 := Scalar.muli v19 c1_i32_325
  let v336 : BitVec 32 := Scalar.addi c0_i32_326 v335
  v336.toNat
def k0_dev12 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_404 : BitVec 32 := 1#32
  let v403 : BitVec 32 := Scalar.muli v33 c1_i32_404
  let v404 : BitVec 32 := Scalar.addi c0_i32_405 v403
  v404.toNat
def k0_dev13 (d0 : Dev nD) : Nat :=
  let c0_i32_483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_482 : BitVec 32 := 1#32
  let v469 : BitVec 32 := Scalar.muli v19 c1_i32_482
  let v470 : BitVec 32 := Scalar.addi c0_i32_483 v469
  v470.toNat
def k0_dev14 (d0 : Dev nD) : Nat :=
  let c0_i32_563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_562 : BitVec 32 := 1#32
  let v537 : BitVec 32 := Scalar.muli v33 c1_i32_562
  let v538 : BitVec 32 := Scalar.addi c0_i32_563 v537
  v538.toNat
def k0_dev15 (d0 : Dev nD) : Nat :=
  let c0_i32_641 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_640 : BitVec 32 := 1#32
  let v603 : BitVec 32 := Scalar.muli v19 c1_i32_640
  let v604 : BitVec 32 := Scalar.addi c0_i32_641 v603
  v604.toNat
def k0_dev16 (d0 : Dev nD) : Nat :=
  let c0_i32_721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_720 : BitVec 32 := 1#32
  let v671 : BitVec 32 := Scalar.muli v33 c1_i32_720
  let v672 : BitVec 32 := Scalar.addi c0_i32_721 v671
  v672.toNat
def k0_dev17 (d0 : Dev nD) : Nat :=
  let c0_i32_799 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_798 : BitVec 32 := 1#32
  let v737 : BitVec 32 := Scalar.muli v19 c1_i32_798
  let v738 : BitVec 32 := Scalar.addi c0_i32_799 v737
  v738.toNat
def k0_dev18 (d0 : Dev nD) : Nat :=
  let c0_i32_879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_878 : BitVec 32 := 1#32
  let v805 : BitVec 32 := Scalar.muli v33 c1_i32_878
  let v806 : BitVec 32 := Scalar.addi c0_i32_879 v805
  v806.toNat
def k0_dev19 (d0 : Dev nD) : Nat :=
  let c0_i32_900 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_899 : BitVec 32 := 1#32
  let v823 : BitVec 32 := Scalar.muli v33 c1_i32_899
  let v824 : BitVec 32 := Scalar.addi c0_i32_900 v823
  v824.toNat
def k0_dev20 (d0 : Dev nD) : Nat :=
  let c0_i32_971 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_970 : BitVec 32 := 1#32
  let v879 : BitVec 32 := Scalar.muli v19 c1_i32_970
  let v880 : BitVec 32 := Scalar.addi c0_i32_971 v879
  v880.toNat
def k0_dev21 (d0 : Dev nD) : Nat :=
  let c0_i32_992 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_991 : BitVec 32 := 1#32
  let v897 : BitVec 32 := Scalar.muli v19 c1_i32_991
  let v898 : BitVec 32 := Scalar.addi c0_i32_992 v897
  v898.toNat
def k0_dev22 (d0 : Dev nD) : Nat :=
  let c0_i32_1064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1063 : BitVec 32 := 1#32
  let v955 : BitVec 32 := Scalar.muli v33 c1_i32_1063
  let v956 : BitVec 32 := Scalar.addi c0_i32_1064 v955
  v956.toNat
def k0_dev23 (d0 : Dev nD) : Nat :=
  let c0_i32_1085 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1084 : BitVec 32 := 1#32
  let v973 : BitVec 32 := Scalar.muli v33 c1_i32_1084
  let v974 : BitVec 32 := Scalar.addi c0_i32_1085 v973
  v974.toNat
def k0_dev24 (d0 : Dev nD) : Nat :=
  let c0_i32_1156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1155 : BitVec 32 := 1#32
  let v1029 : BitVec 32 := Scalar.muli v19 c1_i32_1155
  let v1030 : BitVec 32 := Scalar.addi c0_i32_1156 v1029
  v1030.toNat
def k0_dev25 (d0 : Dev nD) : Nat :=
  let c0_i32_1177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1176 : BitVec 32 := 1#32
  let v1047 : BitVec 32 := Scalar.muli v19 c1_i32_1176
  let v1048 : BitVec 32 := Scalar.addi c0_i32_1177 v1047
  v1048.toNat
def k0_dev26 (d0 : Dev nD) : Nat :=
  let c0_i32_1250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1249 : BitVec 32 := 1#32
  let v1105 : BitVec 32 := Scalar.muli v33 c1_i32_1249
  let v1106 : BitVec 32 := Scalar.addi c0_i32_1250 v1105
  v1106.toNat
def k0_dev27 (d0 : Dev nD) : Nat :=
  let c0_i32_1271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1270 : BitVec 32 := 1#32
  let v1123 : BitVec 32 := Scalar.muli v33 c1_i32_1270
  let v1124 : BitVec 32 := Scalar.addi c0_i32_1271 v1123
  v1124.toNat
def k0_dev28 (d0 : Dev nD) : Nat :=
  let c0_i32_1342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1341 : BitVec 32 := 1#32
  let v1179 : BitVec 32 := Scalar.muli v19 c1_i32_1341
  let v1180 : BitVec 32 := Scalar.addi c0_i32_1342 v1179
  v1180.toNat
def k0_dev29 (d0 : Dev nD) : Nat :=
  let c0_i32_1363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1362 : BitVec 32 := 1#32
  let v1197 : BitVec 32 := Scalar.muli v19 c1_i32_1362
  let v1198 : BitVec 32 := Scalar.addi c0_i32_1363 v1197
  v1198.toNat
def k0_dev30 (d0 : Dev nD) : Nat :=
  let c0_i32_1436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1435 : BitVec 32 := 1#32
  let v1255 : BitVec 32 := Scalar.muli v33 c1_i32_1435
  let v1256 : BitVec 32 := Scalar.addi c0_i32_1436 v1255
  v1256.toNat
def k0_dev31 (d0 : Dev nD) : Nat :=
  let c0_i32_1457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1456 : BitVec 32 := 1#32
  let v1273 : BitVec 32 := Scalar.muli v33 c1_i32_1456
  let v1274 : BitVec 32 := Scalar.addi c0_i32_1457 v1273
  v1274.toNat
def k0_dev32 (d0 : Dev nD) : Nat :=
  let c0_i32_1528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1527 : BitVec 32 := 1#32
  let v1329 : BitVec 32 := Scalar.muli v19 c1_i32_1527
  let v1330 : BitVec 32 := Scalar.addi c0_i32_1528 v1329
  v1330.toNat
def k0_dev33 (d0 : Dev nD) : Nat :=
  let c0_i32_1549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1548 : BitVec 32 := 1#32
  let v1347 : BitVec 32 := Scalar.muli v19 c1_i32_1548
  let v1348 : BitVec 32 := Scalar.addi c0_i32_1549 v1347
  v1348.toNat
def k0_dev34 (d0 : Dev nD) : Nat :=
  let c0_i32_1622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1621 : BitVec 32 := 1#32
  let v1405 : BitVec 32 := Scalar.muli v33 c1_i32_1621
  let v1406 : BitVec 32 := Scalar.addi c0_i32_1622 v1405
  v1406.toNat
def k0_dev35 (d0 : Dev nD) : Nat :=
  let c0_i32_1643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1642 : BitVec 32 := 1#32
  let v1423 : BitVec 32 := Scalar.muli v33 c1_i32_1642
  let v1424 : BitVec 32 := Scalar.addi c0_i32_1643 v1423
  v1424.toNat
def k0_dev36 (d0 : Dev nD) : Nat :=
  let c0_i32_1714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1713 : BitVec 32 := 1#32
  let v1479 : BitVec 32 := Scalar.muli v19 c1_i32_1713
  let v1480 : BitVec 32 := Scalar.addi c0_i32_1714 v1479
  v1480.toNat
def k0_dev37 (d0 : Dev nD) : Nat :=
  let c0_i32_1735 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1734 : BitVec 32 := 1#32
  let v1497 : BitVec 32 := Scalar.muli v19 c1_i32_1734
  let v1498 : BitVec 32 := Scalar.addi c0_i32_1735 v1497
  v1498.toNat
def k0_dev38 (d0 : Dev nD) : Nat :=
  let c0_i32_1807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1806 : BitVec 32 := 1#32
  let v1555 : BitVec 32 := Scalar.muli v33 c1_i32_1806
  let v1556 : BitVec 32 := Scalar.addi c0_i32_1807 v1555
  v1556.toNat
def k0_dev39 (d0 : Dev nD) : Nat :=
  let c0_i32_1828 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1827 : BitVec 32 := 1#32
  let v1573 : BitVec 32 := Scalar.muli v33 c1_i32_1827
  let v1574 : BitVec 32 := Scalar.addi c0_i32_1828 v1573
  v1574.toNat
def k0_dev40 (d0 : Dev nD) : Nat :=
  let c0_i32_1899 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1898 : BitVec 32 := 1#32
  let v1629 : BitVec 32 := Scalar.muli v19 c1_i32_1898
  let v1630 : BitVec 32 := Scalar.addi c0_i32_1899 v1629
  v1630.toNat
def k0_dev41 (d0 : Dev nD) : Nat :=
  let c0_i32_1920 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1919 : BitVec 32 := 1#32
  let v1647 : BitVec 32 := Scalar.muli v19 c1_i32_1919
  let v1648 : BitVec 32 := Scalar.addi c0_i32_1920 v1647
  v1648.toNat
def k0_dev42 (d0 : Dev nD) : Nat :=
  let c0_i32_1993 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1992 : BitVec 32 := 1#32
  let v1705 : BitVec 32 := Scalar.muli v33 c1_i32_1992
  let v1706 : BitVec 32 := Scalar.addi c0_i32_1993 v1705
  v1706.toNat
def k0_dev43 (d0 : Dev nD) : Nat :=
  let c0_i32_2014 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2013 : BitVec 32 := 1#32
  let v1723 : BitVec 32 := Scalar.muli v33 c1_i32_2013
  let v1724 : BitVec 32 := Scalar.addi c0_i32_2014 v1723
  v1724.toNat
def k0_dev44 (d0 : Dev nD) : Nat :=
  let c0_i32_2085 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2084 : BitVec 32 := 1#32
  let v1779 : BitVec 32 := Scalar.muli v19 c1_i32_2084
  let v1780 : BitVec 32 := Scalar.addi c0_i32_2085 v1779
  v1780.toNat
def k0_dev45 (d0 : Dev nD) : Nat :=
  let c0_i32_2106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2105 : BitVec 32 := 1#32
  let v1797 : BitVec 32 := Scalar.muli v19 c1_i32_2105
  let v1798 : BitVec 32 := Scalar.addi c0_i32_2106 v1797
  v1798.toNat
def k0_dev46 (d0 : Dev nD) : Nat :=
  let c0_i32_2179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2178 : BitVec 32 := 1#32
  let v1855 : BitVec 32 := Scalar.muli v33 c1_i32_2178
  let v1856 : BitVec 32 := Scalar.addi c0_i32_2179 v1855
  v1856.toNat
def k0_dev47 (d0 : Dev nD) : Nat :=
  let c0_i32_2200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2199 : BitVec 32 := 1#32
  let v1873 : BitVec 32 := Scalar.muli v33 c1_i32_2199
  let v1874 : BitVec 32 := Scalar.addi c0_i32_2200 v1873
  v1874.toNat
def k0_dev48 (d0 : Dev nD) : Nat :=
  let c0_i32_2271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2270 : BitVec 32 := 1#32
  let v1929 : BitVec 32 := Scalar.muli v19 c1_i32_2270
  let v1930 : BitVec 32 := Scalar.addi c0_i32_2271 v1929
  v1930.toNat
def k0_dev49 (d0 : Dev nD) : Nat :=
  let c0_i32_2292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2291 : BitVec 32 := 1#32
  let v1947 : BitVec 32 := Scalar.muli v19 c1_i32_2291
  let v1948 : BitVec 32 := Scalar.addi c0_i32_2292 v1947
  v1948.toNat
def k0_dev50 (d0 : Dev nD) : Nat :=
  let c0_i32_2365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2364 : BitVec 32 := 1#32
  let v2005 : BitVec 32 := Scalar.muli v33 c1_i32_2364
  let v2006 : BitVec 32 := Scalar.addi c0_i32_2365 v2005
  v2006.toNat
def k0_dev51 (d0 : Dev nD) : Nat :=
  let c0_i32_2386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2385 : BitVec 32 := 1#32
  let v2023 : BitVec 32 := Scalar.muli v33 c1_i32_2385
  let v2024 : BitVec 32 := Scalar.addi c0_i32_2386 v2023
  v2024.toNat
def k0_dev52 (d0 : Dev nD) : Nat :=
  let c0_i32_2457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2456 : BitVec 32 := 1#32
  let v2079 : BitVec 32 := Scalar.muli v19 c1_i32_2456
  let v2080 : BitVec 32 := Scalar.addi c0_i32_2457 v2079
  v2080.toNat
def k0_dev53 (d0 : Dev nD) : Nat :=
  let c0_i32_2478 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2477 : BitVec 32 := 1#32
  let v2097 : BitVec 32 := Scalar.muli v19 c1_i32_2477
  let v2098 : BitVec 32 := Scalar.addi c0_i32_2478 v2097
  v2098.toNat
def k0_dev54 (d0 : Dev nD) : Nat :=
  let c0_i32_2550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2549 : BitVec 32 := 1#32
  let v2155 : BitVec 32 := Scalar.muli v33 c1_i32_2549
  let v2156 : BitVec 32 := Scalar.addi c0_i32_2550 v2155
  v2156.toNat
def k0_dev55 (d0 : Dev nD) : Nat :=
  let c0_i32_2571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2570 : BitVec 32 := 1#32
  let v2173 : BitVec 32 := Scalar.muli v33 c1_i32_2570
  let v2174 : BitVec 32 := Scalar.addi c0_i32_2571 v2173
  v2174.toNat
def k0_dev56 (d0 : Dev nD) : Nat :=
  let c0_i32_2642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2641 : BitVec 32 := 1#32
  let v2229 : BitVec 32 := Scalar.muli v19 c1_i32_2641
  let v2230 : BitVec 32 := Scalar.addi c0_i32_2642 v2229
  v2230.toNat
def k0_dev57 (d0 : Dev nD) : Nat :=
  let c0_i32_2663 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2662 : BitVec 32 := 1#32
  let v2247 : BitVec 32 := Scalar.muli v19 c1_i32_2662
  let v2248 : BitVec 32 := Scalar.addi c0_i32_2663 v2247
  v2248.toNat
def k0_dev58 (d0 : Dev nD) : Nat :=
  let c0_i32_2736 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2735 : BitVec 32 := 1#32
  let v2305 : BitVec 32 := Scalar.muli v33 c1_i32_2735
  let v2306 : BitVec 32 := Scalar.addi c0_i32_2736 v2305
  v2306.toNat
def k0_dev59 (d0 : Dev nD) : Nat :=
  let c0_i32_2757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2756 : BitVec 32 := 1#32
  let v2323 : BitVec 32 := Scalar.muli v33 c1_i32_2756
  let v2324 : BitVec 32 := Scalar.addi c0_i32_2757 v2323
  v2324.toNat
def k0_dev60 (d0 : Dev nD) : Nat :=
  let c0_i32_2828 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2827 : BitVec 32 := 1#32
  let v2379 : BitVec 32 := Scalar.muli v19 c1_i32_2827
  let v2380 : BitVec 32 := Scalar.addi c0_i32_2828 v2379
  v2380.toNat
def k0_dev61 (d0 : Dev nD) : Nat :=
  let c0_i32_2849 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2848 : BitVec 32 := 1#32
  let v2397 : BitVec 32 := Scalar.muli v19 c1_i32_2848
  let v2398 : BitVec 32 := Scalar.addi c0_i32_2849 v2397
  v2398.toNat
def k0_dev62 (d0 : Dev nD) : Nat :=
  let c0_i32_2922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2921 : BitVec 32 := 1#32
  let v2455 : BitVec 32 := Scalar.muli v33 c1_i32_2921
  let v2456 : BitVec 32 := Scalar.addi c0_i32_2922 v2455
  v2456.toNat
def k0_dev63 (d0 : Dev nD) : Nat :=
  let c0_i32_2943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2942 : BitVec 32 := 1#32
  let v2473 : BitVec 32 := Scalar.muli v33 c1_i32_2942
  let v2474 : BitVec 32 := Scalar.addi c0_i32_2943 v2473
  v2474.toNat
def k0_dev64 (d0 : Dev nD) : Nat :=
  let c0_i32_3014 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3013 : BitVec 32 := 1#32
  let v2529 : BitVec 32 := Scalar.muli v19 c1_i32_3013
  let v2530 : BitVec 32 := Scalar.addi c0_i32_3014 v2529
  v2530.toNat
def k0_dev65 (d0 : Dev nD) : Nat :=
  let c0_i32_3035 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3034 : BitVec 32 := 1#32
  let v2547 : BitVec 32 := Scalar.muli v19 c1_i32_3034
  let v2548 : BitVec 32 := Scalar.addi c0_i32_3035 v2547
  v2548.toNat
def k0_dev66 (d0 : Dev nD) : Nat :=
  let c0_i32_3108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3107 : BitVec 32 := 1#32
  let v2605 : BitVec 32 := Scalar.muli v33 c1_i32_3107
  let v2606 : BitVec 32 := Scalar.addi c0_i32_3108 v2605
  v2606.toNat
def k0_dev67 (d0 : Dev nD) : Nat :=
  let c0_i32_3129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3128 : BitVec 32 := 1#32
  let v2623 : BitVec 32 := Scalar.muli v33 c1_i32_3128
  let v2624 : BitVec 32 := Scalar.addi c0_i32_3129 v2623
  v2624.toNat
def k0_dev68 (d0 : Dev nD) : Nat :=
  let c0_i32_3200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3199 : BitVec 32 := 1#32
  let v2679 : BitVec 32 := Scalar.muli v19 c1_i32_3199
  let v2680 : BitVec 32 := Scalar.addi c0_i32_3200 v2679
  v2680.toNat
def k0_dev69 (d0 : Dev nD) : Nat :=
  let c0_i32_3221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3220 : BitVec 32 := 1#32
  let v2697 : BitVec 32 := Scalar.muli v19 c1_i32_3220
  let v2698 : BitVec 32 := Scalar.addi c0_i32_3221 v2697
  v2698.toNat
def k0_dev70 (d0 : Dev nD) : Nat :=
  let c0_i32_3293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3292 : BitVec 32 := 1#32
  let v2755 : BitVec 32 := Scalar.muli v33 c1_i32_3292
  let v2756 : BitVec 32 := Scalar.addi c0_i32_3293 v2755
  v2756.toNat
def k0_dev71 (d0 : Dev nD) : Nat :=
  let c0_i32_3314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3313 : BitVec 32 := 1#32
  let v2773 : BitVec 32 := Scalar.muli v33 c1_i32_3313
  let v2774 : BitVec 32 := Scalar.addi c0_i32_3314 v2773
  v2774.toNat
def k0_dev72 (d0 : Dev nD) : Nat :=
  let c0_i32_3385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3384 : BitVec 32 := 1#32
  let v2829 : BitVec 32 := Scalar.muli v19 c1_i32_3384
  let v2830 : BitVec 32 := Scalar.addi c0_i32_3385 v2829
  v2830.toNat
def k0_dev73 (d0 : Dev nD) : Nat :=
  let c0_i32_3406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3405 : BitVec 32 := 1#32
  let v2847 : BitVec 32 := Scalar.muli v19 c1_i32_3405
  let v2848 : BitVec 32 := Scalar.addi c0_i32_3406 v2847
  v2848.toNat
def k0_dev74 (d0 : Dev nD) : Nat :=
  let c0_i32_3479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3478 : BitVec 32 := 1#32
  let v2905 : BitVec 32 := Scalar.muli v33 c1_i32_3478
  let v2906 : BitVec 32 := Scalar.addi c0_i32_3479 v2905
  v2906.toNat
def k0_dev75 (d0 : Dev nD) : Nat :=
  let c0_i32_3500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3499 : BitVec 32 := 1#32
  let v2923 : BitVec 32 := Scalar.muli v33 c1_i32_3499
  let v2924 : BitVec 32 := Scalar.addi c0_i32_3500 v2923
  v2924.toNat
def k0_dev76 (d0 : Dev nD) : Nat :=
  let c0_i32_3571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3570 : BitVec 32 := 1#32
  let v2979 : BitVec 32 := Scalar.muli v19 c1_i32_3570
  let v2980 : BitVec 32 := Scalar.addi c0_i32_3571 v2979
  v2980.toNat
def k0_dev77 (d0 : Dev nD) : Nat :=
  let c0_i32_3592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3591 : BitVec 32 := 1#32
  let v2997 : BitVec 32 := Scalar.muli v19 c1_i32_3591
  let v2998 : BitVec 32 := Scalar.addi c0_i32_3592 v2997
  v2998.toNat
def k0_dev78 (d0 : Dev nD) : Nat :=
  let c0_i32_3665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3664 : BitVec 32 := 1#32
  let v3055 : BitVec 32 := Scalar.muli v33 c1_i32_3664
  let v3056 : BitVec 32 := Scalar.addi c0_i32_3665 v3055
  v3056.toNat
def k0_dev79 (d0 : Dev nD) : Nat :=
  let c0_i32_3686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3685 : BitVec 32 := 1#32
  let v3073 : BitVec 32 := Scalar.muli v33 c1_i32_3685
  let v3074 : BitVec 32 := Scalar.addi c0_i32_3686 v3073
  v3074.toNat
def k0_dev80 (d0 : Dev nD) : Nat :=
  let c0_i32_3757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3756 : BitVec 32 := 1#32
  let v3129 : BitVec 32 := Scalar.muli v19 c1_i32_3756
  let v3130 : BitVec 32 := Scalar.addi c0_i32_3757 v3129
  v3130.toNat
def k0_dev81 (d0 : Dev nD) : Nat :=
  let c0_i32_3778 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3777 : BitVec 32 := 1#32
  let v3147 : BitVec 32 := Scalar.muli v19 c1_i32_3777
  let v3148 : BitVec 32 := Scalar.addi c0_i32_3778 v3147
  v3148.toNat
def k0_dev82 (d0 : Dev nD) : Nat :=
  let c0_i32_3851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3850 : BitVec 32 := 1#32
  let v3205 : BitVec 32 := Scalar.muli v33 c1_i32_3850
  let v3206 : BitVec 32 := Scalar.addi c0_i32_3851 v3205
  v3206.toNat
def k0_dev83 (d0 : Dev nD) : Nat :=
  let c0_i32_3872 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3871 : BitVec 32 := 1#32
  let v3223 : BitVec 32 := Scalar.muli v33 c1_i32_3871
  let v3224 : BitVec 32 := Scalar.addi c0_i32_3872 v3223
  v3224.toNat
def k0_dev84 (d0 : Dev nD) : Nat :=
  let c0_i32_3943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3942 : BitVec 32 := 1#32
  let v3279 : BitVec 32 := Scalar.muli v19 c1_i32_3942
  let v3280 : BitVec 32 := Scalar.addi c0_i32_3943 v3279
  v3280.toNat
def k0_dev85 (d0 : Dev nD) : Nat :=
  let c0_i32_3964 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3963 : BitVec 32 := 1#32
  let v3297 : BitVec 32 := Scalar.muli v19 c1_i32_3963
  let v3298 : BitVec 32 := Scalar.addi c0_i32_3964 v3297
  v3298.toNat
def k0_dev86 (d0 : Dev nD) : Nat :=
  let c0_i32_4036 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4035 : BitVec 32 := 1#32
  let v3355 : BitVec 32 := Scalar.muli v33 c1_i32_4035
  let v3356 : BitVec 32 := Scalar.addi c0_i32_4036 v3355
  v3356.toNat
def k0_dev87 (d0 : Dev nD) : Nat :=
  let c0_i32_4057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4056 : BitVec 32 := 1#32
  let v3373 : BitVec 32 := Scalar.muli v33 c1_i32_4056
  let v3374 : BitVec 32 := Scalar.addi c0_i32_4057 v3373
  v3374.toNat
def k0_dev88 (d0 : Dev nD) : Nat :=
  let c0_i32_4128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4127 : BitVec 32 := 1#32
  let v3429 : BitVec 32 := Scalar.muli v19 c1_i32_4127
  let v3430 : BitVec 32 := Scalar.addi c0_i32_4128 v3429
  v3430.toNat
def k0_dev89 (d0 : Dev nD) : Nat :=
  let c0_i32_4149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4148 : BitVec 32 := 1#32
  let v3447 : BitVec 32 := Scalar.muli v19 c1_i32_4148
  let v3448 : BitVec 32 := Scalar.addi c0_i32_4149 v3447
  v3448.toNat
def k0_dev90 (d0 : Dev nD) : Nat :=
  let c0_i32_4222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4221 : BitVec 32 := 1#32
  let v3505 : BitVec 32 := Scalar.muli v33 c1_i32_4221
  let v3506 : BitVec 32 := Scalar.addi c0_i32_4222 v3505
  v3506.toNat
def k0_dev91 (d0 : Dev nD) : Nat :=
  let c0_i32_4243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4242 : BitVec 32 := 1#32
  let v3523 : BitVec 32 := Scalar.muli v33 c1_i32_4242
  let v3524 : BitVec 32 := Scalar.addi c0_i32_4243 v3523
  v3524.toNat
def k0_dev92 (d0 : Dev nD) : Nat :=
  let c0_i32_4314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4313 : BitVec 32 := 1#32
  let v3579 : BitVec 32 := Scalar.muli v19 c1_i32_4313
  let v3580 : BitVec 32 := Scalar.addi c0_i32_4314 v3579
  v3580.toNat
def k0_dev93 (d0 : Dev nD) : Nat :=
  let c0_i32_4335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4334 : BitVec 32 := 1#32
  let v3597 : BitVec 32 := Scalar.muli v19 c1_i32_4334
  let v3598 : BitVec 32 := Scalar.addi c0_i32_4335 v3597
  v3598.toNat
def k0_dev94 (d0 : Dev nD) : Nat :=
  let c0_i32_4408 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4407 : BitVec 32 := 1#32
  let v3655 : BitVec 32 := Scalar.muli v33 c1_i32_4407
  let v3656 : BitVec 32 := Scalar.addi c0_i32_4408 v3655
  v3656.toNat
def k0_dev95 (d0 : Dev nD) : Nat :=
  let c0_i32_4429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4428 : BitVec 32 := 1#32
  let v3673 : BitVec 32 := Scalar.muli v33 c1_i32_4428
  let v3674 : BitVec 32 := Scalar.addi c0_i32_4429 v3673
  v3674.toNat
def k0_dev96 (d0 : Dev nD) : Nat :=
  let c0_i32_4500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4499 : BitVec 32 := 1#32
  let v3729 : BitVec 32 := Scalar.muli v19 c1_i32_4499
  let v3730 : BitVec 32 := Scalar.addi c0_i32_4500 v3729
  v3730.toNat
def k0_dev97 (d0 : Dev nD) : Nat :=
  let c0_i32_4521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4520 : BitVec 32 := 1#32
  let v3747 : BitVec 32 := Scalar.muli v19 c1_i32_4520
  let v3748 : BitVec 32 := Scalar.addi c0_i32_4521 v3747
  v3748.toNat
def k0_dev98 (d0 : Dev nD) : Nat :=
  let c0_i32_4594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4593 : BitVec 32 := 1#32
  let v3805 : BitVec 32 := Scalar.muli v33 c1_i32_4593
  let v3806 : BitVec 32 := Scalar.addi c0_i32_4594 v3805
  v3806.toNat
def k0_dev99 (d0 : Dev nD) : Nat :=
  let c0_i32_4615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4614 : BitVec 32 := 1#32
  let v3823 : BitVec 32 := Scalar.muli v33 c1_i32_4614
  let v3824 : BitVec 32 := Scalar.addi c0_i32_4615 v3823
  v3824.toNat
def k0_off5 (d0 : Dev nD) (c0_i32_4666 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4658 : BitVec 32 := 1#32
  let v3859 : BitVec 32 := Scalar.addi v5 c1_i32_4658
  let c8_i32_4659 : BitVec 32 := 8#32
  let c0_i32_4660 : BitVec 32 := 0#32
  let v3860 : BitVec 1 := Scalar.cmpi .eq c8_i32_4659 c0_i32_4660
  let c1_i32_4661 : BitVec 32 := 1#32
  let v3861 : BitVec 32 := Scalar.select v3860 c1_i32_4661 c8_i32_4659
  let v3862 : BitVec 32 := Scalar.remsi v3859 v3861
  let c0_i32_4663 : BitVec 32 := 0#32
  let v3864 : BitVec 1 := Scalar.cmpi .slt v3862 c0_i32_4663
  let c0_i32_4664 : BitVec 32 := 0#32
  let v3865 : BitVec 1 := Scalar.cmpi .slt v3861 c0_i32_4664
  let v3866 : BitVec 1 := Scalar.xori v3864 v3865
  let c0_i32_4662 : BitVec 32 := 0#32
  let v3863 : BitVec 1 := Scalar.cmpi .ne v3862 c0_i32_4662
  let v3867 : BitVec 1 := Scalar.andi v3866 v3863
  let v3868 : BitVec 32 := Scalar.addi v3862 v3861
  let v3869 : BitVec 32 := Scalar.select v3867 v3868 v3862
  let c1024_i32_4665 : BitVec 32 := 1024#32
  let v3870 : BitVec 32 := Scalar.muli v3869 c1024_i32_4665
  let v3871 : BitVec 32 := Scalar.addi v3870 c0_i32_4666
  let c0_i32_4670 : BitVec 32 := 0#32
  ![v3871.toNat, 0]
def k0_dev100 (d0 : Dev nD) : Nat :=
  let c0_i32_4685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4684 : BitVec 32 := 1#32
  let v3879 : BitVec 32 := Scalar.muli v19 c1_i32_4684
  let v3880 : BitVec 32 := Scalar.addi c0_i32_4685 v3879
  v3880.toNat
def k0_dev101 (d0 : Dev nD) : Nat :=
  let c0_i32_4706 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4705 : BitVec 32 := 1#32
  let v3897 : BitVec 32 := Scalar.muli v19 c1_i32_4705
  let v3898 : BitVec 32 := Scalar.addi c0_i32_4706 v3897
  v3898.toNat
def k0_off6 (d0 : Dev nD) (c0_i32_4759 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_4750 : BitVec 32 := 4294967295#32
  let v3934 : BitVec 32 := Scalar.addi v5 c_m1_i32_4750
  let c8_i32_4751 : BitVec 32 := 8#32
  let c0_i32_4752 : BitVec 32 := 0#32
  let v3935 : BitVec 1 := Scalar.cmpi .eq c8_i32_4751 c0_i32_4752
  let c1_i32_4753 : BitVec 32 := 1#32
  let v3936 : BitVec 32 := Scalar.select v3935 c1_i32_4753 c8_i32_4751
  let v3937 : BitVec 32 := Scalar.remsi v3934 v3936
  let c0_i32_4755 : BitVec 32 := 0#32
  let v3939 : BitVec 1 := Scalar.cmpi .slt v3937 c0_i32_4755
  let c0_i32_4756 : BitVec 32 := 0#32
  let v3940 : BitVec 1 := Scalar.cmpi .slt v3936 c0_i32_4756
  let v3941 : BitVec 1 := Scalar.xori v3939 v3940
  let c0_i32_4754 : BitVec 32 := 0#32
  let v3938 : BitVec 1 := Scalar.cmpi .ne v3937 c0_i32_4754
  let v3942 : BitVec 1 := Scalar.andi v3941 v3938
  let v3943 : BitVec 32 := Scalar.addi v3937 v3936
  let v3944 : BitVec 32 := Scalar.select v3942 v3943 v3937
  let c1024_i32_4757 : BitVec 32 := 1024#32
  let v3945 : BitVec 32 := Scalar.muli v3944 c1024_i32_4757
  let c512_i32_4758 : BitVec 32 := 512#32
  let v3946 : BitVec 32 := Scalar.addi v3945 c512_i32_4758
  let v3947 : BitVec 32 := Scalar.addi v3946 c0_i32_4759
  let c0_i32_4763 : BitVec 32 := 0#32
  ![v3947.toNat, 0]
def k0_dev102 (d0 : Dev nD) : Nat :=
  let c0_i32_4778 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4777 : BitVec 32 := 1#32
  let v3955 : BitVec 32 := Scalar.muli v33 c1_i32_4777
  let v3956 : BitVec 32 := Scalar.addi c0_i32_4778 v3955
  v3956.toNat
def k0_dev103 (d0 : Dev nD) : Nat :=
  let c0_i32_4799 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4798 : BitVec 32 := 1#32
  let v3973 : BitVec 32 := Scalar.muli v33 c1_i32_4798
  let v3974 : BitVec 32 := Scalar.addi c0_i32_4799 v3973
  v3974.toNat
def k0_dev104 (d0 : Dev nD) : Nat :=
  let c0_i32_4869 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4868 : BitVec 32 := 1#32
  let v4029 : BitVec 32 := Scalar.muli v19 c1_i32_4868
  let v4030 : BitVec 32 := Scalar.addi c0_i32_4869 v4029
  v4030.toNat
def k0_dev105 (d0 : Dev nD) : Nat :=
  let c0_i32_4890 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4889 : BitVec 32 := 1#32
  let v4047 : BitVec 32 := Scalar.muli v19 c1_i32_4889
  let v4048 : BitVec 32 := Scalar.addi c0_i32_4890 v4047
  v4048.toNat
def k0_dev106 (d0 : Dev nD) : Nat :=
  let c0_i32_4962 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4961 : BitVec 32 := 1#32
  let v4105 : BitVec 32 := Scalar.muli v33 c1_i32_4961
  let v4106 : BitVec 32 := Scalar.addi c0_i32_4962 v4105
  v4106.toNat
def k0_dev107 (d0 : Dev nD) : Nat :=
  let c0_i32_4983 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4982 : BitVec 32 := 1#32
  let v4123 : BitVec 32 := Scalar.muli v33 c1_i32_4982
  let v4124 : BitVec 32 := Scalar.addi c0_i32_4983 v4123
  v4124.toNat
def k0_dev108 (d0 : Dev nD) : Nat :=
  let c0_i32_5053 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5052 : BitVec 32 := 1#32
  let v4179 : BitVec 32 := Scalar.muli v19 c1_i32_5052
  let v4180 : BitVec 32 := Scalar.addi c0_i32_5053 v4179
  v4180.toNat
def k0_dev109 (d0 : Dev nD) : Nat :=
  let c0_i32_5074 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5073 : BitVec 32 := 1#32
  let v4197 : BitVec 32 := Scalar.muli v19 c1_i32_5073
  let v4198 : BitVec 32 := Scalar.addi c0_i32_5074 v4197
  v4198.toNat
def k0_dev110 (d0 : Dev nD) : Nat :=
  let c0_i32_5146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5145 : BitVec 32 := 1#32
  let v4255 : BitVec 32 := Scalar.muli v33 c1_i32_5145
  let v4256 : BitVec 32 := Scalar.addi c0_i32_5146 v4255
  v4256.toNat
def k0_dev111 (d0 : Dev nD) : Nat :=
  let c0_i32_5167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5166 : BitVec 32 := 1#32
  let v4273 : BitVec 32 := Scalar.muli v33 c1_i32_5166
  let v4274 : BitVec 32 := Scalar.addi c0_i32_5167 v4273
  v4274.toNat
def k0_dev112 (d0 : Dev nD) : Nat :=
  let c0_i32_5237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5236 : BitVec 32 := 1#32
  let v4329 : BitVec 32 := Scalar.muli v19 c1_i32_5236
  let v4330 : BitVec 32 := Scalar.addi c0_i32_5237 v4329
  v4330.toNat
def k0_dev113 (d0 : Dev nD) : Nat :=
  let c0_i32_5258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5257 : BitVec 32 := 1#32
  let v4347 : BitVec 32 := Scalar.muli v19 c1_i32_5257
  let v4348 : BitVec 32 := Scalar.addi c0_i32_5258 v4347
  v4348.toNat
def k0_dev114 (d0 : Dev nD) : Nat :=
  let c0_i32_5330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5329 : BitVec 32 := 1#32
  let v4405 : BitVec 32 := Scalar.muli v33 c1_i32_5329
  let v4406 : BitVec 32 := Scalar.addi c0_i32_5330 v4405
  v4406.toNat
def k0_dev115 (d0 : Dev nD) : Nat :=
  let c0_i32_5357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5356 : BitVec 32 := 1#32
  let v4428 : BitVec 32 := Scalar.muli v33 c1_i32_5356
  let v4429 : BitVec 32 := Scalar.addi c0_i32_5357 v4428
  v4429.toNat
def k0_dev116 (d0 : Dev nD) : Nat :=
  let c0_i32_5399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5398 : BitVec 32 := 1#32
  let v4458 : BitVec 32 := Scalar.muli v19 c1_i32_5398
  let v4459 : BitVec 32 := Scalar.addi c0_i32_5399 v4458
  v4459.toNat
def k0_dev117 (d0 : Dev nD) : Nat :=
  let c0_i32_5426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5425 : BitVec 32 := 1#32
  let v4481 : BitVec 32 := Scalar.muli v19 c1_i32_5425
  let v4482 : BitVec 32 := Scalar.addi c0_i32_5426 v4481
  v4482.toNat
def k0_dev118 (d0 : Dev nD) : Nat :=
  let c0_i32_5469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5468 : BitVec 32 := 1#32
  let v4512 : BitVec 32 := Scalar.muli v33 c1_i32_5468
  let v4513 : BitVec 32 := Scalar.addi c0_i32_5469 v4512
  v4513.toNat
def k0_dev119 (d0 : Dev nD) : Nat :=
  let c0_i32_5496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5495 : BitVec 32 := 1#32
  let v4535 : BitVec 32 := Scalar.muli v33 c1_i32_5495
  let v4536 : BitVec 32 := Scalar.addi c0_i32_5496 v4535
  v4536.toNat
def k0_dev120 (d0 : Dev nD) : Nat :=
  let c0_i32_5538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5537 : BitVec 32 := 1#32
  let v4565 : BitVec 32 := Scalar.muli v19 c1_i32_5537
  let v4566 : BitVec 32 := Scalar.addi c0_i32_5538 v4565
  v4566.toNat
def k0_dev121 (d0 : Dev nD) : Nat :=
  let c0_i32_5565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5564 : BitVec 32 := 1#32
  let v4588 : BitVec 32 := Scalar.muli v19 c1_i32_5564
  let v4589 : BitVec 32 := Scalar.addi c0_i32_5565 v4588
  v4589.toNat
def k0_dev122 (d0 : Dev nD) : Nat :=
  let c0_i32_5608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5607 : BitVec 32 := 1#32
  let v4619 : BitVec 32 := Scalar.muli v33 c1_i32_5607
  let v4620 : BitVec 32 := Scalar.addi c0_i32_5608 v4619
  v4620.toNat
def k0_dev123 (d0 : Dev nD) : Nat :=
  let c0_i32_5635 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5634 : BitVec 32 := 1#32
  let v4642 : BitVec 32 := Scalar.muli v33 c1_i32_5634
  let v4643 : BitVec 32 := Scalar.addi c0_i32_5635 v4642
  v4643.toNat
def k0_dev124 (d0 : Dev nD) : Nat :=
  let c0_i32_5677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5676 : BitVec 32 := 1#32
  let v4672 : BitVec 32 := Scalar.muli v19 c1_i32_5676
  let v4673 : BitVec 32 := Scalar.addi c0_i32_5677 v4672
  v4673.toNat
def k0_dev125 (d0 : Dev nD) : Nat :=
  let c0_i32_5704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5703 : BitVec 32 := 1#32
  let v4695 : BitVec 32 := Scalar.muli v19 c1_i32_5703
  let v4696 : BitVec 32 := Scalar.addi c0_i32_5704 v4695
  v4696.toNat
def k0_dev126 (d0 : Dev nD) : Nat :=
  let c0_i32_5747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5746 : BitVec 32 := 1#32
  let v4726 : BitVec 32 := Scalar.muli v33 c1_i32_5746
  let v4727 : BitVec 32 := Scalar.addi c0_i32_5747 v4726
  v4727.toNat
def k0_dev127 (d0 : Dev nD) : Nat :=
  let c0_i32_5774 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5773 : BitVec 32 := 1#32
  let v4749 : BitVec 32 := Scalar.muli v33 c1_i32_5773
  let v4750 : BitVec 32 := Scalar.addi c0_i32_5774 v4749
  v4750.toNat
def k0_dev128 (d0 : Dev nD) : Nat :=
  let c0_i32_5816 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5815 : BitVec 32 := 1#32
  let v4779 : BitVec 32 := Scalar.muli v19 c1_i32_5815
  let v4780 : BitVec 32 := Scalar.addi c0_i32_5816 v4779
  v4780.toNat
def k0_dev129 (d0 : Dev nD) : Nat :=
  let c0_i32_5843 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5842 : BitVec 32 := 1#32
  let v4802 : BitVec 32 := Scalar.muli v19 c1_i32_5842
  let v4803 : BitVec 32 := Scalar.addi c0_i32_5843 v4802
  v4803.toNat
def k0_dev130 (d0 : Dev nD) : Nat :=
  let c0_i32_5886 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5885 : BitVec 32 := 1#32
  let v4833 : BitVec 32 := Scalar.muli v33 c1_i32_5885
  let v4834 : BitVec 32 := Scalar.addi c0_i32_5886 v4833
  v4834.toNat
def k0_dev131 (d0 : Dev nD) : Nat :=
  let c0_i32_5913 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5912 : BitVec 32 := 1#32
  let v4856 : BitVec 32 := Scalar.muli v33 c1_i32_5912
  let v4857 : BitVec 32 := Scalar.addi c0_i32_5913 v4856
  v4857.toNat
def k0_dev132 (d0 : Dev nD) : Nat :=
  let c0_i32_5955 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5954 : BitVec 32 := 1#32
  let v4886 : BitVec 32 := Scalar.muli v19 c1_i32_5954
  let v4887 : BitVec 32 := Scalar.addi c0_i32_5955 v4886
  v4887.toNat
def k0_dev133 (d0 : Dev nD) : Nat :=
  let c0_i32_5982 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5981 : BitVec 32 := 1#32
  let v4909 : BitVec 32 := Scalar.muli v19 c1_i32_5981
  let v4910 : BitVec 32 := Scalar.addi c0_i32_5982 v4909
  v4910.toNat
def k0_dev134 (d0 : Dev nD) : Nat :=
  let c0_i32_6025 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6024 : BitVec 32 := 1#32
  let v4940 : BitVec 32 := Scalar.muli v33 c1_i32_6024
  let v4941 : BitVec 32 := Scalar.addi c0_i32_6025 v4940
  v4941.toNat
def k0_dev135 (d0 : Dev nD) : Nat :=
  let c0_i32_6052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6051 : BitVec 32 := 1#32
  let v4963 : BitVec 32 := Scalar.muli v33 c1_i32_6051
  let v4964 : BitVec 32 := Scalar.addi c0_i32_6052 v4963
  v4964.toNat
def k0_dev136 (d0 : Dev nD) : Nat :=
  let c0_i32_6094 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6093 : BitVec 32 := 1#32
  let v4993 : BitVec 32 := Scalar.muli v19 c1_i32_6093
  let v4994 : BitVec 32 := Scalar.addi c0_i32_6094 v4993
  v4994.toNat
def k0_dev137 (d0 : Dev nD) : Nat :=
  let c0_i32_6121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6120 : BitVec 32 := 1#32
  let v5016 : BitVec 32 := Scalar.muli v19 c1_i32_6120
  let v5017 : BitVec 32 := Scalar.addi c0_i32_6121 v5016
  v5017.toNat
def k0_dev138 (d0 : Dev nD) : Nat :=
  let c0_i32_6164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6163 : BitVec 32 := 1#32
  let v5047 : BitVec 32 := Scalar.muli v33 c1_i32_6163
  let v5048 : BitVec 32 := Scalar.addi c0_i32_6164 v5047
  v5048.toNat
def k0_dev139 (d0 : Dev nD) : Nat :=
  let c0_i32_6191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6190 : BitVec 32 := 1#32
  let v5070 : BitVec 32 := Scalar.muli v33 c1_i32_6190
  let v5071 : BitVec 32 := Scalar.addi c0_i32_6191 v5070
  v5071.toNat
def k0_dev140 (d0 : Dev nD) : Nat :=
  let c0_i32_6233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6232 : BitVec 32 := 1#32
  let v5100 : BitVec 32 := Scalar.muli v19 c1_i32_6232
  let v5101 : BitVec 32 := Scalar.addi c0_i32_6233 v5100
  v5101.toNat
def k0_dev141 (d0 : Dev nD) : Nat :=
  let c0_i32_6260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6259 : BitVec 32 := 1#32
  let v5123 : BitVec 32 := Scalar.muli v19 c1_i32_6259
  let v5124 : BitVec 32 := Scalar.addi c0_i32_6260 v5123
  v5124.toNat
def k0_dev142 (d0 : Dev nD) : Nat :=
  let c0_i32_6303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6302 : BitVec 32 := 1#32
  let v5154 : BitVec 32 := Scalar.muli v33 c1_i32_6302
  let v5155 : BitVec 32 := Scalar.addi c0_i32_6303 v5154
  v5155.toNat
def k0_dev143 (d0 : Dev nD) : Nat :=
  let c0_i32_6330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6329 : BitVec 32 := 1#32
  let v5177 : BitVec 32 := Scalar.muli v33 c1_i32_6329
  let v5178 : BitVec 32 := Scalar.addi c0_i32_6330 v5177
  v5178.toNat
def k0_dev144 (d0 : Dev nD) : Nat :=
  let c0_i32_6372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6371 : BitVec 32 := 1#32
  let v5207 : BitVec 32 := Scalar.muli v19 c1_i32_6371
  let v5208 : BitVec 32 := Scalar.addi c0_i32_6372 v5207
  v5208.toNat
def k0_dev145 (d0 : Dev nD) : Nat :=
  let c0_i32_6399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6398 : BitVec 32 := 1#32
  let v5230 : BitVec 32 := Scalar.muli v19 c1_i32_6398
  let v5231 : BitVec 32 := Scalar.addi c0_i32_6399 v5230
  v5231.toNat
def k0_dev146 (d0 : Dev nD) : Nat :=
  let c0_i32_6442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6441 : BitVec 32 := 1#32
  let v5261 : BitVec 32 := Scalar.muli v33 c1_i32_6441
  let v5262 : BitVec 32 := Scalar.addi c0_i32_6442 v5261
  v5262.toNat
def k0_dev147 (d0 : Dev nD) : Nat :=
  let c0_i32_6469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6468 : BitVec 32 := 1#32
  let v5284 : BitVec 32 := Scalar.muli v33 c1_i32_6468
  let v5285 : BitVec 32 := Scalar.addi c0_i32_6469 v5284
  v5285.toNat
def k0_dev148 (d0 : Dev nD) : Nat :=
  let c0_i32_6511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6510 : BitVec 32 := 1#32
  let v5314 : BitVec 32 := Scalar.muli v19 c1_i32_6510
  let v5315 : BitVec 32 := Scalar.addi c0_i32_6511 v5314
  v5315.toNat
def k0_dev149 (d0 : Dev nD) : Nat :=
  let c0_i32_6538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6537 : BitVec 32 := 1#32
  let v5337 : BitVec 32 := Scalar.muli v19 c1_i32_6537
  let v5338 : BitVec 32 := Scalar.addi c0_i32_6538 v5337
  v5338.toNat
def k0_dev150 (d0 : Dev nD) : Nat :=
  let c0_i32_6581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6580 : BitVec 32 := 1#32
  let v5368 : BitVec 32 := Scalar.muli v33 c1_i32_6580
  let v5369 : BitVec 32 := Scalar.addi c0_i32_6581 v5368
  v5369.toNat
def k0_dev151 (d0 : Dev nD) : Nat :=
  let c0_i32_6608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6607 : BitVec 32 := 1#32
  let v5391 : BitVec 32 := Scalar.muli v33 c1_i32_6607
  let v5392 : BitVec 32 := Scalar.addi c0_i32_6608 v5391
  v5392.toNat
def k0_dev152 (d0 : Dev nD) : Nat :=
  let c0_i32_6650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6649 : BitVec 32 := 1#32
  let v5421 : BitVec 32 := Scalar.muli v19 c1_i32_6649
  let v5422 : BitVec 32 := Scalar.addi c0_i32_6650 v5421
  v5422.toNat
def k0_dev153 (d0 : Dev nD) : Nat :=
  let c0_i32_6677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6676 : BitVec 32 := 1#32
  let v5444 : BitVec 32 := Scalar.muli v19 c1_i32_6676
  let v5445 : BitVec 32 := Scalar.addi c0_i32_6677 v5444
  v5445.toNat
def k0_dev154 (d0 : Dev nD) : Nat :=
  let c0_i32_6720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6719 : BitVec 32 := 1#32
  let v5475 : BitVec 32 := Scalar.muli v33 c1_i32_6719
  let v5476 : BitVec 32 := Scalar.addi c0_i32_6720 v5475
  v5476.toNat
def k0_dev155 (d0 : Dev nD) : Nat :=
  let c0_i32_6747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6746 : BitVec 32 := 1#32
  let v5498 : BitVec 32 := Scalar.muli v33 c1_i32_6746
  let v5499 : BitVec 32 := Scalar.addi c0_i32_6747 v5498
  v5499.toNat
def k0_dev156 (d0 : Dev nD) : Nat :=
  let c0_i32_6789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6788 : BitVec 32 := 1#32
  let v5528 : BitVec 32 := Scalar.muli v19 c1_i32_6788
  let v5529 : BitVec 32 := Scalar.addi c0_i32_6789 v5528
  v5529.toNat
def k0_dev157 (d0 : Dev nD) : Nat :=
  let c0_i32_6816 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6815 : BitVec 32 := 1#32
  let v5551 : BitVec 32 := Scalar.muli v19 c1_i32_6815
  let v5552 : BitVec 32 := Scalar.addi c0_i32_6816 v5551
  v5552.toNat
def k0_dev158 (d0 : Dev nD) : Nat :=
  let c0_i32_6859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6858 : BitVec 32 := 1#32
  let v5582 : BitVec 32 := Scalar.muli v33 c1_i32_6858
  let v5583 : BitVec 32 := Scalar.addi c0_i32_6859 v5582
  v5583.toNat
def k0_dev159 (d0 : Dev nD) : Nat :=
  let c0_i32_6886 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6885 : BitVec 32 := 1#32
  let v5605 : BitVec 32 := Scalar.muli v33 c1_i32_6885
  let v5606 : BitVec 32 := Scalar.addi c0_i32_6886 v5605
  v5606.toNat
def k0_dev160 (d0 : Dev nD) : Nat :=
  let c0_i32_6928 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6927 : BitVec 32 := 1#32
  let v5635 : BitVec 32 := Scalar.muli v19 c1_i32_6927
  let v5636 : BitVec 32 := Scalar.addi c0_i32_6928 v5635
  v5636.toNat
def k0_dev161 (d0 : Dev nD) : Nat :=
  let c0_i32_6955 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_6954 : BitVec 32 := 1#32
  let v5658 : BitVec 32 := Scalar.muli v19 c1_i32_6954
  let v5659 : BitVec 32 := Scalar.addi c0_i32_6955 v5658
  v5659.toNat
def k0_dev162 (d0 : Dev nD) : Nat :=
  let c0_i32_6998 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_6997 : BitVec 32 := 1#32
  let v5689 : BitVec 32 := Scalar.muli v33 c1_i32_6997
  let v5690 : BitVec 32 := Scalar.addi c0_i32_6998 v5689
  v5690.toNat
def k0_dev163 (d0 : Dev nD) : Nat :=
  let c0_i32_7025 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_7024 : BitVec 32 := 1#32
  let v5712 : BitVec 32 := Scalar.muli v33 c1_i32_7024
  let v5713 : BitVec 32 := Scalar.addi c0_i32_7025 v5712
  v5713.toNat
def k0_dev164 (d0 : Dev nD) : Nat :=
  let c0_i32_7067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_7066 : BitVec 32 := 1#32
  let v5742 : BitVec 32 := Scalar.muli v19 c1_i32_7066
  let v5743 : BitVec 32 := Scalar.addi c0_i32_7067 v5742
  v5743.toNat
def k0_dev165 (d0 : Dev nD) : Nat :=
  let c0_i32_7094 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_7093 : BitVec 32 := 1#32
  let v5765 : BitVec 32 := Scalar.muli v19 c1_i32_7093
  let v5766 : BitVec 32 := Scalar.addi c0_i32_7094 v5765
  v5766.toNat
def k0_dev166 (d0 : Dev nD) : Nat :=
  let c0_i32_7137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_7136 : BitVec 32 := 1#32
  let v5796 : BitVec 32 := Scalar.muli v33 c1_i32_7136
  let v5797 : BitVec 32 := Scalar.addi c0_i32_7137 v5796
  v5797.toNat
def k0_dev167 (d0 : Dev nD) : Nat :=
  let c0_i32_7164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_7163 : BitVec 32 := 1#32
  let v5819 : BitVec 32 := Scalar.muli v33 c1_i32_7163
  let v5820 : BitVec 32 := Scalar.addi c0_i32_7164 v5819
  v5820.toNat
def k0_dev168 (d0 : Dev nD) : Nat :=
  let c0_i32_7206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_7205 : BitVec 32 := 1#32
  let v5849 : BitVec 32 := Scalar.muli v19 c1_i32_7205
  let v5850 : BitVec 32 := Scalar.addi c0_i32_7206 v5849
  v5850.toNat
def k0_dev169 (d0 : Dev nD) : Nat :=
  let c0_i32_7233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_7232 : BitVec 32 := 1#32
  let v5872 : BitVec 32 := Scalar.muli v19 c1_i32_7232
  let v5873 : BitVec 32 := Scalar.addi c0_i32_7233 v5872
  v5873.toNat
def k0_dev170 (d0 : Dev nD) : Nat :=
  let c0_i32_7276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_7275 : BitVec 32 := 1#32
  let v5903 : BitVec 32 := Scalar.muli v33 c1_i32_7275
  let v5904 : BitVec 32 := Scalar.addi c0_i32_7276 v5903
  v5904.toNat
def k0_dev171 (d0 : Dev nD) : Nat :=
  let c0_i32_7303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_7302 : BitVec 32 := 1#32
  let v5926 : BitVec 32 := Scalar.muli v33 c1_i32_7302
  let v5927 : BitVec 32 := Scalar.addi c0_i32_7303 v5926
  v5927.toNat
def k0_dev172 (d0 : Dev nD) : Nat :=
  let c0_i32_7345 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_7344 : BitVec 32 := 1#32
  let v5956 : BitVec 32 := Scalar.muli v19 c1_i32_7344
  let v5957 : BitVec 32 := Scalar.addi c0_i32_7345 v5956
  v5957.toNat
def k0_dev173 (d0 : Dev nD) : Nat :=
  let c0_i32_7372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_7371 : BitVec 32 := 1#32
  let v5979 : BitVec 32 := Scalar.muli v19 c1_i32_7371
  let v5980 : BitVec 32 := Scalar.addi c0_i32_7372 v5979
  v5980.toNat
def k0_dev174 (d0 : Dev nD) : Nat :=
  let c0_i32_7415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_7414 : BitVec 32 := 1#32
  let v6010 : BitVec 32 := Scalar.muli v33 c1_i32_7414
  let v6011 : BitVec 32 := Scalar.addi c0_i32_7415 v6010
  v6011.toNat
def k0_dev175 (d0 : Dev nD) : Nat :=
  let c0_i32_7442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_7441 : BitVec 32 := 1#32
  let v6033 : BitVec 32 := Scalar.muli v33 c1_i32_7441
  let v6034 : BitVec 32 := Scalar.addi c0_i32_7442 v6033
  v6034.toNat
def k0_dev176 (d0 : Dev nD) : Nat :=
  let c0_i32_7484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_7483 : BitVec 32 := 1#32
  let v6063 : BitVec 32 := Scalar.muli v19 c1_i32_7483
  let v6064 : BitVec 32 := Scalar.addi c0_i32_7484 v6063
  v6064.toNat
def k0_dev177 (d0 : Dev nD) : Nat :=
  let c0_i32_7511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_7510 : BitVec 32 := 1#32
  let v6086 : BitVec 32 := Scalar.muli v19 c1_i32_7510
  let v6087 : BitVec 32 := Scalar.addi c0_i32_7511 v6086
  v6087.toNat
def k0_dev178 (d0 : Dev nD) : Nat :=
  let c0_i32_7554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_7553 : BitVec 32 := 1#32
  let v6117 : BitVec 32 := Scalar.muli v33 c1_i32_7553
  let v6118 : BitVec 32 := Scalar.addi c0_i32_7554 v6117
  v6118.toNat
def k0_dev179 (d0 : Dev nD) : Nat :=
  let c0_i32_7581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_7580 : BitVec 32 := 1#32
  let v6140 : BitVec 32 := Scalar.muli v33 c1_i32_7580
  let v6141 : BitVec 32 := Scalar.addi c0_i32_7581 v6140
  v6141.toNat
def k0_dev180 (d0 : Dev nD) : Nat :=
  let c0_i32_7623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_7622 : BitVec 32 := 1#32
  let v6170 : BitVec 32 := Scalar.muli v19 c1_i32_7622
  let v6171 : BitVec 32 := Scalar.addi c0_i32_7623 v6170
  v6171.toNat
def k0_dev181 (d0 : Dev nD) : Nat :=
  let c0_i32_7650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_7649 : BitVec 32 := 1#32
  let v6193 : BitVec 32 := Scalar.muli v19 c1_i32_7649
  let v6194 : BitVec 32 := Scalar.addi c0_i32_7650 v6193
  v6194.toNat
def k0_dev182 (d0 : Dev nD) : Nat :=
  let c0_i32_7693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_7692 : BitVec 32 := 1#32
  let v6224 : BitVec 32 := Scalar.muli v33 c1_i32_7692
  let v6225 : BitVec 32 := Scalar.addi c0_i32_7693 v6224
  v6225.toNat
def k0_dev183 (d0 : Dev nD) : Nat :=
  let c0_i32_7720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_7719 : BitVec 32 := 1#32
  let v6247 : BitVec 32 := Scalar.muli v33 c1_i32_7719
  let v6248 : BitVec 32 := Scalar.addi c0_i32_7720 v6247
  v6248.toNat
def k0_dev184 (d0 : Dev nD) : Nat :=
  let c0_i32_7762 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_7761 : BitVec 32 := 1#32
  let v6277 : BitVec 32 := Scalar.muli v19 c1_i32_7761
  let v6278 : BitVec 32 := Scalar.addi c0_i32_7762 v6277
  v6278.toNat
def k0_dev185 (d0 : Dev nD) : Nat :=
  let c0_i32_7789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_7788 : BitVec 32 := 1#32
  let v6300 : BitVec 32 := Scalar.muli v19 c1_i32_7788
  let v6301 : BitVec 32 := Scalar.addi c0_i32_7789 v6300
  v6301.toNat
def k0_dev186 (d0 : Dev nD) : Nat :=
  let c0_i32_7832 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_7831 : BitVec 32 := 1#32
  let v6331 : BitVec 32 := Scalar.muli v33 c1_i32_7831
  let v6332 : BitVec 32 := Scalar.addi c0_i32_7832 v6331
  v6332.toNat
def k0_dev187 (d0 : Dev nD) : Nat :=
  let c0_i32_7859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_7858 : BitVec 32 := 1#32
  let v6354 : BitVec 32 := Scalar.muli v33 c1_i32_7858
  let v6355 : BitVec 32 := Scalar.addi c0_i32_7859 v6354
  v6355.toNat
def k0_dev188 (d0 : Dev nD) : Nat :=
  let c0_i32_7901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_7900 : BitVec 32 := 1#32
  let v6384 : BitVec 32 := Scalar.muli v19 c1_i32_7900
  let v6385 : BitVec 32 := Scalar.addi c0_i32_7901 v6384
  v6385.toNat
def k0_dev189 (d0 : Dev nD) : Nat :=
  let c0_i32_7928 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_7927 : BitVec 32 := 1#32
  let v6407 : BitVec 32 := Scalar.muli v19 c1_i32_7927
  let v6408 : BitVec 32 := Scalar.addi c0_i32_7928 v6407
  v6408.toNat
def k0_dev190 (d0 : Dev nD) : Nat :=
  let c0_i32_7971 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_7970 : BitVec 32 := 1#32
  let v6438 : BitVec 32 := Scalar.muli v33 c1_i32_7970
  let v6439 : BitVec 32 := Scalar.addi c0_i32_7971 v6438
  v6439.toNat
def k0_dev191 (d0 : Dev nD) : Nat :=
  let c0_i32_7998 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_7997 : BitVec 32 := 1#32
  let v6461 : BitVec 32 := Scalar.muli v33 c1_i32_7997
  let v6462 : BitVec 32 := Scalar.addi c0_i32_7998 v6461
  v6462.toNat
def k0_dev192 (d0 : Dev nD) : Nat :=
  let c0_i32_8040 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_8039 : BitVec 32 := 1#32
  let v6491 : BitVec 32 := Scalar.muli v19 c1_i32_8039
  let v6492 : BitVec 32 := Scalar.addi c0_i32_8040 v6491
  v6492.toNat
def k0_dev193 (d0 : Dev nD) : Nat :=
  let c0_i32_8067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_8066 : BitVec 32 := 1#32
  let v6514 : BitVec 32 := Scalar.muli v19 c1_i32_8066
  let v6515 : BitVec 32 := Scalar.addi c0_i32_8067 v6514
  v6515.toNat
def k0_dev194 (d0 : Dev nD) : Nat :=
  let c0_i32_8110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_8109 : BitVec 32 := 1#32
  let v6545 : BitVec 32 := Scalar.muli v33 c1_i32_8109
  let v6546 : BitVec 32 := Scalar.addi c0_i32_8110 v6545
  v6546.toNat
def k0_dev195 (d0 : Dev nD) : Nat :=
  let c0_i32_8137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_8136 : BitVec 32 := 1#32
  let v6568 : BitVec 32 := Scalar.muli v33 c1_i32_8136
  let v6569 : BitVec 32 := Scalar.addi c0_i32_8137 v6568
  v6569.toNat
def k0_dev196 (d0 : Dev nD) : Nat :=
  let c0_i32_8179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_8178 : BitVec 32 := 1#32
  let v6598 : BitVec 32 := Scalar.muli v19 c1_i32_8178
  let v6599 : BitVec 32 := Scalar.addi c0_i32_8179 v6598
  v6599.toNat
def k0_dev197 (d0 : Dev nD) : Nat :=
  let c0_i32_8206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_8205 : BitVec 32 := 1#32
  let v6621 : BitVec 32 := Scalar.muli v19 c1_i32_8205
  let v6622 : BitVec 32 := Scalar.addi c0_i32_8206 v6621
  v6622.toNat
def k0_dev198 (d0 : Dev nD) : Nat :=
  let c0_i32_8249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_8248 : BitVec 32 := 1#32
  let v6652 : BitVec 32 := Scalar.muli v33 c1_i32_8248
  let v6653 : BitVec 32 := Scalar.addi c0_i32_8249 v6652
  v6653.toNat
def k0_dev199 (d0 : Dev nD) : Nat :=
  let c0_i32_8276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_8275 : BitVec 32 := 1#32
  let v6675 : BitVec 32 := Scalar.muli v33 c1_i32_8275
  let v6676 : BitVec 32 := Scalar.addi c0_i32_8276 v6675
  v6676.toNat
def k0_dev200 (d0 : Dev nD) : Nat :=
  let c0_i32_8318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_8317 : BitVec 32 := 1#32
  let v6705 : BitVec 32 := Scalar.muli v19 c1_i32_8317
  let v6706 : BitVec 32 := Scalar.addi c0_i32_8318 v6705
  v6706.toNat
def k0_dev201 (d0 : Dev nD) : Nat :=
  let c0_i32_8345 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_8344 : BitVec 32 := 1#32
  let v6728 : BitVec 32 := Scalar.muli v19 c1_i32_8344
  let v6729 : BitVec 32 := Scalar.addi c0_i32_8345 v6728
  v6729.toNat
def k0_dev202 (d0 : Dev nD) : Nat :=
  let c0_i32_8388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_8387 : BitVec 32 := 1#32
  let v6759 : BitVec 32 := Scalar.muli v33 c1_i32_8387
  let v6760 : BitVec 32 := Scalar.addi c0_i32_8388 v6759
  v6760.toNat
def k0_dev203 (d0 : Dev nD) : Nat :=
  let c0_i32_8415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_8414 : BitVec 32 := 1#32
  let v6782 : BitVec 32 := Scalar.muli v33 c1_i32_8414
  let v6783 : BitVec 32 := Scalar.addi c0_i32_8415 v6782
  v6783.toNat
def k0_dev204 (d0 : Dev nD) : Nat :=
  let c0_i32_8457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_8456 : BitVec 32 := 1#32
  let v6812 : BitVec 32 := Scalar.muli v19 c1_i32_8456
  let v6813 : BitVec 32 := Scalar.addi c0_i32_8457 v6812
  v6813.toNat
def k0_dev205 (d0 : Dev nD) : Nat :=
  let c0_i32_8484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_8483 : BitVec 32 := 1#32
  let v6835 : BitVec 32 := Scalar.muli v19 c1_i32_8483
  let v6836 : BitVec 32 := Scalar.addi c0_i32_8484 v6835
  v6836.toNat
def k0_dev206 (d0 : Dev nD) : Nat :=
  let c0_i32_8527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_8526 : BitVec 32 := 1#32
  let v6866 : BitVec 32 := Scalar.muli v33 c1_i32_8526
  let v6867 : BitVec 32 := Scalar.addi c0_i32_8527 v6866
  v6867.toNat
def k0_dev207 (d0 : Dev nD) : Nat :=
  let c0_i32_8554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_8553 : BitVec 32 := 1#32
  let v6889 : BitVec 32 := Scalar.muli v33 c1_i32_8553
  let v6890 : BitVec 32 := Scalar.addi c0_i32_8554 v6889
  v6890.toNat
def k0_dev208 (d0 : Dev nD) : Nat :=
  let c0_i32_8596 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_8595 : BitVec 32 := 1#32
  let v6919 : BitVec 32 := Scalar.muli v19 c1_i32_8595
  let v6920 : BitVec 32 := Scalar.addi c0_i32_8596 v6919
  v6920.toNat
def k0_dev209 (d0 : Dev nD) : Nat :=
  let c0_i32_8623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_8622 : BitVec 32 := 1#32
  let v6942 : BitVec 32 := Scalar.muli v19 c1_i32_8622
  let v6943 : BitVec 32 := Scalar.addi c0_i32_8623 v6942
  v6943.toNat
def k0_dev210 (d0 : Dev nD) : Nat :=
  let c0_i32_8666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_8665 : BitVec 32 := 1#32
  let v6973 : BitVec 32 := Scalar.muli v33 c1_i32_8665
  let v6974 : BitVec 32 := Scalar.addi c0_i32_8666 v6973
  v6974.toNat
-- ==== ReferenceIdeal.lean ====
abbrev S65536x1024 : Shape := ⟨2, ![65536, 1024]⟩
abbrev S8x8192x1024 : Shape := ⟨3, ![8, 8192, 1024]⟩
abbrev S_ : Shape := ⟨0, ![]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x8192x1024, .f32⟩
  | .hbm, ⟨2, _⟩ => ⟨S_, .f32⟩
  | .hbm, ⟨3, _⟩ => ⟨S8192x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
/-
# The kernel as a program

The body of the kernel as a short program: the handshake, eight streams `(d, q)` of a direction and a quarter, fourteen
hops of each, and the last copies. The views, semaphores and operations it is made of come first; at the end the printed
body is shown to be this program.
-/
module

public import proofs.«01_k».proof.Proof.Gen.KernelIdeal
public import proofs.«01_k».proof.Proof.Gen.KernelIdeal.Points
public import proofs.«01_k».proof.Proof.Gen.KernelIdeal.Launch

@[expose] public section

noncomputable section

namespace Cert.RingSum

open Cert.KernelIdeal Cert.KernelIdeal.Gen
open Idealize.ShloMosaic
open Idealize.SL Idealize.SL.Sem

variable {F : FTy → Type} [FloatOps F]

/-- The neighbour device `c` sends to: to the right on the streams `false`, to the left on the streams `true`. -/
def nbr (c : Dev nD) : Bool → Dev nD
  | false => ⟨k0_dev2 c, k0_dev2_lt c⟩
  | true => ⟨k0_dev1 c, k0_dev1_lt c⟩

/-- Where the part of the argument lies that stream `(d, q)` touches `k` chunks behind `c`'s own. -/
def xOff (c : Dev nD) (d : Bool) (k : ℕ) (q : Fin 4) : Fin 2 → ℕ :=
  match d, k with
  | false, 0 => k0_off1 c (BitVec.ofNat 32 (128 * q.val))
  | false, k + 1 => k0_off2 c (BitVec.ofNat 32 (k + 1)) (BitVec.ofNat 32 (128 * q.val))
  | true, 0 => k0_off3 c (BitVec.ofNat 32 (128 * q.val))
  | true, k + 1 => k0_off4 c (BitVec.ofNat 32 (4294967295 - k)) (BitVec.ofNat 32 (128 * q.val))

/-- Where part `j` of stream `(d, q)` lies in the result of device `c`, in the order in which the parts are finished. -/
def oOff (c : Dev nD) (d : Bool) (j : ℕ) (q : Fin 4) : Fin 2 → ℕ :=
  match d, j with
  | false, 0 => k0_off5 c (BitVec.ofNat 32 (128 * q.val))
  | false, k + 1 => k0_off2 c (BitVec.ofNat 32 k) (BitVec.ofNat 32 (128 * q.val))
  | true, 0 => k0_off6 c (BitVec.ofNat 32 (128 * q.val))
  | true, 1 => k0_off4 c (BitVec.ofNat 32 0) (BitVec.ofNat 32 (128 * q.val))
  | true, k + 2 => k0_off4 c (BitVec.ofNat 32 (4294967295 - k)) (BitVec.ofNat 32 (128 * q.val))

/-- The parts of the argument lie inside it, -/
theorem xOff_inb : ∀ (c : Dev nD) (d : Bool) (k : Fin 8) (q : Fin 4),
    ∀ a, xOff c d k.val q a + S128x1024.size a ≤ S8192x1024.size a := by decide +kernel
/-- those of the result inside the result, -/
theorem oOff_inb : ∀ (c : Dev nD) (d : Bool) (k : Fin 8) (q : Fin 4),
    ∀ a, oOff c d k.val q a + S128x1024.size a ≤ S8192x1024.size a := by decide +kernel
/-- the slots inside their buffer, -/
theorem comm_inb : ∀ (p : Fin 2) (q : Fin 4),
    ∀ a, (![p.val, q.val, 0, 0] : Fin 4 → ℕ) a + S1x1x128x1024.size a ≤ S2x4x128x1024.size a := by decide +kernel
/-- and the fetch places inside theirs. -/
theorem xbuf_inb : ∀ (s : Fin 8) (p : Fin 2),
    ∀ a, (![s.val, p.val, 0, 0] : Fin 4 → ℕ) a + S1x1x128x1024.size a ≤ S8x2x128x1024.size a := by decide +kernel

/-- The argument, whole; -/
abbrev xM : Memref sig .tc .hbm S8192x1024 .f32 := Memref.whole main_arg0
/-- the result; -/
abbrev oM : Memref sig .tc .hbm S8192x1024 .f32 := Memref.whole main_v1
/-- the slots of a direction; -/
def commM : Bool → Memref sig .tc .vmem S2x4x128x1024 .f32
  | false => Memref.whole cc0_scratch0
  | true => Memref.whole cc0_scratch1
/-- the fetch places. -/
abbrev xbufM : Memref sig .tc .vmem S8x2x128x1024 .f32 := Memref.whole cc0_scratch10

/-- Part `k` of stream `(d, q)` of the argument, as 128 rows; -/
def xSl (c : Dev nD) (d : Bool) (k : Fin 8) (q : Fin 4) : Memref sig .tc .hbm S128x1024 .f32 :=
  xM.slice (Rect.unit (s := S8192x1024) (xOff c d k.val q) S128x1024.size (xOff_inb c d k q)) (fun _ => rfl)
/-- part `j` of the result; -/
def oSl (c : Dev nD) (d : Bool) (j : Fin 8) (q : Fin 4) : Memref sig .tc .hbm S128x1024 .f32 :=
  oM.slice (Rect.unit (s := S8192x1024) (oOff c d j.val q) S128x1024.size (oOff_inb c d j q)) (fun _ => rfl)
/-- slot `p` of the stream; -/
def commSl (d : Bool) (p : Fin 2) (q : Fin 4) : Memref sig .tc .vmem S128x1024 .f32 :=
  ((commM d).slice (Rect.unit (s := S2x4x128x1024) ![p.val, q.val, 0, 0] S1x1x128x1024.size (comm_inb p q)) (fun _ => rfl)).squeeze
    S128x1024 squeezes_S1x1x128x1024_S128x1024
/-- fetch place `p` of stream `s`. -/
def xbufSl (s : Fin 8) (p : Fin 2) : Memref sig .tc .vmem S128x1024 .f32 :=
  (xbufM.slice (Rect.unit (s := S8x2x128x1024) ![s.val, p.val, 0, 0] S1x1x128x1024.size (xbuf_inb s p)) (fun _ => rfl)).squeeze
    S128x1024 squeezes_S1x1x128x1024_S128x1024

/-- The number of stream `(d, q)`, in program order. -/
def strm (d : Bool) (q : Fin 4) : Fin 8 := ⟨2 * q.val + d.toNat, by cases d <;> simp <;> omega⟩

/-- The slot of hop `h`. -/
def par (h : ℕ) : Fin 2 := ⟨h % 2, Nat.mod_lt _ (by decide)⟩
/-- A count modulo the eight chunks. -/
def mod8 (h : ℕ) : Fin 8 := ⟨h % 8, Nat.mod_lt _ (by decide)⟩

/-- The semaphores: a hop into slot `p` has left, -/
def sendS (d : Bool) (p : Fin 2) (q : Fin 4) : DmaSem sig := ⟨16 * d.toNat + 4 * p.val + q.val, by show _ < 56; cases d <;> simp <;> omega⟩
/-- it has arrived in slot `p`, -/
def recvS (d : Bool) (p : Fin 2) (q : Fin 4) : DmaSem sig := ⟨8 + 16 * d.toNat + 4 * p.val + q.val, by show _ < 56; cases d <;> simp <;> omega⟩
/-- a part has been copied to the result, -/
def copyS (d : Bool) (q : Fin 4) : DmaSem sig := ⟨32 + 4 * d.toNat + q.val, by show _ < 56; cases d <;> simp <;> omega⟩
/-- a part has been fetched to place `p`, -/
def xS (s : Fin 8) (p : Fin 2) : DmaSem sig := ⟨40 + 2 * s.val + p.val, by show _ < 56; omega⟩
/-- a slot is free again, -/
def credS (d : Bool) (q : Fin 4) : Sem sig := ⟨4 * d.toNat + q.val, by show _ < 9; cases d <;> simp <;> omega⟩
/-- and the handshake at the start. -/
def barS : Sem sig := ⟨8, by show _ < 9; omega⟩

/-- The sum of two slots, as the kernel forms it. -/
def addV (a b : Vec F S1x1x128x1024 .f32) : FVec F S1x1x128x1024 .f32 :=
  shapeCast S1x1x128x1024 (addf (shapeCast S128x1024 a shapeCasts_S1x1x128x1024_S128x1024 : FVec F S128x1024 .f32)
    (shapeCast S128x1024 b shapeCasts_S1x1x128x1024_S128x1024)) shapeCasts_S128x1024_S1x1x128x1024

/-- The operations of a kernel. -/
abbrev E (F : FTy → Type) [FloatOps F] : Type → Type _ := TpuEff nD τ sig (Elt F) Λ₀ .tc

/-- Fetch the own part that hop `h` adds. -/
def fetch (c : Dev nD) (d : Bool) (q : Fin 4) (h : ℕ) : Prog (E F) PUnit :=
  Prog.lift (.enqueueDma (xSl c d (mod8 (h + 1)) q) (.here (xbufSl (strm d q) (par h))) (.dma (xS (strm d q) (par h)))
    (View.wordExact_bits rfl) ((View.wordExact_bits rfl).reshape _ _) ⟨Or.inl rfl, trivial⟩)

/-- Start hop `h`: the first from the argument, the later ones from the slot of the hop before, from the third on after a credit. -/
def startHop (c : Dev nD) (d : Bool) (q : Fin 4) : ℕ → Prog (E F) PUnit
  | 0 => Prog.lift (.enqueueDma (xSl c d 0 q) (.remote (Dev.tc (nbr c d)) (commSl d 0 q) (.dma (sendS d 0 q))) (.dma (recvS d 0 q))
      (View.wordExact_bits rfl) ((View.wordExact_bits rfl).reshape _ _) ⟨⟨rfl, Or.inl rfl⟩, trivial⟩)
  | h + 1 => do
    if 1 ≤ h then semWaitWord (credS d q) 1#32
    Prog.lift (.enqueueDma (commSl d (par h) q) (.remote (Dev.tc (nbr c d)) (commSl d (par (h + 1)) q) (.dma (sendS d (par (h + 1)) q)))
      (.dma (recvS d (par (h + 1)) q))
      ((View.wordExact_bits rfl).reshape _ _) ((View.wordExact_bits rfl).reshape _ _) ⟨⟨rfl, Or.inl rfl⟩, trivial⟩)

/-- Wait until hop `h` has left, -/
def waitSend (c : Dev nD) (d : Bool) (q : Fin 4) : ℕ → Prog (E F) PUnit
  | 0 => Prog.lift (.waitDma2 (sendS d 0 q) (commSl d 0 q) (xSl c d 0 q) ((View.wordExact_bits rfl).reshape _ _) (View.wordExact_bits rfl))
  | h + 1 => Prog.lift (.waitDma2 (sendS d (par (h + 1)) q) (commSl d (par (h + 1)) q) (commSl d (par h) q)
      ((View.wordExact_bits rfl).reshape _ _) ((View.wordExact_bits rfl).reshape _ _))

/-- until hop `h` from the other neighbour has arrived, -/
def waitRecv (c : Dev nD) (d : Bool) (q : Fin 4) : ℕ → Prog (E F) PUnit
  | 0 => Prog.lift (.waitDma2 (recvS d 0 q) (xSl c d 0 q) (commSl d 0 q) (View.wordExact_bits rfl) ((View.wordExact_bits rfl).reshape _ _))
  | h + 1 => Prog.lift (.waitDma2 (recvS d (par (h + 1)) q) (commSl d (par h) q) (commSl d (par (h + 1)) q)
      ((View.wordExact_bits rfl).reshape _ _) ((View.wordExact_bits rfl).reshape _ _))

/-- until the part that hop `h` adds is fetched. -/
def waitFetch (c : Dev nD) (d : Bool) (q : Fin 4) (h : ℕ) : Prog (E F) PUnit :=
  Prog.lift (.waitDma2 (xS (strm d q) (par h)) (xSl c d (mod8 (h + 1)) q) (xbufSl (strm d q) (par h))
    (View.wordExact_bits rfl) ((View.wordExact_bits rfl).reshape _ _))

/-- Start to copy part `j` to the result, -/
def copyOut (c : Dev nD) (d : Bool) (q : Fin 4) (j : ℕ) : Prog (E F) PUnit :=
  Prog.lift (.enqueueDma (commSl d (par j) q) (.here (oSl c d (mod8 j) q)) (.dma (copyS d q))
    ((View.wordExact_bits rfl).reshape _ _) (View.wordExact_bits rfl) ⟨Or.inl rfl, trivial⟩)

/-- and wait for it. -/
def waitCopy (c : Dev nD) (d : Bool) (q : Fin 4) (j : ℕ) : Prog (E F) PUnit :=
  Prog.lift (.waitDma2 (copyS d q) (commSl d (par j) q) (oSl c d (mod8 j) q)
    ((View.wordExact_bits rfl).reshape _ _) (View.wordExact_bits rfl))

/-- Slot `p` of quarter `q` in the slots' buffer, -/
def commRect (p : Fin 2) (q : Fin 4) : Rect S2x4x128x1024 :=
  Rect.unit (s := S2x4x128x1024) ![p.val, q.val, 0, 0] S1x1x128x1024.size (comm_inb p q)
/-- and fetch place `p` of stream `s` in the fetch buffer. -/
def xbufRect (s : Fin 8) (p : Fin 2) : Rect S8x2x128x1024 :=
  Rect.unit (s := S8x2x128x1024) ![s.val, p.val, 0, 0] S1x1x128x1024.size (xbuf_inb s p)

/-- Add the fetched part to what hop `h` brought, in the slot. -/
def addIn (d : Bool) (q : Fin 4) (h : ℕ) : Prog (E F) PUnit := do
  let a : Vec F S1x1x128x1024 .f32 ← Prog.lift (.load (commM d) (commRect (par h) q).toLoadRect (View.loadsAt_vmem h_S1x1x128x1024))
  let b : Vec F S1x1x128x1024 .f32 ← Prog.lift (.load xbufM (xbufRect (strm d q) (par h)).toLoadRect (View.loadsAt_vmem h_S1x1x128x1024))
  let _ : Vec F S1x1x128x1024 .f32 ← Prog.lift (.load (commM d) (commRect (par h) q).toLoadRect (View.loadsAt_vmem h_S1x1x128x1024))
  Prog.lift (.store (commM d) (commRect (par h) q) (addV a b) Finset.univ (View.stores_vmem_bits_univ h_S1x1x128x1024 rfl) (.inl rfl))

/-- Hop `h` of stream `(d, q)`. -/
def hop (c : Dev nD) (d : Bool) (q : Fin 4) (h : ℕ) : Prog (E F) PUnit := do
  waitSend c d q h
  if 7 ≤ h then waitCopy c d q (h - 7)
  if 1 ≤ h ∧ h < 13 then semSignalWord (nbr c (!d)) (credS d q) 1#32
  if h < 6 then fetch c d q (h + 1)
  waitRecv c d q h
  if h < 7 then do
    waitFetch c d q h
    addIn d q h
  if 6 ≤ h then copyOut c d q (h - 6)
  if h < 13 then startHop c d q (h + 1)

/-- The direction of the `s`-th stream in program order, -/
def dirOf (s : ℕ) : Bool := s % 2 == 1
/-- and its quarter. -/
def qOf (s : ℕ) : Fin 4 := ⟨s / 2 % 4, Nat.mod_lt _ (by decide)⟩

/-- `n` steps of a counted family, from `i`. -/
def seqFrom (f : ℕ → Prog (E F) PUnit) : ℕ → ℕ → Prog (E F) PUnit
  | _, 0 => pure ⟨⟩
  | i, n + 1 => do f i; seqFrom f (i + 1) n

/-- The kernel: the handshake with both neighbours, the start of every stream, the 112 hops in turn, and the last copies. -/
def body : Prog (E F) PUnit := do
  let c ← Prog.lift .deviceId
  semSignalWord (nbr c true) barS 1#32
  semSignalWord (nbr c false) barS 1#32
  semWaitWord barS 2#32
  seqFrom (fun s => do startHop c (dirOf s) (qOf s) 0; fetch c (dirOf s) (qOf s) 0) 0 8
  seqFrom (fun t => hop c (dirOf (t % 8)) (qOf (t % 8)) (t / 8)) 0 112
  seqFrom (fun s => waitCopy c (dirOf s) (qOf s) 7) 0 8

/-- A program, rebuilt operation by operation; -/
def walkA {E : Type → Type _} {α : Type} : Prog E α → Prog E α
 | .ret a => .ret a
 | .op e k => .op e (fun x => walkA (k x))
/-- the same once more: two programs are compared by comparing what is rebuilt of them. -/
def walkB {E : Type → Type _} {α : Type} : Prog E α → Prog E α
 | .ret a => .ret a
 | .op e k => .op e (fun x => walkB (k x))
/-- Rebuilding changes nothing, -/
theorem walkA_eq {E : Type → Type _} {α : Type} (p : Prog E α) : walkA p = p := by
  induction p with
  | ret a => rfl
  | op e k ih => exact congrArg (Prog.op e) (funext ih)
/-- either time. -/
theorem walkB_eq {E : Type → Type _} {α : Type} (p : Prog E α) : walkB p = p := by
  induction p with
  | ret a => rfl
  | op e k ih => exact congrArg (Prog.op e) (funext ih)
set_option maxRecDepth 1000000
set_option maxHeartbeats 0
/-- The printed body and the short program are rebuilt alike, -/
theorem walk_eq (t : Fin cfg0.N) : walkA (bodyAt0 (F := F) t) = walkB body := rfl
/-- so they are one program. -/
theorem body_eq (t : Fin cfg0.N) : bodyAt0 (F := F) t = body :=
  (walkA_eq _).symm.trans ((walk_eq t).trans (walkB_eq _))
end Cert.RingSum
-- ==== Proof.Proto.lean ====
/-
# The protocol of the kernel

Eight streams run round the ring of the eight devices, four in either direction; stream `(d, q)` carries quarter `q`
of one half of every chunk. A stream makes fourteen hops. On hops 0 to 6 each device adds its own part to what
arrives and passes the sum on; on hops 6 to 13 each device copies the finished part to its result and passes it on.

Each stream lands its hops in two slots per device, in turn. A slot is handed back from its reader to the writer of
the next hop but one; the writer learns that it may write from a credit signal. The credits of one stream all go to one
semaphore and are waited for one at a time, so the `k`-th wait only shows that SOME credit from the `k`-th on has come:
the reader parks the slot in an invariant (`Idealize.ShloMosaic.Release`), a credit carries the lasting fact
that the slot has been released, and every later credit shows every earlier release.

This file has the values a stream carries, the cells of the protocol, what each of their rounds hands over, and the levels.
-/
module

public import proofs.«01_k».proof.Proof.Prog
public import Idealize.ShloMosaic.Lib.Pipeline.Launch
public import Idealize.ShloMosaic.Lib.Pipeline.Kit
public import Idealize.ShloMosaic.Lib.Tactic
public import Idealize.ShloMosaic.Lib.Release
public import Idealize.ShloMosaic.Lib.MemrefSat
public import Mathlib.Tactic.DeriveFintype

@[expose] public section

noncomputable section

namespace Cert.RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-- The key of a slot: its device, its stream, its place. -/
abbrev Key : Type := Dev nD × Bool × Fin 4 × Fin 2

/-- The ghost state: the launch's part, the rounds' and the slots'. -/
abbrev UU : Type := UR sig nD τ × (URounds (GSem nD τ sig) ℕ × USlots Key)

local notation "𝕄" => MT nD τ sig ℕ (Elt F) ℕ UU ℕ

/-- The launch's own part of the ghost state, -/
abbrev EP : Emb (UR sig nD τ) (MT nD τ sig ℕ (Elt F) ℕ UU ℕ) := embL
/-- the rounds' part, -/
def ER : Emb (URounds (GSem nD τ sig) ℕ) (MT nD τ sig ℕ (Elt F) ℕ UU ℕ) := (Emb.inl : Emb _ (URounds (GSem nD τ sig) ℕ × USlots Key)).trans embR
/-- and the slots'. -/
def ES : Emb (USlots Key) (MT nD τ sig ℕ (Elt F) ℕ UU ℕ) := (Emb.inr : Emb _ (URounds (GSem nD τ sig) ℕ × USlots Key)).trans embR

/-- The rounds' part may lie in an invariant, -/
instance ER_landsIn : (ER : Emb _ 𝕄).LandsIn (upEmb : UEmb _ 𝕄) := by unfold ER; infer_instance
/-- and so may the slots'. -/
instance ES_landsIn : (ES : Emb _ 𝕄).LandsIn (upEmb : UEmb _ 𝕄) := by unfold ES; infer_instance

variable (m : (ℓ : Loc nD τ sig) → Buf (Elt F) ℓ)

/-! ## The ring -/

/-- The device stream `d` of `c` receives from. -/
def ups (c : Dev nD) (d : Bool) : Dev nD := nbr c (!d)

/-- Each device is the sender of the one it sends to, -/
theorem ups_nbr : ∀ (c : Dev nD) (d : Bool), ups (nbr c d) d = c := by decide +kernel
/-- and the receiver of the one it receives from. -/
theorem nbr_ups : ∀ (c : Dev nD) (d : Bool), nbr (ups c d) d = c := by decide +kernel

/-- Every second hop uses the same slot. -/
theorem par_add_two (h : ℕ) : par (h + 2) = par h := Fin.ext (Nat.add_mod_right h 2)

/-! ## The values a stream carries -/

/-- What one hop carries. -/
abbrev V (F : FTy → Type) : Type := S128x1024.Idx → Elt F .f32

/-- Device `c`'s own part, `k` chunks behind it. -/
def xv (c : Dev nD) (d : Bool) (k : Fin 8) (q : Fin 4) : V F := (xSl c d k q).view.read (Elt F) (m ((c : Thread nD τ).loc main_arg0))

/-- The element-wise sum. -/
def addS (a b : V F) : V F := (addf (a : FVec F S128x1024 .f32) (b : FVec F S128x1024 .f32) : FVec F S128x1024 .f32)

/-- What device `c` sends on hop `h`; at `h + 1` it is what it holds once hop `h` has arrived. -/
def sent (d : Bool) (q : Fin 4) : ℕ → Dev nD → V F
  | 0, c => xv m c d 0 q
  | h + 1, c => if h < 7 then addS (sent d q h (ups c d)) (xv m c d (mod8 (h + 1)) q) else sent d q h (ups c d)

/-! ## The cells -/

/-- The cells of device `c`: that a hop has left, -/
abbrev sendC (c : Dev nD) (d : Bool) (p : Fin 2) (q : Fin 4) : GSem nD τ sig := ((c : Thread nD τ), .dma (sendS d p q))
/-- that one has arrived, -/
abbrev recvC (c : Dev nD) (d : Bool) (p : Fin 2) (q : Fin 4) : GSem nD τ sig := ((c : Thread nD τ), .dma (recvS d p q))
/-- that a part has been fetched, -/
abbrev xC (c : Dev nD) (d : Bool) (p : Fin 2) (q : Fin 4) : GSem nD τ sig := ((c : Thread nD τ), .dma (xS (strm d q) p))
/-- that one has been copied to the result, -/
abbrev copyC (c : Dev nD) (d : Bool) (q : Fin 4) : GSem nD τ sig := ((c : Thread nD τ), .dma (copyS d q))
/-- that the receiver has freed a slot, -/
abbrev credC (c : Dev nD) (d : Bool) (q : Fin 4) : GSem nD τ sig := ((c : Thread nD τ), .reg (credS d q))
/-- and the handshake. -/
abbrev barC (c : Dev nD) : GSem nD τ sig := ((c : Thread nD τ), .reg barS)

/-- What a semaphore is for: the barrier, or one of a stream's eight. -/
inductive Kind where
  | bar
  | send (d : Bool) (q : Fin 4) (p : Fin 2)
  | recv (d : Bool) (q : Fin 4) (p : Fin 2)
  | xf (d : Bool) (q : Fin 4) (p : Fin 2)
  | copy (d : Bool) (q : Fin 4)
  | cred (d : Bool) (q : Fin 4)
  deriving DecidableEq, Fintype

/-- The semaphore of each kind. -/
def Kind.sem : Kind → SemLoc sig
  | bar => .reg barS
  | send d q p => .dma (sendS d p q)
  | recv d q p => .dma (recvS d p q)
  | xf d q p => .dma (xS (strm d q) p)
  | copy d q => .dma (copyS d q)
  | cred d q => .reg (credS d q)

/-- Different kinds have different semaphores, -/
theorem Kind.sem_injective : Function.Injective Kind.sem := by
  have h : ∀ a b : Kind, a.sem = b.sem → a = b := by decide +kernel
  exact fun a b => h a b

/-- What the semaphore `sm` is for. -/
def kindOf (sm : SemLoc sig) : Kind :=
  haveI : Nonempty Kind := ⟨.bar⟩
  Function.invFun Kind.sem sm

/-- so the kind can be read off. -/
theorem kindOf_sem (k : Kind) : kindOf k.sem = k :=
  haveI : Nonempty Kind := ⟨.bar⟩
  Function.leftInverse_invFun Kind.sem_injective k

/-! ## Credit -/

/-- The units one transfer of a hop's size credits. -/
def N : ℕ := (commSl false 0 0).view.dmaCredit
/-- It is not zero, -/
theorem N_pos : 0 < N := View.dmaCredit_pos _ (by decide)
/-- and the same for a slot, -/
theorem credit_comm (d : Bool) (p : Fin 2) (q : Fin 4) : (commSl d p q).view.dmaCredit = N := by cases d <;> rfl
/-- a part of the argument, -/
theorem credit_x (c : Dev nD) (d : Bool) (k : Fin 8) (q : Fin 4) : (xSl c d k q).view.dmaCredit = N := rfl
/-- a part of the result -/
theorem credit_o (c : Dev nD) (d : Bool) (k : Fin 8) (q : Fin 4) : (oSl c d k q).view.dmaCredit = N := rfl
/-- and a fetch place. -/
theorem credit_xbuf (s : Fin 8) (p : Fin 2) : (xbufSl s p).view.dmaCredit = N := rfl

/-! ## What the rounds hand over -/

/-- Receiver `e` of stream `(d, q)` is ready for hop `h`: the slot released, its arrival semaphore at hop `h`'s round. -/
def ready (e : Dev nD) (d : Bool) (q : Fin 4) (h : ℕ) : sProp 𝕄 :=
  iprop(released ES (e, d, q, par h) (h / 2 + 1) ∗ reached ER (recvC e d (par h) q) (h / 2))

/-- The source of hop `h`, back with its sender once the hop has left: the argument's part on hop 0, afterwards half a
    share of the slot sent from. -/
def sendPay (c : Dev nD) (d : Bool) (q : Fin 4) : ℕ → sProp 𝕄
  | 0 => ownsTc c (xSl c d 0 q) fullShare (xv m c d 0 q)
  | h + 1 => ownsTc c (commSl d (par h) q) fullShare.left (sent m d q (h + 1) c)

/-- Hop `h` arrived: the slot, with what the sender sent. -/
def recvPay (c : Dev nD) (d : Bool) (q : Fin 4) (h : ℕ) : sProp 𝕄 :=
  ownsTc c (commSl d (par h) q) fullShare (sent m d q h (ups c d))

/-- The part for hop `h` fetched: its place with the part in it, and the argument's part back. -/
def fetchPay (c : Dev nD) (d : Bool) (q : Fin 4) (h : ℕ) : sProp 𝕄 :=
  iprop(ownsTc c (xbufSl (strm d q) (par h)) fullShare (xv m c d (mod8 (h + 1)) q)
    ∗ ownsTc c (xSl c d (mod8 (h + 1)) q) fullShare (xv m c d (mod8 (h + 1)) q))

/-- Part `j` copied: the result's part, finished, and the half share of the slot back. -/
def copyPay (c : Dev nD) (d : Bool) (q : Fin 4) (j : ℕ) : sProp 𝕄 :=
  iprop(ownsTc c (oSl c d (mod8 j) q) fullShare (sent m d q (j + 7) c)
    ∗ ownsTc c (commSl d (par j) q) fullShare.right (sent m d q (j + 7) c))

/-- Credit `k` tells the writer that its reader is ready for hop `k + 2` (and was for hop `k + 1`). -/
def credPay (c : Dev nD) (d : Bool) (q : Fin 4) (k : ℕ) : sProp 𝕄 :=
  iprop(ready (F := F) (nbr c d) d q (k + 2) ∗ ready (F := F) (nbr c d) d q (k + 1))

/-- A barrier signal tells the device that the neighbour is ready for the first two hops of the streams to it. -/
def barPay (c : Dev nD) (d : Bool) : sProp 𝕄 :=
  bigSep Finset.univ fun q : Fin 4 => iprop(ready (F := F) (nbr c d) d q 0 ∗ ready (F := F) (nbr c d) d q 1)

/-- Who pays in round `r` of a cell: one transfer, or at the handshake both neighbours, or each of the twelve credits; -/
def dutiesOf : Kind → ℕ → Finset ℕ
  | .bar, r => if r = 0 then {0, 1} else ∅
  | .send .., r => if r < 7 then {0} else ∅
  | .recv .., r => if r < 7 then {0} else ∅
  | .xf _ _ p, r => if 2 * r + p.val < 7 then {0} else ∅
  | .copy .., r => if r < 8 then {0} else ∅
  | .cred .., r => if r = 0 then Finset.range 12 else ∅

/-- how much; -/
def amountOf : Kind → ℕ
  | .bar => 1
  | .cred .. => 1
  | _ => N

/-- and what the payment hands over. -/
def payOf (c : Dev nD) : Kind → ℕ → ℕ → sProp 𝕄
  | .bar, _, k => barPay c (k == 1)
  | .send d q p, r, _ => sendPay m c d q (2 * r + p.val)
  | .recv d q p, r, _ => recvPay m c d q (2 * r + p.val)
  | .xf d q p, r, _ => fetchPay m c d q (2 * r + p.val)
  | .copy d q, r, _ => copyPay m c d q r
  | .cred d q, _, k => credPay c d q k

/-- The rounds of the protocol. -/
def Rd : Rounds.Schedule (GSem nD τ sig) ℕ 𝕄 where
  duties g r := if g.1.2 = .tc then dutiesOf (kindOf g.2) r else ∅
  amount g _ _ := amountOf (kindOf g.2)
  payload g r k := payOf m g.1.1 (kindOf g.2) r k
  amount_pos g _ _ _ := by
    cases kindOf g.2 <;> first | exact Nat.one_pos | exact N_pos

/-- Readiness may lie in an invariant, -/
instance ready_storable (e : Dev nD) (d q h) : BI.Storable (upEmb : UEmb _ 𝕄) (ready (F := F) e d q h) := by
  unfold ready; infer_instance

/-- and so may all that the rounds hand over. -/
instance Rd_payload_storable (g : GSem nD τ sig) (r k : ℕ) : BI.Storable (upEmb : UEmb _ 𝕄) ((Rd m).payload g r k) := by
  show BI.Storable upEmb (payOf m g.1.1 (kindOf g.2) r k)
  cases kindOf g.2 with
  | bar => show BI.Storable upEmb (barPay g.1.1 (k == 1)); unfold barPay; infer_instance
  | send d q p =>
    show BI.Storable upEmb (sendPay m g.1.1 d q (2 * r + p.val))
    generalize 2 * r + p.val = h; cases h <;> unfold sendPay <;> infer_instance
  | recv d q p => show BI.Storable upEmb (recvPay m g.1.1 d q (2 * r + p.val)); unfold recvPay; infer_instance
  | xf d q p => show BI.Storable upEmb (fetchPay m g.1.1 d q (2 * r + p.val)); unfold fetchPay; infer_instance
  | copy d q => show BI.Storable upEmb (copyPay m g.1.1 d q r); unfold copyPay; infer_instance
  | cred d q => show BI.Storable upEmb (credPay g.1.1 d q k); unfold credPay; infer_instance

section Sched
variable (c : Dev nD) (d : Bool) (p : Fin 2) (q : Fin 4)

/-- The rounds at a kind's cell: who pays, -/
theorem duties_kind (k : Kind) (r : ℕ) : (Rd m).duties ((c : Thread nD τ), k.sem) r = dutiesOf k r := by
  show (if ((c : Thread nD τ), k.sem).1.2 = Proc.tc then dutiesOf (kindOf k.sem) r else ∅) = _; rw [if_pos rfl, kindOf_sem]
/-- how much, -/
theorem amount_kind (k : Kind) (r j : ℕ) : (Rd m).amount ((c : Thread nD τ), k.sem) r j = amountOf k := by
  show amountOf _ = _; rw [kindOf_sem]
/-- what it hands over, -/
theorem payload_kind (k : Kind) (r j : ℕ) : (Rd m).payload ((c : Thread nD τ), k.sem) r j = payOf m c k r j := by
  show payOf m c _ r j = _; rw [kindOf_sem]

/-- and the units of a whole round. -/
theorem expect_kind (k : Kind) (r : ℕ) : (Rd m).expect ((c : Thread nD τ), k.sem) r = (dutiesOf k r).card * amountOf k := by
  unfold Schedule.expect Schedule.amountOf
  rw [duties_kind, Finset.sum_congr rfl fun j _ => amount_kind m c k r j, Finset.sum_const, smul_eq_mul]

/-- One duty: what the rest of the round hands over. -/
theorem rest_kind (k : Kind) (r : ℕ) (h : dutiesOf k r = {0}) :
    bigSep ((Rd m).duties ((c : Thread nD τ), k.sem) r \ ∅) (fun j => (Rd m).payload ((c : Thread nD τ), k.sem) r j) = payOf m c k r 0 := by
  rw [Finset.sdiff_empty, duties_kind, h, bigSep_singleton, payload_kind]

end Sched

/-- A hop from its round and its slot. -/
theorem two_div_par (h : ℕ) : 2 * (h / 2) + (par h).val = h := Nat.div_add_mod h 2

/-! ## Levels -/

/-- The level at which hop `h` of stream `(d, q)` is waited for. -/
def ix (d : Bool) (q : Fin 4) (h : ℕ) : ℕ := 8 * h + (strm d q).val + 2

/-- The levels in use, -/
def L (g : GSem nD τ sig) : Finset ℕ := if g.1.2 = .tc then Finset.range 200 else ∅
/-- each its own rank. -/
def lv (_ : GSem nD τ sig) (i : ℕ) : ℕ := i

/-- Everything owed lies above level `n`. -/
def Above (n : ℕ) (O : CellTallies nD τ sig ℕ) : Prop := ∀ g i, 0 < O g i → g.1.2 = .tc ∧ n < i ∧ i < 200

/-- Owing nothing is above every level; -/
theorem Above.zero (n : ℕ) : Above n 0 := fun g i h => absurd h (lt_irrefl 0)
/-- so are two debts together when each is; -/
theorem Above.add {n : ℕ} {O O' : CellTallies nD τ sig ℕ} (h : Above n O) (h' : Above n O') : Above n (O + O') := fun g i hp => by
  have hp : 0 < O g i + O' g i := hp
  rcases Nat.eq_zero_or_pos (O g i) with h0 | h0
  · exact h' g i (by omega)
  · exact h g i h0
/-- a lower level is passed too; -/
theorem Above.mono {n n' : ℕ} {O : CellTallies nD τ sig ℕ} (h : Above n' O) (hn : n ≤ n') : Above n O := fun g i hp => by
  have := h g i hp; exact ⟨this.1, by omega, this.2.2⟩
/-- one debt, by its own level; -/
theorem Above.tally {n : ℕ} (c : Dev nD) (sm : SemLoc sig) (i k : ℕ) (hi : n < i) (hi' : i < 200) :
    Above n (tallyAt ((c : Thread nD τ), sm) i k) := fun g j hp => by
  rw [tallyAt_apply] at hp
  split at hp
  · next h => obtain ⟨rfl, rfl⟩ := h; exact ⟨rfl, hi, hi'⟩
  · exact absurd hp (lt_irrefl 0)
/-- and any sum of debts. -/
theorem Above.sum {α : Type} {n : ℕ} (s : Finset α) (O : α → CellTallies nD τ sig ℕ) (h : ∀ a ∈ s, Above n (O a)) : Above n (∑ a ∈ s, O a) := by
  classical
  induction s using Finset.induction_on with
  | empty => rw [Finset.sum_empty]; exact Above.zero n
  | insert a s ha ih =>
    rw [Finset.sum_insert ha]
    exact (h a (Finset.mem_insert_self a s)).add (ih fun b hb => h b (Finset.mem_insert_of_mem hb))

/-- A device may wait at a level below everything that it owes. -/
theorem Above.mayWait {n : ℕ} {O : CellTallies nD τ sig ℕ} (h : Above n O) (hn : n < 200) (c : Dev nD) (sm : SemLoc sig) :
    (levAts L lv : sProp 𝕄) ⊢ MayOwe (c : Thread nD τ) {(sm, n)} O :=
  MayOwe.of_cut n
    (fun p hp => by rw [Finset.mem_singleton] at hp; subst hp; unfold L; rw [if_pos rfl]; exact Finset.mem_range.mpr hn)
    (fun g i hp => by unfold L; rw [if_pos (h g i hp).1]; exact Finset.mem_range.mpr (h g i hp).2.2)
    (fun p hp => by rw [Finset.mem_singleton] at hp; subst hp; exact le_refl _)
    (fun g i hp => (h g i hp).2.1)

end Cert.RingSum
-- ==== Proof.Steps.lean ====
/-
# The steps of a hop

One lemma per operation of a hop, over the records every device shares: what it takes, what it leaves.
-/
module

public import proofs.«01_k».proof.Proof.Proto
public import Idealize.ShloMosaic.Lib.Pipeline.Value

@[expose] public section

noncomputable section

namespace Cert.RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- No loop needs a bound of its own. -/
abbrev 𝒱₀ : Variants := Variants.none

/-- What device `c` must have for `p` to run to `Q`. -/
abbrev Wp {α : Type} (c : Dev nD) (p : Prog (E F) α) (Q : α → sProp 𝕄) : sProp 𝕄 :=
  wp frame (wpE (defs₀ (F := F)) 𝒱₀ (c : Thread nD τ) none) Set.univ p Q

/-- One program after another; -/
theorem Wp_bind {α β : Type} (c : Dev nD) (p : Prog (E F) α) (k : α → Prog (E F) β) (Q : β → sProp 𝕄) :
    Wp c (p >>= k) Q = Wp c p (fun a => Wp c (k a) Q) := wp_bind _ _ _ _ _ _

/-- a program that is done; -/
theorem Wp_ret {α : Type} (c : Dev nD) (a : α) (Q : α → sProp 𝕄) : Q a ⊢ Wp c (.ret a) Q := by
  show _ ⊢ wp _ _ _ _ _
  rw [wp_ret]; exact fupd_intro

/-- and one before which the ghost state is updated. -/
theorem Wp_fupd {α : Type} (c : Dev nD) (p : Prog (E F) α) (Q : α → sProp 𝕄) : iprop(|={Set.univ}=> Wp c p Q) ⊢ Wp c p Q := fupd_wp _ _ _ _ _

variable (m : (ℓ : Loc nD τ sig) → Buf (Elt F) ℓ) (K : Dev nD × Kind → ℕ) (ιs : Key → ℕ)

/-- Of a family, one member. -/
theorem all_at {α : Type} [Fintype α] [DecidableEq α] (Φ : α → sProp 𝕄) (a : α) : bigSep Finset.univ Φ ⊢ Φ a := bigSep_elim (Finset.mem_univ a)

/-! ## The shared records -/

/-- A slot at any contents. -/
def Sl (k : Key) : sProp 𝕄 := iprop(∃ X, ownsTc k.1 (commSl k.2.1 k.2.2.2 k.2.2.1) fullShare X)
/-- It may lie in an invariant. -/
instance Sl_storable (k : Key) : BI.Storable (upEmb : UEmb _ 𝕄) (Sl (F := F) k) := by unfold Sl; infer_instance

/-- The invariants of all cells and slots, round 0 of each cell reached, and the levels. -/
def Rec : sProp 𝕄 :=
  iprop((bigSep Finset.univ fun ck : Dev nD × Kind => cellInv ER (Rd m) (K ck) ((ck.1 : Thread nD τ), ck.2.sem))
    ∗ (bigSep Finset.univ fun ck : Dev nD × Kind => reached ER ((ck.1 : Thread nD τ), ck.2.sem) 0)
    ∗ (bigSep Finset.univ fun k : Key => slotInv ES (ιs k) k (Sl k))
    ∗ levAts L lv)
/-- The records may be used again and again: -/
instance Rec_persistent : BI.Persistent (Rec m K ιs) := by unfold Rec; infer_instance

/-- a cell's invariant, -/
theorem Rec_inv (c : Dev nD) (k : Kind) : Rec m K ιs ⊢ cellInv ER (Rd m) (K (c, k)) ((c : Thread nD τ), k.sem) := by
  unfold Rec; iintro ⟨H, -⟩
  iapply (all_at (fun ck : Dev nD × Kind => cellInv ER (Rd m) (K ck) ((ck.1 : Thread nD τ), ck.2.sem)) (c, k))
  iexact H
/-- its first round, -/
theorem Rec_reached (c : Dev nD) (k : Kind) : Rec m K ιs ⊢ reached ER ((c : Thread nD τ), k.sem) 0 := by
  unfold Rec; iintro ⟨-, H, -⟩
  iapply (all_at (fun ck : Dev nD × Kind => (reached ER ((ck.1 : Thread nD τ), ck.2.sem) 0 : sProp 𝕄)) (c, k))
  iexact H
/-- a slot's invariant, -/
theorem Rec_slot (k : Key) : Rec m K ιs ⊢ slotInv ES (ιs k) k (Sl k) := by
  unfold Rec; iintro ⟨-, -, H, -⟩
  iapply (all_at (fun k : Key => (slotInv ES (ιs k) k (Sl k) : sProp 𝕄)) k)
  iexact H
/-- and the levels. -/
theorem Rec_lev : Rec m K ιs ⊢ levAts L lv := by
  unfold Rec; iintro ⟨-, -, -, H⟩; iexact H

/-- The owner's place at cell `g`: at the start of round `r`. -/
def pos (g : GSem nD τ sig) (r : ℕ) : sProp 𝕄 := iprop(atPos ER g r ∅ 0 ∗ reached ER g r)

/-- Device `c` owes `O`, whatever it has waited for. -/
def Ow (c : Dev nD) (O : CellTallies nD τ sig ℕ) : sProp 𝕄 := iprop(∃ W, owes (c : Thread nD τ) O W)

/-! ## Waiting for a transfer -/

/-- A wait for a whole round of one transfer: it hands over what the transfer pays. -/
theorem step_wait (c : Dev nD) (k : Kind) (r i : ℕ) {O : CellTallies nD τ sig ℕ} (hO : Above i O) (hi : i < 200)
    (hk : dutiesOf k r = {0}) (hN : amountOf k = N) {w : E F PUnit}
    (hw : ∀ Q : PUnit → sProp 𝕄, wpE (defs₀ (F := F)) 𝒱₀ (c : Thread nD τ) none Set.univ w Q = waitSpec (c : Thread nD τ) Set.univ k.sem N Q)
    (Q : PUnit → sProp 𝕄) :
    iprop(Rec m K ιs ∗ cred (tallyAt ((c : Thread nD τ), k.sem) i N) ∗ Ow c O ∗ pos ((c : Thread nD τ), k.sem) r)
      ⊢ iprop(((Ow c O ∗ pos ((c : Thread nD τ), k.sem) (r + 1) ∗ payOf m c k r 0) -∗ Q ⟨⟩) -∗ Wp c (Prog.lift w) Q) := by
  unfold Ow pos
  iintro ⟨#HR, Hc, ⟨%W, HO⟩, Hat, -⟩ Hk
  iapply (Rounds.wp_wait_rest_token 𝒱₀ ER (Rd m) (c : Thread nD τ) none (κ := K (c, k)) hw (Set.mem_univ _) i (O := O) (W := W) (R := r) (m := 0)
    (T := ∅) (by rw [expect_kind, hk, hN, Nat.zero_add, Finset.card_singleton, Nat.one_mul])) $$ [Hc HO Hat]
  · isplitr; · iapply (Rec_inv m K ιs c k); iexact HR
    isplitl [Hc]; · iexact Hc
    isplitl [HO]; · iexact HO
    isplitr; · iapply (hO.mayWait hi c k.sem); iapply (Rec_lev m K ιs); iexact HR
    iexact Hat
  iintro ⟨HO, Hat, Hr, Hp⟩
  iapply (Wp_ret c)
  iapply Hk
  isplitl [HO]; · iexists _; iexact HO
  isplitl [Hat Hr]; · isplitl [Hat] <;> iassumption
  iapply (Entails.of_eq (rest_kind m c k r hk)); iexact Hp

/-! ## Starting a transfer -/

/-- What a whole view holds after it was written is what was written. -/
theorem owns_written (c : Dev nD) {sp : Space} {M : Memref sig .tc sp S128x1024 .f32} (f : Buf (Elt F) (M.view.loc (c : Thread nD τ))) (w : V F) :
    (M.view.loc (c : Thread nD τ) ↦[M.view.set]{fullShare} (M.view.write (Elt F) f w Finset.univ) : sProp 𝕄) ⊢ ownsTc c M fullShare w := by
  refine (owns_intro (c : Thread nD τ) M fullShare _).trans (Entails.of_eq ?_)
  rw [View.read_write_univ]

/-- Owning a view is owning its buffer's part. -/
theorem owns_open (c : Dev nD) {sp : Space} {s : Shape} {e : EltTy} (M : Memref sig .tc sp s e) (q : PosShare TreeShare) (X : s.Idx → Elt F e) :
    (ownsTc c M q X : sProp 𝕄) ⊢ iprop(∃ f, ⌜M.view.read (Elt F) f = X⌝ ∗ (M.view.loc (c : Thread nD τ) ↦[M.view.set]{q} f)) := by
  unfold ownsTc owns; iintro H; iexact H

/-- A local copy started: source and target are given up, to be handed over at the cell. -/
theorem step_copy (c : Dev nD) (k : Kind) (r : ℕ) (hk : dutiesOf k r = {0}) (hN : amountOf k = N) {sp sp' : Space} {src : Memref sig .tc sp S128x1024 .f32}
    {dst : Memref sig .tc sp' S128x1024 .f32} (hd : dst.view.dmaCredit = N) {sem : DmaSem sig} (hs : k.sem = .dma sem) {hsrc : src.view.WordExact} {hdst : dst.view.WordExact}
    {hsem : DmaTarget.Typed sp (.dma sem) (DmaTarget.here dst : DmaTarget nD τ sig Proc.tc sp' S128x1024 .f32)} {X : V F} {sh : PosShare TreeShare}
    (hpay : iprop(ownsTc c dst fullShare X ∗ ownsTc c src sh X) ⊢ payOf m c k r 0) (Q : PUnit → sProp 𝕄) :
    iprop(Rec m K ιs ∗ ownsTc c src sh X ∗ (∃ Y, ownsTc c dst fullShare Y) ∗ dutyTok ER ((c : Thread nD τ), k.sem) r 0 ∗ reached ER ((c : Thread nD τ), k.sem) r)
      ⊢ iprop((cred (tallyAt ((c : Thread nD τ), k.sem) 0 N) -∗ Q ⟨⟩)
          -∗ Wp c (Prog.lift (.enqueueDma src (.here dst) (.dma sem) hsrc hdst hsem)) Q) := by
  have hI := Rec_inv m K ιs c k
  have hdut : 0 ∈ (Rd m).duties ((c : Thread nD τ), k.sem) r := by rw [duties_kind, hk]; exact Finset.mem_singleton_self 0
  have ham : (Rd m).amount ((c : Thread nD τ), k.sem) r 0 = N := by rw [amount_kind, hN]
  rw [← payload_kind] at hpay
  rw [hs] at hI hdut ham hpay ⊢
  iintro ⟨#HR, Hs, ⟨%Y, Hd⟩, Ht, #Hr⟩ Hk
  ihave Hs := (owns_open c src sh X) $$ Hs
  icases Hs with ⟨%fs, %hfs, Hs⟩
  ihave Hd := (owns_open c dst fullShare Y) $$ Hd
  icases Hd with ⟨%fd, %hfd, Hd⟩
  subst hfs
  iapply (Rounds.wp_copy_pointsTo 𝒱₀ ER (Rd m) (c : Thread nD τ) none (κ := K (c, k)) (fs := fs) (fd := fd) (q := sh) hdut 0 N hd ham ?_) $$ [Hs Hd Ht]
  · refine BIBase.Entails.trans ?_ hpay
    iintro ⟨Hd, Hs⟩
    isplitl [Hd]
    · iapply (owns_written (F := F) c (M := dst) fd); iexact Hd
    · iapply (owns_intro (c : Thread nD τ) src sh fs); iexact Hs
  · isplitr; · iapply hI; iexact HR
    isplitl [Hs]; · iexact Hs
    isplitl [Hd]; · iexact Hd
    isplitl [Ht]; · iexact Ht
    iexact Hr
  iintro Hc
  iapply (Wp_ret c)
  iapply Hk; iexact Hc

/-- A remote copy started: it needs the rights at both cells and pays the debt to the receiver. -/
theorem step_send (c c' : Dev nD) (k k' : Kind) (r r' i : ℕ) (hk : dutiesOf k r = {0}) (hN : amountOf k = N) (hk' : dutiesOf k' r' = {0}) (hN' : amountOf k' = N)
    {sp sp' : Space} {src : Memref sig .tc sp S128x1024 .f32} {dst : Memref sig .tc sp' S128x1024 .f32} (hd : dst.view.dmaCredit = N)
    {sem sem' : DmaSem sig} (hs : k.sem = .dma sem) (hs' : k'.sem = .dma sem') {hsc : dst.view.ref.isScScratch = false}
    {hsrc : src.view.WordExact} {hdst : dst.view.WordExact}
    {hsem : DmaTarget.Typed sp (.dma sem') (DmaTarget.remote (c' : Thread nD τ) dst (.dma sem) hsc : DmaTarget nD τ sig Proc.tc sp' S128x1024 .f32)} {X : V F} {sh : PosShare TreeShare}
    (hpay : ownsTc c src sh X ⊢ payOf m c k r 0) (hpay' : ownsTc c' dst fullShare X ⊢ payOf m c' k' r' 0)
    {O : CellTallies nD τ sig ℕ} (Q : PUnit → sProp 𝕄) :
    iprop(Rec m K ιs ∗ ownsTc c src sh X ∗ (∃ Y, ownsTc c' dst fullShare Y) ∗ Ow c (O + tallyAt ((c' : Thread nD τ), k'.sem) i N)
        ∗ dutyTok ER ((c : Thread nD τ), k.sem) r 0 ∗ reached ER ((c : Thread nD τ), k.sem) r
        ∗ dutyTok ER ((c' : Thread nD τ), k'.sem) r' 0 ∗ reached ER ((c' : Thread nD τ), k'.sem) r')
      ⊢ iprop(((cred (tallyAt ((c : Thread nD τ), k.sem) 0 N) ∗ Ow c O) -∗ Q ⟨⟩)
          -∗ Wp c (Prog.lift (.enqueueDma src (.remote (c' : Thread nD τ) dst (.dma sem) hsc) (.dma sem') hsrc hdst hsem)) Q) := by
  have hI := Rec_inv m K ιs c k
  have hI' := Rec_inv m K ιs c' k'
  have hdut : 0 ∈ (Rd m).duties ((c : Thread nD τ), k.sem) r := by rw [duties_kind, hk]; exact Finset.mem_singleton_self 0
  have ham : (Rd m).amount ((c : Thread nD τ), k.sem) r 0 = N := by rw [amount_kind, hN]
  have hdut' : 0 ∈ (Rd m).duties ((c' : Thread nD τ), k'.sem) r' := by rw [duties_kind, hk']; exact Finset.mem_singleton_self 0
  have ham' : (Rd m).amount ((c' : Thread nD τ), k'.sem) r' 0 = N := by rw [amount_kind, hN']
  rw [← payload_kind] at hpay hpay'
  rw [hs] at hI hdut ham hpay ⊢
  rw [hs'] at hI' hdut' ham' hpay' ⊢
  unfold Ow
  iintro ⟨#HR, Hs, ⟨%Y, Hd⟩, ⟨%W, HO⟩, Ht, #Hr, Ht', #Hr'⟩ Hk
  ihave Hs := (owns_open c src sh X) $$ Hs
  icases Hs with ⟨%fs, %hfs, Hs⟩
  ihave Hd := (owns_open c' dst fullShare Y) $$ Hd
  icases Hd with ⟨%fd, %hfd, Hd⟩
  subst hfs
  iapply (Rounds.wp_send_pointsTo 𝒱₀ ER (Rd m) (c : Thread nD τ) none (κ₁ := K (c, k)) (κ₂ := K (c', k')) (fs := fs) (fd := fd) (q := sh) hdut hdut' i 0 N hd ham ham' O rfl
    (W := W) ?_ ?_) $$ [Hs Hd HO Ht Ht']
  · refine BIBase.Entails.trans ?_ hpay
    iintro Hs; iapply (owns_intro (c : Thread nD τ) src sh fs); iexact Hs
  · refine BIBase.Entails.trans ?_ hpay'
    iintro Hd; iapply (owns_written (F := F) c' (M := dst) fd); iexact Hd
  · isplitr; · iapply hI; iexact HR
    isplitr; · iapply hI'; iexact HR
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply (Wp_ret c)
  iapply Hk
  isplitl [Hc]; · iexact Hc
  iexists W; iexact HO

/-! ## Signals -/

/-- A signal to a neighbour: it pays one unit of the debt and hands over its payload. -/
theorem step_signal (c c' : Dev nD) (k : Kind) (j i : ℕ) (hk : j ∈ dutiesOf k 0) (hN : amountOf k = 1) {sem : Sem sig} (hs : k.sem = .reg sem)
    {O : CellTallies nD τ sig ℕ} (Q : PUnit → sProp 𝕄) :
    iprop(Rec m K ιs ∗ Ow c (O + tallyAt ((c' : Thread nD τ), k.sem) i 1) ∗ dutyTok ER ((c' : Thread nD τ), k.sem) 0 j ∗ payOf m c' k 0 j)
      ⊢ iprop((Ow c O -∗ Q ⟨⟩) -∗ Wp c (semSignalWord c' sem 1#32) Q) := by
  have hI := Rec_inv m K ιs c' k
  have hr := Rec_reached m K ιs c' k
  have hdut : j ∈ (Rd m).duties ((c' : Thread nD τ), k.sem) 0 := by rw [duties_kind]; exact hk
  have ham : (Rd m).amount ((c' : Thread nD τ), k.sem) 0 j = 1 := by rw [amount_kind, hN]
  rw [← payload_kind]
  rw [hs] at hI hr hdut ham ⊢
  unfold Ow
  iintro ⟨#HR, ⟨%W, HO⟩, Ht, Hp⟩ Hk
  iapply (Rounds.wp_signal 𝒱₀ ER (Rd m) (c : Thread nD τ) none (dst := (c' : Thread nD τ)) (κ := K (c', k)) (r := 0) (d := j) (k' := 1) hdut ham i O rfl
    (W := W)) $$ [HO Ht Hp]
  · isplitr; · iapply hI; iexact HR
    isplitl [HO]; · iexact HO
    isplitl [Ht]; · iexact Ht
    isplitl [Hp]; · iexact Hp
    iapply hr; iexact HR
  iintro HO
  iapply (Wp_ret c)
  iapply Hk
  iexists W; iexact HO

/-! ## Slots -/

/-- A slot is not owned twice. -/
theorem Sl_exclusive (k : Key) : iprop(Sl k ∗ Sl k) ⊢ (False : sProp 𝕄) := by
  obtain ⟨i, hi⟩ := (commSl k.2.1 k.2.2.2 k.2.2.1).view.set_nonempty (show 0 < S128x1024.numel by decide)
  unfold Sl
  iintro ⟨⟨%X, H⟩, ⟨%Y, H'⟩⟩
  ihave H := (owns_open k.1 _ fullShare X) $$ H
  ihave H' := (owns_open k.1 _ fullShare Y) $$ H'
  icases H with ⟨%f, -, H⟩
  icases H' with ⟨%g, -, H'⟩
  iapply (slot_slot_false (I := (commSl k.2.1 k.2.2.2 k.2.2.1).view.set) (ℓ := (commSl k.2.1 k.2.2.2 k.2.2.1).view.loc (k.1 : Thread nD τ)) ⟨i, hi⟩)
  unfold slot
  isplitl [H]
  · iexists f; iexact H
  · iexists g; iexact H'

/-- A reader hands its slot back: its next release count, and the fact that it has. -/
theorem step_release (k : Key) (n : ℕ) :
    iprop(Rec m K ιs ∗ readerAt ES k n ∗ Sl k) ⊢ iprop(|={Set.univ}=> (readerAt ES k (n + 1) ∗ released ES k (n + 1)) : sProp 𝕄) := by
  iintro ⟨#HR, Hr, Hs⟩
  iapply (slot_release ES (ι := ιs k) (S := Sl k) (Set.mem_univ _) (Sl_exclusive k) n)
  isplitr; · iapply (Rec_slot m K ιs k); iexact HR
  isplitl [Hr] <;> iassumption

/-- The writer takes the released slot. -/
theorem step_take (k : Key) (n : ℕ) :
    iprop(Rec m K ιs ∗ released ES k n ∗ writeTok ES k n) ⊢ iprop(|={Set.univ}=> Sl k : sProp 𝕄) := by
  iintro ⟨#HR, #Hr, Ht⟩
  iapply (slot_take ES (ι := ιs k) (S := Sl k) (Set.mem_univ _) n)
  isplitr; · iapply (Rec_slot m K ιs k); iexact HR
  isplitr; · iexact Hr
  iexact Ht

/-! ## Loads and stores through a slot -/

section Slot
variable {s : Shape} (M : Memref sig .tc .vmem s .f32) (r : Rect s) (hr : ∀ a, r.stride a = 1) (hq : r.shape.Squeezes S128x1024)

/-- A place read as a matrix covers the same words. -/
theorem sq_set : ((M.slice r hr).squeeze S128x1024 hq).view.set = (M.access r).set := View.set_reshape _ _

/-- A load of a place that is owned, at any share, -/
theorem step_load (c : Dev nD) {hl : M.view.LoadsAt r.toLoadRect} (sh : PosShare TreeShare) (X : V F) (hc : S128x1024.ShapeCasts r.shape) (hc' : r.shape.ShapeCasts S128x1024)
    (Q : (r.shape.Idx → Elt F .f32) → sProp 𝕄) :
    ownsTc c ((M.slice r hr).squeeze S128x1024 hq) sh X
      ⊢ iprop((ownsTc c ((M.slice r hr).squeeze S128x1024 hq) sh X -∗ Q (shapeCast r.shape X hc))
          -∗ Wp c (Prog.lift (.load M r.toLoadRect hl)) Q) := by
  iintro H Hk
  ihave H := (owns_open c _ sh X) $$ H
  icases H with ⟨%f, %hf, H⟩
  subst hf
  iapply (wp_load_rect 𝒱₀ (c : Thread nD τ) none Set.univ (m := M) (r := r) (f := f) (q := sh) (S := ((M.slice r hr).squeeze S128x1024 hq).view.set)
    (by rw [sq_set])) $$ H
  iintro H
  iapply (Wp_ret c)
  have hv : shapeCast r.shape (((M.slice r hr).squeeze S128x1024 hq).view.read (Elt F) f) hc = (M.access r).read (Elt F) f :=
    shapeCast_shapeCast ((M.access r).read (Elt F) f) hc' hc
  rw [hv]
  iapply Hk
  iapply (owns_intro (c : Thread nD τ) _ sh f); iexact H

/-- and a store to one that is owned whole. -/
theorem step_store (c : Dev nD) {w : r.shape.Idx → Elt F .f32} {hx : (M.access r).Stores Finset.univ}
    {hm : (Finset.univ : Finset r.shape.Idx) = Finset.univ ∨ ∀ a, r.stride a = 1} (X : V F) (hc : r.shape.ShapeCasts S128x1024)
    (Q : PUnit → sProp 𝕄) :
    ownsTc c ((M.slice r hr).squeeze S128x1024 hq) fullShare X
      ⊢ iprop((ownsTc c ((M.slice r hr).squeeze S128x1024 hq) fullShare (shapeCast S128x1024 w hc) -∗ Q ⟨⟩)
          -∗ Wp c (Prog.lift (.store M r w Finset.univ hx hm)) Q) := by
  iintro H Hk
  ihave H := (owns_open c _ fullShare X) $$ H
  icases H with ⟨%f, -, H⟩
  iapply (wp_store 𝒱₀ (c : Thread nD τ) none Set.univ (m := M) (r := r) (Mk := Finset.univ) (f := f) (S := ((M.slice r hr).squeeze S128x1024 hq).view.set)
    (by rw [sq_set]; exact Finset.Subset.refl _)) $$ H
  iintro H
  iapply (Wp_ret c)
  iapply Hk
  ihave H := (owns_intro (c : Thread nD τ) ((M.slice r hr).squeeze S128x1024 hq) fullShare _) $$ H
  have hv : ((M.slice r hr).squeeze S128x1024 hq).view.read (Elt F) ((M.access r).write (Elt F) f w Finset.univ) = shapeCast S128x1024 w hc := by
    show shapeCast S128x1024 ((M.access r).read (Elt F) ((M.access r).write (Elt F) f w Finset.univ)) hc = _
    rw [View.read_write_univ]
  rw [← hv]
  iexact H

end Slot

/-- The add: the slot's sum with the fetched part. -/
theorem step_add (c : Dev nD) (d : Bool) (q : Fin 4) (h : ℕ) (a b : V F) (Q : PUnit → sProp 𝕄) :
    iprop(ownsTc c (commSl d (par h) q) fullShare a ∗ ownsTc c (xbufSl (strm d q) (par h)) fullShare b)
      ⊢ iprop(((ownsTc c (commSl d (par h) q) fullShare (addS a b) ∗ ownsTc c (xbufSl (strm d q) (par h)) fullShare b) -∗ Q ⟨⟩)
          -∗ Wp c (addIn d q h) Q) := by
  unfold addIn
  simp only [Wp_bind]
  rw [show commSl d (par h) q = ((commM d).slice (commRect (par h) q) (fun _ => rfl)).squeeze S128x1024 squeezes_S1x1x128x1024_S128x1024 from rfl,
    show xbufSl (strm d q) (par h) = (xbufM.slice (xbufRect (strm d q) (par h)) (fun _ => rfl)).squeeze S128x1024 squeezes_S1x1x128x1024_S128x1024 from rfl]
  iintro ⟨Ha, Hb⟩ Hk
  iapply (step_load (commM d) (commRect (par h) q) (fun _ => rfl) squeezes_S1x1x128x1024_S128x1024 c fullShare a shapeCasts_S128x1024_S1x1x128x1024 shapeCasts_S1x1x128x1024_S128x1024) $$ Ha
  iintro Ha
  iapply (step_load xbufM (xbufRect (strm d q) (par h)) (fun _ => rfl) squeezes_S1x1x128x1024_S128x1024 c fullShare b shapeCasts_S128x1024_S1x1x128x1024 shapeCasts_S1x1x128x1024_S128x1024) $$ Hb
  iintro Hb
  iapply (step_load (commM d) (commRect (par h) q) (fun _ => rfl) squeezes_S1x1x128x1024_S128x1024 c fullShare a shapeCasts_S128x1024_S1x1x128x1024 shapeCasts_S1x1x128x1024_S128x1024) $$ Ha
  iintro Ha
  iapply (step_store (commM d) (commRect (par h) q) (fun _ => rfl) squeezes_S1x1x128x1024_S128x1024 c a shapeCasts_S1x1x128x1024_S128x1024) $$ Ha
  iintro Ha
  iapply Hk
  isplitl [Ha]
  · have hv : shapeCast S128x1024 (addV (shapeCast S1x1x128x1024 a shapeCasts_S128x1024_S1x1x128x1024) (shapeCast S1x1x128x1024 b shapeCasts_S128x1024_S1x1x128x1024))
        shapeCasts_S1x1x128x1024_S128x1024 = addS a b := by
      unfold addV addS
      rw [shapeCast_shapeCast, shapeCast_shapeCast, shapeCast_shapeCast]
    rw [← hv]
    iexact Ha
  · iexact Hb

end Cert.RingSum
-- ==== Proof.Parts.lean ====
/-
# The parts of a hop

The operations of a hop of one stream, each with the resources of the protocol it takes and leaves.
-/
module

public import proofs.«01_k».proof.Proof.Steps

@[expose] public section

noncomputable section

namespace Cert.RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (K : Dev nD × Kind → ℕ) (ιs : Key → ℕ)

/-! ## Readiness -/

/-- Readiness lasts, -/
instance ready_persistent (e : Dev nD) (d : Bool) (q : Fin 4) (h : ℕ) : BI.Persistent (ready (F := F) e d q h) := by
  unfold ready; infer_instance
/-- and so does what a credit tells. -/
instance credPay_persistent (c : Dev nD) (d : Bool) (q : Fin 4) (k : ℕ) : BI.Persistent (credPay (F := F) c d q k) := by
  unfold credPay; infer_instance

/-- Ready for a hop is ready for the earlier hops into the same slot. -/
theorem ready_mono (e : Dev nD) (d : Bool) (q : Fin 4) {h h' : ℕ} (hle : h ≤ h') (hp : h % 2 = h' % 2) :
    ready (F := F) e d q h' ⊢ ready (F := F) e d q h := by
  have hpar : par h' = par h := Fin.ext hp.symm
  unfold ready
  rw [hpar]
  iintro ⟨H1, H2⟩
  isplitl [H1]
  · iapply (released_mono ES (n := h' / 2 + 1) (n' := h / 2 + 1) (by omega)); iexact H1
  · iapply (reached_mono ER (r := h' / 2) (r' := h / 2) (by omega)); iexact H2

/-- Any credit from the `k`-th on shows readiness for hop `k + 2`. -/
theorem credPay_ready (c : Dev nD) (d : Bool) (q : Fin 4) {k j : ℕ} (hkj : k ≤ j) :
    credPay (F := F) c d q j ⊢ ready (F := F) (nbr c d) d q (k + 2) := by
  unfold credPay
  iintro ⟨H1, H2⟩
  rcases Nat.even_or_odd' (j - k) with ⟨n, hn | hn⟩
  · iapply (ready_mono (nbr c d) d q (h := k + 2) (h' := j + 2) (by omega) (by omega)); iexact H1
  · iapply (ready_mono (nbr c d) d q (h := k + 2) (h' := j + 1) (by omega) (by omega)); iexact H2

/-! ## What a device holds for a stream -/

section Res
variable (c : Dev nD) (d : Bool) (q : Fin 4)

/-- The rights of hop `h`: to have it leave, to have it arrive, to write the slot. -/
def hopTok (h : ℕ) : sProp 𝕄 :=
  iprop(dutyTok ER (sendC c d (par h) q) (h / 2) 0 ∗ dutyTok ER (recvC (nbr c d) d (par h) q) (h / 2) 0
    ∗ writeTok ES (nbr c d, d, q, par h) (h / 2 + 1))
/-- The right of a fetch, -/
def fetchTok (h : ℕ) : sProp 𝕄 := dutyTok ER (xC c d (par h) q) (h / 2) 0
/-- of a copy to the result, -/
def copyTok (j : ℕ) : sProp 𝕄 := dutyTok ER (copyC c d q) j 0
/-- and of a credit to the sender. -/
def credTok (k : ℕ) : sProp 𝕄 := dutyTok ER (credC (ups c d) d q) 0 k
/-- What the device is owed: the arrival of hop `h`, -/
def recvCr (h : ℕ) : sProp 𝕄 := cred (tallyAt (recvC c d (par h) q) (ix d q h) N)
/-- and credit `k`. -/
def credCr (k : ℕ) : sProp 𝕄 := cred (tallyAt (credC c d q) (ix d q (k + 1)) 1)

/-- What hop `h` owes the receiver, -/
def Sd (h : ℕ) : CellTallies nD τ sig ℕ := tallyAt (recvC (nbr c d) d (par h) q) (ix d q h) N
/-- and what credit `k` owes the sender; credit `k` is signalled on hop `k + 1`. -/
def Cr (k : ℕ) : CellTallies nD τ sig ℕ := tallyAt (credC (ups c d) d q) (ix d q (k + 1)) 1

/-- After `n` of the twelve credits. Short of the last, the credits taken are some `n` or more of them. -/
def creds (n : ℕ) : sProp 𝕄 :=
  if n < 12 then
    iprop(∃ T : Finset ℕ, ⌜T ⊆ Finset.range 12 ∧ n + (Finset.range 12 \ T).card ≤ 12⌝ ∗ atPos ER (credC c d q) 0 T n ∗ bigSep T fun k => credPay c d q k)
  else atPos ER (credC c d q) 1 ∅ 0

end Res

/-! ## The waits -/

section Waits
variable (c : Dev nD) (d : Bool) (q : Fin 4)

/-- A round of each cell has one payer: where a hop leaves, -/
theorem duties_send {h : ℕ} (hh : h < 14) : dutiesOf (.send d q (par h)) (h / 2) = {0} := if_pos (by omega)
/-- where it arrives, -/
theorem duties_recv {h : ℕ} (hh : h < 14) : dutiesOf (.recv d q (par h)) (h / 2) = {0} := if_pos (by omega)
/-- for a fetch -/
theorem duties_xf {h : ℕ} (hh : h < 7) : dutiesOf (.xf d q (par h)) (h / 2) = {0} := if_pos (by rw [two_div_par]; exact hh)
/-- and for a copy. -/
theorem duties_copy {j : ℕ} (hj : j < 8) : dutiesOf (.copy d q) j = {0} := if_pos hj

/-- And what each hands over, by hop: on leaving, -/
theorem pay_send (h : ℕ) : payOf m c (.send d q (par h)) (h / 2) 0 = sendPay m c d q h := by
  show sendPay m c d q (2 * (h / 2) + (par h).val) = _; rw [two_div_par]
/-- on arrival, -/
theorem pay_recv (h : ℕ) : payOf m c (.recv d q (par h)) (h / 2) 0 = recvPay m c d q h := by
  show recvPay m c d q (2 * (h / 2) + (par h).val) = _; rw [two_div_par]
/-- and on a fetch. -/
theorem pay_xf (h : ℕ) : payOf m c (.xf d q (par h)) (h / 2) 0 = fetchPay m c d q h := by
  show fetchPay m c d q (2 * (h / 2) + (par h).val) = _; rw [two_div_par]

/-- A wait for a transfer is a wait for its units. -/
theorem wait_eq (c : Dev nD) {sp sp' : Space} {sem : DmaSem sig} {src : Memref sig .tc sp' S128x1024 .f32} {dst : Memref sig .tc sp S128x1024 .f32}
    {hsrc : src.view.WordExact} {hdst : dst.view.WordExact} (hd : dst.view.dmaCredit = N) (Q : PUnit → sProp 𝕄) :
    wpE (defs₀ (F := F)) 𝒱₀ (c : Thread nD τ) none Set.univ (.waitDma2 sem src dst hsrc hdst) Q = waitSpec (c : Thread nD τ) Set.univ (.dma sem) N Q :=
  (wpE_waitDma2_eq 𝒱₀ (c : Thread nD τ) none Set.univ Q).trans (congrArg (fun n => waitSpec (c : Thread nD τ) Set.univ (.dma sem) n Q) hd)

/-- The source comes back once hop `h` has left. -/
theorem wp_waitSend {O : CellTallies nD τ sig ℕ} {h : ℕ} (hh : h < 14) (hO : Above 0 O) (Q : PUnit → sProp 𝕄) :
    iprop(Rec m K ιs ∗ cred (tallyAt (sendC c d (par h) q) 0 N) ∗ Ow c O ∗ pos (sendC c d (par h) q) (h / 2))
      ⊢ iprop(((Ow c O ∗ pos (sendC c d (par h) q) (h / 2 + 1) ∗ sendPay m c d q h) -∗ Q ⟨⟩) -∗ Wp c (waitSend c d q h) Q) := by
  rw [← pay_send]
  cases h with
  | zero => exact step_wait m K ιs c (.send d q (par 0)) (0 / 2) 0 hO (by omega) (duties_send d q hh) rfl (wait_eq c (credit_x c d 0 q)) Q
  | succ h => exact step_wait m K ιs c (.send d q (par (h + 1))) ((h + 1) / 2) 0 hO (by omega) (duties_send d q hh) rfl (wait_eq c (credit_comm d (par h) q)) Q

/-- The slot comes with the arrival of hop `h`. -/
theorem wp_waitRecv {O : CellTallies nD τ sig ℕ} {h : ℕ} (hh : h < 14) (hO : Above (ix d q h) O) (Q : PUnit → sProp 𝕄) :
    iprop(Rec m K ιs ∗ recvCr c d q h ∗ Ow c O ∗ pos (recvC c d (par h) q) (h / 2))
      ⊢ iprop(((Ow c O ∗ pos (recvC c d (par h) q) (h / 2 + 1) ∗ recvPay m c d q h) -∗ Q ⟨⟩) -∗ Wp c (waitRecv c d q h) Q) := by
  rw [← pay_recv]
  have hi : ix d q h < 200 := by unfold ix; omega
  unfold recvCr
  cases h with
  | zero => exact step_wait m K ιs c (.recv d q (par 0)) (0 / 2) _ hO hi (duties_recv d q hh) rfl (wait_eq c (credit_comm d 0 q)) Q
  | succ h => exact step_wait m K ιs c (.recv d q (par (h + 1))) ((h + 1) / 2) _ hO hi (duties_recv d q hh) rfl (wait_eq c (credit_comm d (par (h + 1)) q)) Q

/-- The fetched part comes with its place. -/
theorem wp_waitFetch {O : CellTallies nD τ sig ℕ} {h : ℕ} (hh : h < 7) (hO : Above 0 O) (Q : PUnit → sProp 𝕄) :
    iprop(Rec m K ιs ∗ cred (tallyAt (xC c d (par h) q) 0 N) ∗ Ow c O ∗ pos (xC c d (par h) q) (h / 2))
      ⊢ iprop(((Ow c O ∗ pos (xC c d (par h) q) (h / 2 + 1) ∗ fetchPay m c d q h) -∗ Q ⟨⟩) -∗ Wp c (waitFetch c d q h) Q) := by
  rw [← pay_xf]
  exact step_wait m K ιs c (.xf d q (par h)) (h / 2) 0 hO (by omega) (duties_xf d q hh) rfl (wait_eq c (credit_xbuf (strm d q) (par h))) Q

/-- The finished part of the result comes with the slot's half share. -/
theorem wp_waitCopy {O : CellTallies nD τ sig ℕ} {j : ℕ} (hj : j < 8) (hO : Above 0 O) (Q : PUnit → sProp 𝕄) :
    iprop(Rec m K ιs ∗ cred (tallyAt (copyC c d q) 0 N) ∗ Ow c O ∗ pos (copyC c d q) j)
      ⊢ iprop(((Ow c O ∗ pos (copyC c d q) (j + 1) ∗ copyPay m c d q j) -∗ Q ⟨⟩) -∗ Wp c (waitCopy c d q j) Q) :=
  step_wait m K ιs c (.copy d q) j 0 hO (by omega) (duties_copy d q hj) rfl (wait_eq c (credit_o c d (mod8 j) q)) Q

/-! ## The transfers -/

/-- Starting a fetch gives up the part and the place. -/
theorem wp_fetch {h : ℕ} (hh : h < 7) (Q : PUnit → sProp 𝕄) :
    iprop(Rec m K ιs ∗ ownsTc c (xSl c d (mod8 (h + 1)) q) fullShare (xv m c d (mod8 (h + 1)) q) ∗ (∃ Y, ownsTc c (xbufSl (strm d q) (par h)) fullShare Y)
        ∗ fetchTok c d q h ∗ reached ER (xC c d (par h) q) (h / 2))
      ⊢ iprop((cred (tallyAt (xC c d (par h) q) 0 N) -∗ Q ⟨⟩) -∗ Wp c (fetch c d q h) Q) :=
  step_copy m K ιs c (.xf d q (par h)) (h / 2) (duties_xf d q hh) rfl (credit_xbuf (strm d q) (par h)) rfl
    (by rw [pay_xf]; unfold fetchPay; exact BI.Entails.refl _) Q

/-- Starting a copy to the result gives up half a share of the slot and the part. -/
theorem wp_copyOut {j : ℕ} (hj : j < 8) (Q : PUnit → sProp 𝕄) :
    iprop(Rec m K ιs ∗ ownsTc c (commSl d (par j) q) fullShare.right (sent m d q (j + 7) c) ∗ (∃ Y, ownsTc c (oSl c d (mod8 j) q) fullShare Y)
        ∗ copyTok c d q j ∗ reached ER (copyC c d q) j)
      ⊢ iprop((cred (tallyAt (copyC c d q) 0 N) -∗ Q ⟨⟩) -∗ Wp c (copyOut c d q j) Q) :=
  step_copy m K ιs c (.copy d q) j (duties_copy d q hj) rfl (credit_o c d (mod8 j) q) rfl (BI.Entails.refl _) Q

/-- The first hop starts from the argument once the receiver is ready, -/
theorem wp_send_zero {O : CellTallies nD τ sig ℕ} (Q : PUnit → sProp 𝕄) :
    iprop(Rec m K ιs ∗ ownsTc c (xSl c d 0 q) fullShare (xv m c d 0 q) ∗ ready (nbr c d) d q 0 ∗ hopTok c d q 0 ∗ reached ER (sendC c d (par 0) q) 0
        ∗ Ow c (O + Sd c d q 0))
      ⊢ iprop(((cred (tallyAt (sendC c d (par 0) q) 0 N) ∗ Ow c O) -∗ Q ⟨⟩) -∗ Wp c (startHop c d q 0) Q) := by
  unfold ready hopTok
  iintro ⟨#HR, Hx, ⟨#Hrel, #Hrea⟩, ⟨Ht, Ht', Hw⟩, #Hr, HO⟩ Hk
  iapply (Wp_fupd c)
  imod (step_take m K ιs (nbr c d, d, q, par 0) (0 / 2 + 1)) $$ [Hw] with Hs
  · isplitr; · iexact HR
    isplitr; · iexact Hrel
    iexact Hw
  imodintro
  unfold Sl Sd
  have hst := step_send m K ιs c (nbr c d) (.send d q (par 0)) (.recv d q (par 0)) 0 0 (ix d q 0) rfl rfl rfl rfl (src := xSl c d 0 q) (dst := commSl d 0 q)
    (credit_comm d 0 q) (sem := sendS d 0 q) (sem' := recvS d 0 q) rfl rfl (hsc := rfl) (hsrc := View.wordExact_bits rfl)
    (hdst := (View.wordExact_bits rfl).reshape _ _) (hsem := ⟨⟨rfl, Or.inl rfl⟩, trivial⟩)
    (X := xv m c d 0 q) (sh := fullShare) (by exact BI.Entails.refl _)
    (by show _ ⊢ recvPay m (nbr c d) d q 0; unfold recvPay; rw [ups_nbr]; exact BI.Entails.refl _) (O := O) Q
  iapply hst $$ [Hx Hs HO Ht Ht']
  · isplitr; · iexact HR
    isplitl [Hx]; · iexact Hx
    isplitl [Hs]; · iexact Hs
    isplitl [HO]; · iexact HO
    isplitl [Ht]; · iexact Ht
    isplitr; · iexact Hr
    isplitl [Ht']; · iexact Ht'
    iexact Hrea
  iexact Hk

/-- The transfer alone of hop `h + 1`. -/
def sendHop (c : Dev nD) (d : Bool) (q : Fin 4) (h : ℕ) : Prog (E F) PUnit :=
  Prog.lift (.enqueueDma (commSl d (par h) q) (.remote (Dev.tc (nbr c d)) (commSl d (par (h + 1)) q) (.dma (sendS d (par (h + 1)) q)))
      (.dma (recvS d (par (h + 1)) q))
      ((View.wordExact_bits rfl).reshape _ _) ((View.wordExact_bits rfl).reshape _ _) ⟨⟨rfl, Or.inl rfl⟩, trivial⟩)

/-- a later one from half a share of the slot before. -/
theorem wp_send_succ {O : CellTallies nD τ sig ℕ} {h : ℕ} (hh : h + 1 < 14) (Q : PUnit → sProp 𝕄) :
    iprop(Rec m K ιs ∗ ownsTc c (commSl d (par h) q) fullShare.left (sent m d q (h + 1) c) ∗ ready (nbr c d) d q (h + 1) ∗ hopTok c d q (h + 1)
        ∗ reached ER (sendC c d (par (h + 1)) q) ((h + 1) / 2) ∗ Ow c (O + Sd c d q (h + 1)))
      ⊢ iprop(((cred (tallyAt (sendC c d (par (h + 1)) q) 0 N) ∗ Ow c O) -∗ Q ⟨⟩) -∗ Wp c (sendHop c d q h) Q) := by
  unfold ready hopTok
  iintro ⟨#HR, Hx, ⟨#Hrel, #Hrea⟩, ⟨Ht, Ht', Hw⟩, #Hr, HO⟩ Hk
  iapply (Wp_fupd c)
  imod (step_take m K ιs (nbr c d, d, q, par (h + 1)) ((h + 1) / 2 + 1)) $$ [Hw] with Hs
  · isplitr; · iexact HR
    isplitr; · iexact Hrel
    iexact Hw
  imodintro
  unfold Sl Sd
  have hst := step_send m K ιs c (nbr c d) (.send d q (par (h + 1))) (.recv d q (par (h + 1))) ((h + 1) / 2) ((h + 1) / 2) (ix d q (h + 1))
    (duties_send d q hh) rfl (duties_recv d q hh) rfl (src := commSl d (par h) q) (dst := commSl d (par (h + 1)) q)
    (credit_comm d (par (h + 1)) q) (sem := sendS d (par (h + 1)) q) (sem' := recvS d (par (h + 1)) q) rfl rfl (hsc := rfl) (hsrc := (View.wordExact_bits rfl).reshape _ _)
    (hdst := (View.wordExact_bits rfl).reshape _ _) (hsem := ⟨⟨rfl, Or.inl rfl⟩, trivial⟩)
    (X := sent m d q (h + 1) c) (sh := fullShare.left) (by rw [pay_send]; exact BI.Entails.refl _)
    (by rw [pay_recv]; unfold recvPay; rw [ups_nbr]) (O := O) Q
  iapply hst $$ [Hx Hs HO Ht Ht']
  · isplitr; · iexact HR
    isplitl [Hx]; · iexact Hx
    isplitl [Hs]; · iexact Hs
    isplitl [HO]; · iexact HO
    isplitl [Ht]; · iexact Ht
    isplitr; · iexact Hr
    isplitl [Ht']; · iexact Ht'
    iexact Hrea
  iexact Hk

/-! ## The credits -/

/-- Credit `k` is signalled to the sender once the slot is free. -/
theorem wp_credit {O : CellTallies nD τ sig ℕ} {k : ℕ} (hk : k < 12) (hO : Above (ix d q (k + 1)) O) (Q : PUnit → sProp 𝕄) :
    iprop(Rec m K ιs ∗ creds c d q k ∗ credCr c d q k ∗ Ow c O)
      ⊢ iprop(((Ow c O ∗ creds c d q (k + 1) ∗ ready (nbr c d) d q (k + 2)) -∗ Q ⟨⟩) -∗ Wp c (semWaitWord (credS d q) 1#32) Q) := by
  have hi : ix d q (k + 1) < 200 := by unfold ix; omega
  have hdut : (Rd m).duties (credC c d q) 0 = Finset.range 12 := duties_kind m c (.cred d q) 0
  have hexp : (Rd m).expect (credC c d q) 0 = 12 := by rw [show credC c d q = ((c : Thread nD τ), Kind.sem (.cred d q)) from rfl, expect_kind]; rfl
  have hpay : ∀ j, (Rd m).payload (credC c d q) 0 j = credPay c d q j := fun j => payload_kind m c (.cred d q) 0 j
  have hunion : ∀ T S : Finset ℕ, T ⊆ S → iprop((bigSep T fun j => credPay c d q j) ∗ bigSep (S \ T) fun j => (Rd m).payload (credC c d q) 0 j)
      ⊢ (bigSep S fun j => credPay c d q j : sProp 𝕄) := fun T S hTS => by
    rw [bigSep_congr (fun j _ => hpay j)]
    conv_rhs => rw [← Finset.union_sdiff_of_subset hTS]
    rw [bigSep_union Finset.disjoint_sdiff]
    exact BI.Entails.refl _
  have hready : ∀ S : Finset ℕ, (∃ j ∈ S, k ≤ j) → (bigSep S fun j => credPay c d q j) ⊢ ready (F := F) (nbr c d) d q (k + 2) := fun S ⟨j, hj, hkj⟩ =>
    BI.Entails.trans (bigSep_elim hj) (credPay_ready c d q hkj)
  unfold Ow
  rw [show creds (F := F) c d q k = iprop(∃ T : Finset ℕ, ⌜T ⊆ Finset.range 12 ∧ k + (Finset.range 12 \ T).card ≤ 12⌝ ∗ atPos ER (credC c d q) 0 T k ∗ bigSep T fun k => credPay c d q k) from if_pos hk]
  unfold credCr
  iintro ⟨#HR, ⟨%T, %hT, Hat, #HT⟩, Hc, ⟨%W, HO⟩⟩ Hk
  by_cases hk1 : k + 1 < 12
  · iapply (Rounds.wp_wait 𝒱₀ ER (Rd m) (c : Thread nD τ) none (κ := K (c, .cred d q)) (k' := 1) (wpE_semWait_eq 𝒱₀ (c : Thread nD τ) none Set.univ) (Set.mem_univ _)
      (cr := Finsupp.single (ix d q (k + 1)) 1) (O := O) (W := W) {(.reg (credS d q), ix d q (k + 1))} (R := 0) (m := k) (T := T)
      (Util.total_single _ _) (image_single_subset _ _ _)) $$ [Hat Hc HO]
    · isplitr; · iapply (Rec_inv m K ιs c (.cred d q)); iexact HR
      isplitl [Hc]; · iexact Hc
      isplitl [HO]; · iexact HO
      isplitr; · iapply (hO.mayWait hi c (.reg (credS d q))); iapply (Rec_lev m K ιs); iexact HR
      iexact Hat
    iintro %S ⟨%hS, HO, Hat, Hp⟩
    rw [hdut, hexp] at hS
    ihave #HS := (hunion T S hS.1) $$ [Hp]
    · isplitr; · iexact HT
      iexact Hp
    iapply (Wp_ret c)
    iapply Hk
    isplitl [HO]; · iexists _; iexact HO
    isplitl [Hat]
    · unfold creds; rw [if_pos hk1]
      iexists S
      isplitr; · ipureintro; exact ⟨hS.2.1, hS.2.2⟩
      isplitl [Hat]; · iexact Hat
      iexact HS
    · iapply (hready S ?_)
      · by_contra hn
        have hsub : Finset.Ico k 12 ⊆ Finset.range 12 \ S := fun j hj => by
          rw [Finset.mem_Ico] at hj
          rw [Finset.mem_sdiff, Finset.mem_range]
          exact ⟨hj.2, fun h => hn ⟨j, h, hj.1⟩⟩
        have hcard := Finset.card_le_card hsub
        rw [Nat.card_Ico] at hcard
        have := hS.2.2
        omega
      · iexact HS
  · have hk11 : k = 11 := by omega
    iapply (Rounds.wp_wait_rest_token 𝒱₀ ER (Rd m) (c : Thread nD τ) none (κ := K (c, .cred d q)) (k' := 1) (wpE_semWait_eq 𝒱₀ (c : Thread nD τ) none Set.univ) (Set.mem_univ _)
      (ix d q (k + 1)) (O := O) (W := W) (R := 0) (m := k) (T := T) (by rw [hexp, hk11])) $$ [Hat Hc HO]
    · isplitr; · iapply (Rec_inv m K ιs c (.cred d q)); iexact HR
      isplitl [Hc]; · iexact Hc
      isplitl [HO]; · iexact HO
      isplitr; · iapply (hO.mayWait hi c (.reg (credS d q))); iapply (Rec_lev m K ιs); iexact HR
      iexact Hat
    iintro ⟨HO, Hat, -, Hp⟩
    rw [hdut]
    ihave #HS := (hunion T (Finset.range 12) hT.1) $$ [Hp]
    · isplitr; · iexact HT
      iexact Hp
    iapply (Wp_ret c)
    iapply Hk
    isplitl [HO]; · iexists _; iexact HO
    isplitl [Hat]
    · unfold creds; rw [if_neg hk1]; iexact Hat
    · iapply (hready (Finset.range 12) ⟨k, Finset.mem_range.mpr hk, le_refl k⟩); iexact HS

end Waits

end Cert.RingSum
-- ==== Proof.Hop.lean ====
/-
# One hop

What a device holds of a stream between two hops, and that each hop leads from one such state to the next.
-/
module

public import proofs.«01_k».proof.Proof.Parts

@[expose] public section

noncomputable section

namespace Cert.RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (K : Dev nD × Kind → ℕ) (ιs : Key → ℕ)

/-! ## The shapes of a hop -/

section Shapes
variable (c : Dev nD) (d : Bool) (q : Fin 4)

/-- From the third hop on a credit is waited for. -/
theorem startHop_add_two (h : ℕ) :
    startHop (F := F) c d q (h + 2) = (do semWaitWord (credS d q) 1#32; sendHop c d q (h + 1)) := by
  show (if 1 ≤ h + 1 then (semWaitWord (credS d q) 1#32 >>= fun _ => sendHop c d q (h + 1)) else sendHop c d q (h + 1)) = _
  rw [if_pos (show 1 ≤ h + 1 by omega)]

/-- The operations of hop 0, -/
theorem hop_zero : hop (F := F) c d q 0 = (do
    waitSend c d q 0
    fetch c d q 1
    waitRecv c d q 0
    waitFetch c d q 0
    addIn d q 0
    sendHop c d q 0) := rfl

/-- of hops 1 to 5, which add, -/
theorem hop_add {i : ℕ} (hi : i < 5) : hop (F := F) c d q (i + 1) = (do
    waitSend c d q (i + 1)
    semSignalWord (nbr c (!d)) (credS d q) 1#32
    fetch c d q (i + 2)
    waitRecv c d q (i + 1)
    waitFetch c d q (i + 1)
    addIn d q (i + 1)
    semWaitWord (credS d q) 1#32
    sendHop c d q (i + 1)) := by
  unfold hop
  rw [if_neg (show ¬ 7 ≤ i + 1 by omega), if_pos (show 1 ≤ i + 1 ∧ i + 1 < 13 by omega), if_pos (show i + 1 < 6 by omega), if_pos (show i + 1 < 7 by omega),
   if_neg (show ¬ 6 ≤ i + 1 by omega), if_pos (show i + 1 < 13 by omega), startHop_add_two]

/-- of hop 6, which adds and copies the first finished part, -/
theorem hop_six : hop (F := F) c d q 6 = (do
    waitSend c d q 6
    semSignalWord (nbr c (!d)) (credS d q) 1#32
    waitRecv c d q 6
    waitFetch c d q 6
    addIn d q 6
    copyOut c d q 0
    semWaitWord (credS d q) 1#32
    sendHop c d q 6) := rfl

/-- of hops 7 to 12, which pass finished parts on, -/
theorem hop_pass {j : ℕ} (hj : j < 6) : hop (F := F) c d q (j + 7) = (do
    waitSend c d q (j + 7)
    waitCopy c d q j
    semSignalWord (nbr c (!d)) (credS d q) 1#32
    waitRecv c d q (j + 7)
    copyOut c d q (j + 1)
    semWaitWord (credS d q) 1#32
    sendHop c d q (j + 7)) := by
  unfold hop
  rw [if_pos (show 7 ≤ j + 7 by omega), if_pos (show 1 ≤ j + 7 ∧ j + 7 < 13 by omega), if_neg (show ¬ j + 7 < 6 by omega), if_neg (show ¬ j + 7 < 7 by omega),
   if_pos (show 6 ≤ j + 7 by omega), if_pos (show j + 7 < 13 by omega), show j + 7 + 1 = (j + 6) + 2 from rfl, startHop_add_two]
  rfl

/-- and of hop 13. -/
theorem hop_last : hop (F := F) c d q 13 = (do
    waitSend c d q 13
    waitCopy c d q 6
    waitRecv c d q 13
    copyOut c d q 7) := by
  unfold hop
  rw [if_pos (show 7 ≤ 13 by omega), if_neg (show ¬ (1 ≤ 13 ∧ 13 < 13) by omega), if_neg (show ¬ 13 < 6 by omega), if_neg (show ¬ 13 < 7 by omega),
   if_pos (show 6 ≤ 13 by omega), if_neg (show ¬ 13 < 13 by omega)]
  rfl

end Shapes

/-! ## What a device holds of a stream between hops -/

/-- The owner's places at a pair of cells used in turn, `h` rounds of the two together behind it. -/
def two (g : Fin 2 → GSem nD τ sig) (h : ℕ) : sProp 𝕄 := iprop(pos (g (par h)) (h / 2) ∗ pos (g (par (h + 1))) ((h + 1) / 2))

/-- One round further at the cell whose turn it is. -/
theorem two_step (g : Fin 2 → GSem nD τ sig) (h : ℕ) :
    iprop(pos (g (par h)) (h / 2 + 1) ∗ pos (g (par (h + 1))) ((h + 1) / 2)) ⊢ (two g (h + 1) : sProp 𝕄) := by
  unfold two
  rw [show h + 1 + 1 = h + 2 from rfl, par_add_two, show (h + 2) / 2 = h / 2 + 1 by omega]
  iintro ⟨H1, H2⟩
  isplitl [H2] <;> iassumption

section State
variable (c : Dev nD) (d : Bool) (q : Fin 4)

/-- The device's places at the cells where hops leave, -/
def sPos (h : ℕ) : sProp 𝕄 := two (fun p => sendC c d p q) h
/-- where they arrive -/
def rPos (h : ℕ) : sProp 𝕄 := two (fun p => recvC c d p q) h
/-- and where fetches end. -/
def xPos (h : ℕ) : sProp 𝕄 := two (fun p => xC c d p q) h

/-- The places at a pair, and that the other cell has reached its round; -/
theorem two_open (g : Fin 2 → GSem nD τ sig) (h : ℕ) :
    (two g h : sProp 𝕄) ⊢ iprop(pos (g (par h)) (h / 2) ∗ pos (g (par (h + 1))) ((h + 1) / 2) ∗ reached ER (g (par (h + 1))) ((h + 1) / 2)) := by
  unfold two pos
  iintro ⟨H1, H2, #H3⟩
  isplitl [H1]; · iexact H1
  isplitl [H2]
  · isplitl [H2]; · iexact H2
    iexact H3
  iexact H3

/-- so where hops leave, -/
theorem sPos_open (h : ℕ) : (sPos c d q h : sProp 𝕄) ⊢ iprop(pos (sendC c d (par h) q) (h / 2) ∗ pos (sendC c d (par (h + 1)) q) ((h + 1) / 2)
    ∗ reached ER (sendC c d (par (h + 1)) q) ((h + 1) / 2)) := two_open _ h
/-- where they arrive -/
theorem rPos_open (h : ℕ) : (rPos c d q h : sProp 𝕄) ⊢ iprop(pos (recvC c d (par h) q) (h / 2) ∗ pos (recvC c d (par (h + 1)) q) ((h + 1) / 2)
    ∗ reached ER (recvC c d (par (h + 1)) q) ((h + 1) / 2)) := two_open _ h
/-- and where fetches end. -/
theorem xPos_open (h : ℕ) : (xPos c d q h : sProp 𝕄) ⊢ iprop(pos (xC c d (par h) q) (h / 2) ∗ pos (xC c d (par (h + 1)) q) ((h + 1) / 2)
    ∗ reached ER (xC c d (par (h + 1)) q) ((h + 1) / 2)) := two_open _ h
/-- One hop further where they leave, -/
theorem sPos_step (h : ℕ) : iprop(pos (sendC c d (par h) q) (h / 2 + 1) ∗ pos (sendC c d (par (h + 1)) q) ((h + 1) / 2)) ⊢ (sPos c d q (h + 1) : sProp 𝕄) :=
  two_step (fun p => sendC c d p q) h
/-- where they arrive -/
theorem rPos_step (h : ℕ) : iprop(pos (recvC c d (par h) q) (h / 2 + 1) ∗ pos (recvC c d (par (h + 1)) q) ((h + 1) / 2)) ⊢ (rPos c d q (h + 1) : sProp 𝕄) :=
  two_step (fun p => recvC c d p q) h
/-- and one fetch further. -/
theorem xPos_step (h : ℕ) : iprop(pos (xC c d (par h) q) (h / 2 + 1) ∗ pos (xC c d (par (h + 1)) q) ((h + 1) / 2)) ⊢ (xPos c d q (h + 1) : sProp 𝕄) :=
  two_step (fun p => xC c d p q) h

/-- The reader's count of the slot of hop `h`, released for that hop. -/
def rd (h : ℕ) : sProp 𝕄 := readerAt ES (c, d, q, par h) (h / 2 + 1)

/-- The credit of a started send, fetch, copy. -/
abbrev sCr (h : ℕ) : sProp 𝕄 := cred (tallyAt (sendC c d (par h) q) 0 N)
/-- The credit of a started fetch, -/
abbrev xCr (h : ℕ) : sProp 𝕄 := cred (tallyAt (xC c d (par h) q) 0 N)
/-- and of a started copy. -/
abbrev cCr : sProp 𝕄 := cred (tallyAt (copyC c d q) 0 N)

/-- The place fetch `h` lands in, -/
abbrev xb (h : ℕ) : sProp 𝕄 := iprop(∃ Y, ownsTc c (xbufSl (strm d q) (par h)) fullShare Y)
/-- the argument's part `k` chunks behind, -/
abbrev xs (k : ℕ) : sProp 𝕄 := ownsTc c (xSl c d (mod8 k) q) fullShare (xv m c d (mod8 k) q)
/-- and part `j` of the result, before and after its copy. -/
abbrev os (j : ℕ) : sProp 𝕄 := iprop(∃ Y, ownsTc c (oSl c d (mod8 j) q) fullShare Y)
/-- Part `j` of the result, finished. -/
abbrev od (j : ℕ) : sProp 𝕄 := ownsTc c (oSl c d (mod8 j) q) fullShare (sent m d q (j + 7) c)

/-- Before hop 0; -/
def live0 : sProp 𝕄 :=
  iprop(sCr c d q 0 ∗ sPos c d q 0 ∗ rPos c d q 0 ∗ xPos c d q 0 ∗ xCr c d q 0 ∗ xb c d q 1 ∗ pos (copyC c d q) 0 ∗ creds c d q 0
    ∗ rd c d q 0 ∗ rd c d q 1 ∗ ready c d q 1 ∗ ready (nbr c d) d q 1)
/-- before hop `i + 1`, `i ≤ 5`; -/
def liveAdd (i : ℕ) : sProp 𝕄 :=
  iprop(sCr c d q (i + 1) ∗ sPos c d q (i + 1) ∗ rPos c d q (i + 1) ∗ xPos c d q (i + 1) ∗ xCr c d q (i + 1) ∗ xb c d q i ∗ pos (copyC c d q) 0 ∗ creds c d q i
    ∗ rd c d q i ∗ rd c d q (i + 1) ∗ ready c d q (i + 1) ∗ ownsTc c (commSl d (par i) q) fullShare.right (sent m d q (i + 1) c))
/-- before hop `j + 7`, `j ≤ 6`; -/
def livePass (j : ℕ) : sProp 𝕄 :=
  iprop(sCr c d q (j + 7) ∗ sPos c d q (j + 7) ∗ rPos c d q (j + 7) ∗ xPos c d q 7 ∗ xb c d q 0 ∗ xb c d q 1 ∗ pos (copyC c d q) j ∗ cCr c d q ∗ creds c d q (j + 6)
    ∗ rd c d q (j + 6) ∗ rd c d q (j + 7) ∗ ready c d q (j + 7))
/-- after hop 13. -/
def liveEnd : sProp 𝕄 :=
  iprop(sPos c d q 14 ∗ rPos c d q 14 ∗ xPos c d q 7 ∗ xb c d q 0 ∗ xb c d q 1 ∗ pos (copyC c d q) 7 ∗ cCr c d q ∗ creds c d q 12
    ∗ ownsTc c (commSl d 1 q) fullShare.left (sent m d q 14 c) ∗ Sl (c, d, q, 0))

end State

/-! ## The hops -/

section Hops
variable (c : Dev nD) (d : Bool) (q : Fin 4)

/-- What is sent after a hop that adds, -/
theorem sent_add {h : ℕ} (hh : h < 7) : sent m d q (h + 1) c = addS (sent m d q h (ups c d)) (xv m c d (mod8 (h + 1)) q) := if_pos hh
/-- and after one that passes on. -/
theorem sent_pass {h : ℕ} (hh : ¬ h < 7) : sent m d q (h + 1) c = sent m d q h (ups c d) := if_neg hh

/-- Handing the slot of hop `h` back makes the device ready for hop `h + 2`. -/
theorem hand_back (h : ℕ) :
    iprop(Rec m K ιs ∗ rd c d q h ∗ Sl (c, d, q, par h) ∗ reached ER (recvC c d (par (h + 2)) q) ((h + 2) / 2))
      ⊢ iprop(|={Set.univ}=> (rd c d q (h + 2) ∗ ready c d q (h + 2)) : sProp 𝕄) := by
  unfold rd ready
  rw [par_add_two, show (h + 2) / 2 = h / 2 + 1 by omega]
  iintro ⟨#HR, Hrd, Hs, #Hr⟩
  imod (step_release m K ιs (c, d, q, par h) (h / 2 + 1)) $$ [Hrd Hs] with ⟨H1, H2⟩
  · isplitr; · iexact HR
    isplitl [Hrd] <;> iassumption
  imodintro
  isplitl [H1]; · iexact H1
  isplitl [H2]; · iexact H2
  iexact Hr

/-- Signalling credit `k`. -/
theorem wp_signalCred {O : CellTallies nD τ sig ℕ} {k : ℕ} (hk : k < 12) (Q : PUnit → sProp 𝕄) :
    iprop(Rec m K ιs ∗ Ow c (O + Cr c d q k) ∗ credTok c d q k ∗ ready c d q (k + 2) ∗ ready c d q (k + 1))
      ⊢ iprop((Ow c O -∗ Q ⟨⟩) -∗ Wp c (semSignalWord (nbr c (!d)) (credS d q) 1#32) Q) := by
  have h := step_signal m K ιs c (ups c d) (.cred d q) k (ix d q (k + 1)) (Finset.mem_range.mpr hk) rfl (sem := credS d q) rfl (O := O) Q
  unfold Cr credTok
  refine BIBase.Entails.trans ?_ h
  show _ ⊢ iprop(_ ∗ _ ∗ _ ∗ credPay (ups c d) d q k)
  unfold credPay
  rw [nbr_ups]
  exact BI.Entails.refl _

/-- A whole share as two halves, -/
theorem halves {sp : Space} (M : Memref sig .tc sp S128x1024 .f32) (X : V F) :
    (ownsTc c M fullShare X : sProp 𝕄) ⊢ iprop(ownsTc c M fullShare.left X ∗ ownsTc c M fullShare.right X) :=
  (owns_halves (c : Thread nD τ) M fullShare X).1
/-- and back. -/
theorem rejoin {sp : Space} (M : Memref sig .tc sp S128x1024 .f32) (X : V F) :
    iprop(ownsTc c M fullShare.left X ∗ ownsTc c M fullShare.right X) ⊢ (ownsTc c M fullShare X : sProp 𝕄) :=
  (owns_halves (c : Thread nD τ) M fullShare X).2

/-- What comes back once a hop has left: after hop 0 the argument's part, -/
theorem sent_back_zero : sendPay m c d q 0 ⊢ xs m c d q 0 := BI.Entails.refl _
/-- later half a share of the slot. -/
theorem sent_back (h : ℕ) : sendPay m c d q (h + 1) ⊢ ownsTc c (commSl d (par h) q) fullShare.left (sent m d q (h + 1) c) := BI.Entails.refl _

/-- The sum of what arrived with the fetched part, split for the send and for later. -/
theorem wp_sum {h : ℕ} (hh : h < 7) (Q : PUnit → sProp 𝕄) :
    iprop(recvPay m c d q h ∗ fetchPay m c d q h)
      ⊢ iprop(((ownsTc c (commSl d (par h) q) fullShare.left (sent m d q (h + 1) c) ∗ ownsTc c (commSl d (par h) q) fullShare.right (sent m d q (h + 1) c)
            ∗ xb c d q h ∗ xs m c d q (h + 1)) -∗ Q ⟨⟩) -∗ Wp c (addIn d q h) Q) := by
  unfold recvPay fetchPay xb xs
  rw [sent_add m c d q hh]
  iintro ⟨Ha, Hb, Hx⟩ Hk
  iapply (step_add c d q h) $$ [Ha Hb]
  · isplitl [Ha] <;> iassumption
  iintro ⟨Ha, Hb⟩
  iapply Hk
  ihave Ha := (halves c (commSl d (par h) q) _) $$ Ha
  icases Ha with ⟨Hl, Hr⟩
  isplitl [Hl]; · iexact Hl
  isplitl [Hr]; · iexact Hr
  isplitl [Hb]; · iexists _; iexact Hb
  iexact Hx

/-- Hop 0. -/
theorem hop0_wp {R : CellTallies nD τ sig ℕ} (hR : Above (ix d q 0) R) (Q : PUnit → sProp 𝕄) :
    iprop(Rec m K ιs ∗ live0 c d q ∗ Ow c (R + Sd c d q 1)
        ∗ hopTok c d q 1 ∗ fetchTok c d q 1 ∗ recvCr c d q 0 ∗ xs m c d q 2)
      ⊢ iprop(((liveAdd m c d q 0 ∗ Ow c R ∗ xs m c d q 0 ∗ xs m c d q 1) -∗ Q ⟨⟩) -∗ Wp c (hop c d q 0) Q) := by
  have hS : Above (ix d q 0) (Sd c d q 1) := Above.tally _ _ _ _ (by unfold ix; omega) (by unfold ix; omega)
  have hO : Above (ix d q 0) (R + Sd c d q 1) := hR.add hS
  have hO0 : Above 0 (R + Sd c d q 1) := hO.mono (Nat.zero_le _)
  rw [hop_zero]
  simp only [Wp_bind]
  unfold live0
  iintro ⟨#HR, ⟨HcS, HsP, HrP, HxP, HcX, Hxb, Hcp, Hcr, Hrd0, Hrd1, #Hrdy, #HrdyN⟩, HO, Htok, Hft, Hrc, Hxs⟩ Hk
  ihave HsP := (sPos_open c d q 0) $$ HsP
  ihave HrP := (rPos_open c d q 0) $$ HrP
  ihave HxP := (xPos_open c d q 0) $$ HxP
  icases HsP with ⟨HsA, HsB, #HsR⟩
  icases HrP with ⟨HrA, HrB, -⟩
  icases HxP with ⟨HxA, HxB, #HxR⟩
  iapply (wp_waitSend m K ιs c d q (h := 0) (by omega) hO0) $$ [HcS HO HsA]
  · isplitr; · iexact HR
    isplitl [HcS]; · iexact HcS
    isplitl [HO]; · iexact HO
    iexact HsA
  iintro ⟨HO, HsA, Hx0⟩
  iapply (wp_fetch m K ιs c d q (h := 1) (by omega)) $$ [Hxs Hxb Hft]
  · isplitr; · iexact HR
    isplitl [Hxs]; · iexact Hxs
    isplitl [Hxb]; · iexact Hxb
    isplitl [Hft]; · iexact Hft
    iexact HxR
  iintro HcX1
  iapply (wp_waitRecv m K ιs c d q (h := 0) (by omega) hO) $$ [Hrc HO HrA]
  · isplitr; · iexact HR
    isplitl [Hrc]; · iexact Hrc
    isplitl [HO]; · iexact HO
    iexact HrA
  iintro ⟨HO, HrA, Hgot⟩
  iapply (wp_waitFetch m K ιs c d q (h := 0) (by omega) hO0) $$ [HcX HO HxA]
  · isplitr; · iexact HR
    isplitl [HcX]; · iexact HcX
    isplitl [HO]; · iexact HO
    iexact HxA
  iintro ⟨HO, HxA, Hfet⟩
  iapply (wp_sum m c d q (h := 0) (by omega)) $$ [Hgot Hfet]
  · isplitl [Hgot] <;> iassumption
  iintro ⟨Hl, Hr, Hxb, Hx1⟩
  iapply (wp_send_succ m K ιs c d q (h := 0) (by omega)) $$ [Hl Htok HO]
  · isplitr; · iexact HR
    isplitl [Hl]; · iexact Hl
    isplitr; · iexact HrdyN
    isplitl [Htok]; · iexact Htok
    isplitr; · iexact HsR
    iexact HO
  iintro ⟨HcS, HO⟩
  iapply Hk
  ihave HsP := (sPos_step c d q 0) $$ [HsA HsB]
  · isplitl [HsA] <;> iassumption
  ihave HrP := (rPos_step c d q 0) $$ [HrA HrB]
  · isplitl [HrA] <;> iassumption
  ihave HxP := (xPos_step c d q 0) $$ [HxA HxB]
  · isplitl [HxA] <;> iassumption
  unfold liveAdd
  isplitl [HcS HsP HrP HxP HcX1 Hxb Hcp Hcr Hrd0 Hrd1 Hr]
  · isplitl [HcS]; · iexact HcS
    isplitl [HsP]; · iexact HsP
    isplitl [HrP]; · iexact HrP
    isplitl [HxP]; · iexact HxP
    isplitl [HcX1]; · iexact HcX1
    isplitl [Hxb]; · iexact Hxb
    isplitl [Hcp]; · iexact Hcp
    isplitl [Hcr]; · iexact Hcr
    isplitl [Hrd0]; · iexact Hrd0
    isplitl [Hrd1]; · iexact Hrd1
    isplitr; · iexact Hrdy
    iexact Hr
  isplitl [HO]; · iexact HO
  isplitl [Hx0]; · iapply (sent_back_zero m c d q); iexact Hx0
  iexact Hx1

/-- The slot of hop `i`, whole again, goes back to its writer, with a credit. -/
theorem wp_handBack {O : CellTallies nD τ sig ℕ} {i : ℕ} (hi : i < 12) (X : V F) (Q : PUnit → sProp 𝕄) :
    iprop(Rec m K ιs ∗ ownsTc c (commSl d (par i) q) fullShare.left X ∗ ownsTc c (commSl d (par i) q) fullShare.right X ∗ rd c d q i
        ∗ reached ER (recvC c d (par (i + 2)) q) ((i + 2) / 2) ∗ credTok c d q i ∗ ready c d q (i + 1) ∗ Ow c (O + Cr c d q i))
      ⊢ iprop(((Ow c O ∗ rd c d q (i + 2) ∗ ready c d q (i + 2)) -∗ Q ⟨⟩) -∗ Wp c (semSignalWord (nbr c (!d)) (credS d q) 1#32) Q) := by
  iintro ⟨#HR, Hl, Hr, Hrd, #Hre, Ht, #Hrdy, HO⟩ Hk
  ihave Hs := (rejoin c (commSl d (par i) q) X) $$ [Hl Hr]
  · isplitl [Hl] <;> iassumption
  iapply (Wp_fupd c)
  imod (hand_back m K ιs c d q i) $$ [Hs Hrd] with ⟨Hrd, #Hrdy2⟩
  · isplitr; · iexact HR
    isplitl [Hrd]; · iexact Hrd
    isplitl [Hs]; · unfold Sl; iexists X; iexact Hs
    iexact Hre
  imodintro
  iapply (wp_signalCred m K ιs c d q hi) $$ [HO Ht]
  · isplitr; · iexact HR
    isplitl [HO]; · iexact HO
    isplitl [Ht]; · iexact Ht
    isplitr; · iexact Hrdy2
    iexact Hrdy
  iintro HO
  iapply Hk
  isplitl [HO]; · iexact HO
  isplitl [Hrd]; · iexact Hrd
  iexact Hrdy2

/-- Waiting for credit `i`, then sending hop `i + 2`. -/
theorem wp_onward {R : CellTallies nD τ sig ℕ} {i : ℕ} (hi : i < 12) (hR : Above (ix d q (i + 1)) R) (Q : PUnit → sProp 𝕄) :
    iprop(Rec m K ιs ∗ creds c d q i ∗ credCr c d q i ∗ ownsTc c (commSl d (par (i + 1)) q) fullShare.left (sent m d q (i + 2) c) ∗ hopTok c d q (i + 2)
        ∗ reached ER (sendC c d (par (i + 2)) q) ((i + 2) / 2) ∗ Ow c (R + Sd c d q (i + 2)))
      ⊢ iprop(((sCr c d q (i + 2) ∗ Ow c R ∗ creds c d q (i + 1)) -∗ Q ⟨⟩)
          -∗ Wp c (semWaitWord (credS d q) 1#32) (fun _ => Wp c (sendHop c d q (i + 1)) Q)) := by
  have hO : Above (ix d q (i + 1)) (R + Sd c d q (i + 2)) := hR.add (Above.tally _ _ _ _ (by unfold ix; omega) (by unfold ix; omega))
  iintro ⟨#HR, Hcr, Hcc, Hl, Htok, #HsR, HO⟩ Hk
  iapply (wp_credit m K ιs c d q hi hO) $$ [Hcr Hcc HO]
  · isplitr; · iexact HR
    isplitl [Hcr]; · iexact Hcr
    isplitl [Hcc]; · iexact Hcc
    iexact HO
  iintro ⟨HO, Hcr, #HrdyN⟩
  iapply (wp_send_succ m K ιs c d q (h := i + 1) (by omega)) $$ [Hl Htok HO]
  · isplitr; · iexact HR
    isplitl [Hl]; · iexact Hl
    isplitr; · iexact HrdyN
    isplitl [Htok]; · iexact Htok
    isplitr; · iexact HsR
    iexact HO
  iintro ⟨HcS, HO⟩
  iapply Hk
  isplitl [HcS]; · iexact HcS
  isplitl [HO]; · iexact HO
  iexact Hcr

/-- What is owed during a hop lies above the level its arrival is waited for at. -/
theorem above_hop {R : CellTallies nD τ sig ℕ} {h : ℕ} (hh : h + 1 < 14) (hR : Above (ix d q h) R) : Above (ix d q h) (R + Sd c d q (h + 1)) :=
  hR.add (Above.tally _ _ _ _ (by unfold ix; omega) (by unfold ix; omega))
/-- A debt above level 0 stays so with a credit's debt. -/
theorem above_cred {O : CellTallies nD τ sig ℕ} {i : ℕ} (hi : i < 12) (hO : Above 0 O) : Above 0 (O + Cr c d q i) :=
  hO.add (Above.tally _ _ _ _ (by unfold ix; omega) (by unfold ix; omega))

/-- Hops 1 to 5. -/
theorem hopAdd_wp {R : CellTallies nD τ sig ℕ} {i : ℕ} (hi : i < 5) (hR : Above (ix d q (i + 1)) R) (Q : PUnit → sProp 𝕄) :
    iprop(Rec m K ιs ∗ liveAdd m c d q i ∗ Ow c (R + Sd c d q (i + 2) + Cr c d q i)
        ∗ hopTok c d q (i + 2) ∗ fetchTok c d q (i + 2) ∗ recvCr c d q (i + 1) ∗ xs m c d q (i + 3) ∗ credTok c d q i ∗ credCr c d q i)
      ⊢ iprop(((liveAdd m c d q (i + 1) ∗ Ow c R ∗ xs m c d q (i + 2)) -∗ Q ⟨⟩) -∗ Wp c (hop c d q (i + 1)) Q) := by
  have hO : Above (ix d q (i + 1)) (R + Sd c d q (i + 2)) := above_hop c d q (by omega) hR
  have hO0 : Above 0 (R + Sd c d q (i + 2)) := hO.mono (Nat.zero_le _)
  rw [hop_add c d q hi]
  simp only [Wp_bind]
  unfold liveAdd
  iintro ⟨#HR, ⟨HcS, HsP, HrP, HxP, HcX, Hxb, Hcp, Hcr, Hrd0, Hrd1, #Hrdy, Hr⟩, HO, Htok, Hft, Hrc, Hxs, Hct, Hcc⟩ Hk
  ihave HsP := (sPos_open c d q (i + 1)) $$ HsP
  ihave HrP := (rPos_open c d q (i + 1)) $$ HrP
  ihave HxP := (xPos_open c d q (i + 1)) $$ HxP
  icases HsP with ⟨HsA, HsB, #HsR⟩
  icases HrP with ⟨HrA, HrB, #HrR⟩
  icases HxP with ⟨HxA, HxB, #HxR⟩
  iapply (wp_waitSend m K ιs c d q (h := i + 1) (by omega) (above_cred c d q (i := i) (by omega) hO0)) $$ [HcS HO HsA]
  · isplitr; · iexact HR
    isplitl [HcS]; · iexact HcS
    isplitl [HO]; · iexact HO
    iexact HsA
  iintro ⟨HO, HsA, Hl⟩
  iapply (wp_handBack m K ιs c d q (i := i) (by omega) (sent m d q (i + 1) c)) $$ [Hl Hr Hrd0 Hct HO]
  · isplitr; · iexact HR
    isplitl [Hl]; · iapply (sent_back m c d q i); iexact Hl
    isplitl [Hr]; · iexact Hr
    isplitl [Hrd0]; · iexact Hrd0
    isplitr; · iexact HrR
    isplitl [Hct]; · iexact Hct
    isplitr; · iexact Hrdy
    iexact HO
  iintro ⟨HO, Hrd2, #Hrdy2⟩
  iapply (wp_fetch m K ιs c d q (h := i + 2) (by omega)) $$ [Hxs Hxb Hft]
  · isplitr; · iexact HR
    isplitl [Hxs]; · iexact Hxs
    isplitl [Hxb]; · rw [par_add_two]; iexact Hxb
    isplitl [Hft]; · iexact Hft
    iexact HxR
  iintro HcX1
  iapply (wp_waitRecv m K ιs c d q (h := i + 1) (by omega) hO) $$ [Hrc HO HrA]
  · isplitr; · iexact HR
    isplitl [Hrc]; · iexact Hrc
    isplitl [HO]; · iexact HO
    iexact HrA
  iintro ⟨HO, HrA, Hgot⟩
  iapply (wp_waitFetch m K ιs c d q (h := i + 1) (by omega) hO0) $$ [HcX HO HxA]
  · isplitr; · iexact HR
    isplitl [HcX]; · iexact HcX
    isplitl [HO]; · iexact HO
    iexact HxA
  iintro ⟨HO, HxA, Hfet⟩
  iapply (wp_sum m c d q (h := i + 1) (by omega)) $$ [Hgot Hfet]
  · isplitl [Hgot] <;> iassumption
  iintro ⟨Hl, Hr, Hxb, Hx1⟩
  iapply (wp_onward m K ιs c d q (i := i) (by omega) hR) $$ [Hcr Hcc Hl Htok HO]
  · isplitr; · iexact HR
    isplitl [Hcr]; · iexact Hcr
    isplitl [Hcc]; · iexact Hcc
    isplitl [Hl]; · iexact Hl
    isplitl [Htok]; · iexact Htok
    isplitr; · iexact HsR
    iexact HO
  iintro ⟨HcS, HO, Hcr⟩
  iapply Hk
  ihave HsP := (sPos_step c d q (i + 1)) $$ [HsA HsB]
  · isplitl [HsA] <;> iassumption
  ihave HrP := (rPos_step c d q (i + 1)) $$ [HrA HrB]
  · isplitl [HrA] <;> iassumption
  ihave HxP := (xPos_step c d q (i + 1)) $$ [HxA HxB]
  · isplitl [HxA] <;> iassumption
  isplitl [HcS HsP HrP HxP HcX1 Hxb Hcp Hcr Hrd1 Hrd2 Hr]
  · isplitl [HcS]; · iexact HcS
    isplitl [HsP]; · iexact HsP
    isplitl [HrP]; · iexact HrP
    isplitl [HxP]; · iexact HxP
    isplitl [HcX1]; · iexact HcX1
    isplitl [Hxb]; · iexact Hxb
    isplitl [Hcp]; · iexact Hcp
    isplitl [Hcr]; · iexact Hcr
    isplitl [Hrd1]; · iexact Hrd1
    isplitl [Hrd2]; · iexact Hrd2
    isplitr; · iexact Hrdy2
    iexact Hr
  isplitl [HO]; · iexact HO
  iexact Hx1

/-- Hop 6. -/
theorem hop6_wp {R : CellTallies nD τ sig ℕ} (hR : Above (ix d q 6) R) (Q : PUnit → sProp 𝕄) :
    iprop(Rec m K ιs ∗ liveAdd m c d q 5 ∗ Ow c (R + Sd c d q 7 + Cr c d q 5)
        ∗ hopTok c d q 7 ∗ recvCr c d q 6 ∗ credTok c d q 5 ∗ credCr c d q 5 ∗ copyTok c d q 0 ∗ os c d q 0)
      ⊢ iprop(((livePass c d q 0 ∗ Ow c R ∗ xs m c d q 7) -∗ Q ⟨⟩) -∗ Wp c (hop c d q 6) Q) := by
  have hO : Above (ix d q 6) (R + Sd c d q 7) := above_hop c d q (by omega) hR
  have hO0 : Above 0 (R + Sd c d q 7) := hO.mono (Nat.zero_le _)
  rw [hop_six c d q]
  simp only [Wp_bind]
  unfold liveAdd
  iintro ⟨#HR, ⟨HcS, HsP, HrP, HxP, HcX, Hxb1, Hcp, Hcr, Hrd0, Hrd1, #Hrdy, Hr⟩, HO, Htok, Hrc, Hct, Hcc, Hcpt, Hos⟩ Hk
  ihave HsP := (sPos_open c d q 6) $$ HsP
  ihave HrP := (rPos_open c d q 6) $$ HrP
  ihave HxP := (xPos_open c d q 6) $$ HxP
  icases HsP with ⟨HsA, HsB, #HsR⟩
  icases HrP with ⟨HrA, HrB, #HrR⟩
  icases HxP with ⟨HxA, HxB, -⟩
  iapply (wp_waitSend m K ιs c d q (h := 6) (by omega) (above_cred c d q (i := 5) (by omega) hO0)) $$ [HcS HO HsA]
  · isplitr; · iexact HR
    isplitl [HcS]; · iexact HcS
    isplitl [HO]; · iexact HO
    iexact HsA
  iintro ⟨HO, HsA, Hl⟩
  iapply (wp_handBack m K ιs c d q (i := 5) (by omega) (sent m d q 6 c)) $$ [Hl Hr Hrd0 Hct HO]
  · isplitr; · iexact HR
    isplitl [Hl]; · iapply (sent_back m c d q 5); iexact Hl
    isplitl [Hr]; · iexact Hr
    isplitl [Hrd0]; · iexact Hrd0
    isplitr; · iexact HrR
    isplitl [Hct]; · iexact Hct
    isplitr; · iexact Hrdy
    iexact HO
  iintro ⟨HO, Hrd2, #Hrdy2⟩
  iapply (wp_waitRecv m K ιs c d q (h := 6) (by omega) hO) $$ [Hrc HO HrA]
  · isplitr; · iexact HR
    isplitl [Hrc]; · iexact Hrc
    isplitl [HO]; · iexact HO
    iexact HrA
  iintro ⟨HO, HrA, Hgot⟩
  iapply (wp_waitFetch m K ιs c d q (h := 6) (by omega) hO0) $$ [HcX HO HxA]
  · isplitr; · iexact HR
    isplitl [HcX]; · iexact HcX
    isplitl [HO]; · iexact HO
    iexact HxA
  iintro ⟨HO, HxA, Hfet⟩
  iapply (wp_sum m c d q (h := 6) (by omega)) $$ [Hgot Hfet]
  · isplitl [Hgot] <;> iassumption
  iintro ⟨Hl, Hr, Hxb0, Hx1⟩
  unfold pos
  icases Hcp with ⟨HcpA, #HcpR⟩
  iapply (wp_copyOut m K ιs c d q (j := 0) (by omega)) $$ [Hr Hos Hcpt]
  · isplitr; · iexact HR
    isplitl [Hr]; · iexact Hr
    isplitl [Hos]; · iexact Hos
    isplitl [Hcpt]; · iexact Hcpt
    iexact HcpR
  iintro HcC
  iapply (wp_onward m K ιs c d q (i := 5) (by omega) hR) $$ [Hcr Hcc Hl Htok HO]
  · isplitr; · iexact HR
    isplitl [Hcr]; · iexact Hcr
    isplitl [Hcc]; · iexact Hcc
    isplitl [Hl]; · iexact Hl
    isplitl [Htok]; · iexact Htok
    isplitr; · iexact HsR
    iexact HO
  iintro ⟨HcS, HO, Hcr⟩
  iapply Hk
  ihave HsP := (sPos_step c d q 6) $$ [HsA HsB]
  · unfold pos; isplitl [HsA] <;> iassumption
  ihave HrP := (rPos_step c d q 6) $$ [HrA HrB]
  · unfold pos; isplitl [HrA] <;> iassumption
  ihave HxP := (xPos_step c d q 6) $$ [HxA HxB]
  · unfold pos; isplitl [HxA] <;> iassumption
  unfold livePass pos
  isplitl [HcS HsP HrP HxP Hxb0 Hxb1 HcpA HcC Hcr Hrd1 Hrd2]
  · isplitl [HcS]; · iexact HcS
    isplitl [HsP]; · iexact HsP
    isplitl [HrP]; · iexact HrP
    isplitl [HxP]; · iexact HxP
    isplitl [Hxb0]; · iexact Hxb0
    isplitl [Hxb1]; · iexact Hxb1
    isplitl [HcpA]
    · isplitl [HcpA]; · iexact HcpA
      iexact HcpR
    isplitl [HcC]; · iexact HcC
    isplitl [Hcr]; · iexact Hcr
    isplitl [Hrd1]; · iexact Hrd1
    isplitl [Hrd2]; · iexact Hrd2
    iexact Hrdy2
  isplitl [HO]; · iexact HO
  iexact Hx1

/-- What arrived on a later hop, split for the copy and for the send. -/
theorem got_pass {j : ℕ} : recvPay m c d q (j + 7)
    ⊢ iprop(ownsTc c (commSl d (par (j + 7)) q) fullShare.left (sent m d q (j + 8) c) ∗ ownsTc c (commSl d (par (j + 1)) q) fullShare.right (sent m d q (j + 8) c)) := by
  unfold recvPay
  rw [sent_pass m c d q (show ¬ j + 7 < 7 by omega), show par (j + 1) = par (j + 7) from Fin.ext (by show (j + 1) % 2 = (j + 7) % 2; omega)]
  exact halves c (commSl d (par (j + 7)) q) _

/-- Hops 7 to 12. -/
theorem hopPass_wp {R : CellTallies nD τ sig ℕ} {j : ℕ} (hj : j < 6) (hR : Above (ix d q (j + 7)) R) (Q : PUnit → sProp 𝕄) :
    iprop(Rec m K ιs ∗ livePass c d q j ∗ Ow c (R + Sd c d q (j + 8) + Cr c d q (j + 6))
        ∗ hopTok c d q (j + 8) ∗ recvCr c d q (j + 7) ∗ credTok c d q (j + 6) ∗ credCr c d q (j + 6) ∗ copyTok c d q (j + 1) ∗ os c d q (j + 1))
      ⊢ iprop(((livePass c d q (j + 1) ∗ Ow c R ∗ od m c d q j) -∗ Q ⟨⟩) -∗ Wp c (hop c d q (j + 7)) Q) := by
  have hO : Above (ix d q (j + 7)) (R + Sd c d q (j + 8)) := above_hop c d q (by omega) hR
  have hO0 : Above 0 (R + Sd c d q (j + 8)) := hO.mono (Nat.zero_le _)
  have hO1 := above_cred c d q (i := j + 6) (by omega) hO0
  rw [hop_pass c d q hj]
  simp only [Wp_bind]
  unfold livePass
  iintro ⟨#HR, ⟨HcS, HsP, HrP, HxP, Hxb0, Hxb1, Hcp, HcC, Hcr, Hrd0, Hrd1, #Hrdy⟩, HO, Htok, Hrc, Hct, Hcc, Hcpt, Hos⟩ Hk
  ihave HsP := (sPos_open c d q (j + 7)) $$ HsP
  ihave HrP := (rPos_open c d q (j + 7)) $$ HrP
  icases HsP with ⟨HsA, HsB, #HsR⟩
  icases HrP with ⟨HrA, HrB, #HrR⟩
  iapply (wp_waitSend m K ιs c d q (h := j + 7) (by omega) hO1) $$ [HcS HO HsA]
  · isplitr; · iexact HR
    isplitl [HcS]; · iexact HcS
    isplitl [HO]; · iexact HO
    iexact HsA
  iintro ⟨HO, HsA, Hl⟩
  iapply (wp_waitCopy m K ιs c d q (j := j) (by omega) hO1) $$ [HcC HO Hcp]
  · isplitr; · iexact HR
    isplitl [HcC]; · iexact HcC
    isplitl [HO]; · iexact HO
    iexact Hcp
  unfold copyPay
  iintro ⟨HO, Hcp, Hod, Hr⟩
  iapply (wp_handBack m K ιs c d q (i := j + 6) (by omega) (sent m d q (j + 7) c)) $$ [Hl Hr Hrd0 Hct HO]
  · isplitr; · iexact HR
    isplitl [Hl]; · iapply (sent_back m c d q (j + 6)); iexact Hl
    isplitl [Hr]; · rw [show par (j + 6) = par j from Fin.ext (by show (j + 6) % 2 = j % 2; omega)]; iexact Hr
    isplitl [Hrd0]; · iexact Hrd0
    isplitr; · iexact HrR
    isplitl [Hct]; · iexact Hct
    isplitr; · iexact Hrdy
    iexact HO
  iintro ⟨HO, Hrd2, #Hrdy2⟩
  iapply (wp_waitRecv m K ιs c d q (h := j + 7) (by omega) hO) $$ [Hrc HO HrA]
  · isplitr; · iexact HR
    isplitl [Hrc]; · iexact Hrc
    isplitl [HO]; · iexact HO
    iexact HrA
  iintro ⟨HO, HrA, Hgot⟩
  ihave Hgot := (got_pass m c d q) $$ Hgot
  icases Hgot with ⟨Hl, Hr⟩
  unfold pos
  icases Hcp with ⟨HcpA, #HcpR⟩
  iapply (wp_copyOut m K ιs c d q (j := j + 1) (by omega)) $$ [Hr Hos Hcpt]
  · isplitr; · iexact HR
    isplitl [Hr]; · iexact Hr
    isplitl [Hos]; · iexact Hos
    isplitl [Hcpt]; · iexact Hcpt
    iexact HcpR
  iintro HcC
  iapply (wp_onward m K ιs c d q (i := j + 6) (by omega) hR) $$ [Hcr Hcc Hl Htok HO]
  · isplitr; · iexact HR
    isplitl [Hcr]; · iexact Hcr
    isplitl [Hcc]; · iexact Hcc
    isplitl [Hl]; · iexact Hl
    isplitl [Htok]; · iexact Htok
    isplitr; · iexact HsR
    iexact HO
  iintro ⟨HcS, HO, Hcr⟩
  iapply Hk
  ihave HsP := (sPos_step c d q (j + 7)) $$ [HsA HsB]
  · unfold pos; isplitl [HsA] <;> iassumption
  ihave HrP := (rPos_step c d q (j + 7)) $$ [HrA HrB]
  · unfold pos; isplitl [HrA] <;> iassumption
  isplitl [HcS HsP HrP HxP Hxb0 Hxb1 HcpA HcC Hcr Hrd1 Hrd2]
  · isplitl [HcS]; · iexact HcS
    isplitl [HsP]; · iexact HsP
    isplitl [HrP]; · iexact HrP
    isplitl [HxP]; · iexact HxP
    isplitl [Hxb0]; · iexact Hxb0
    isplitl [Hxb1]; · iexact Hxb1
    isplitl [HcpA]
    · isplitl [HcpA]; · iexact HcpA
      iexact HcpR
    isplitl [HcC]; · iexact HcC
    isplitl [Hcr]; · iexact Hcr
    isplitl [Hrd1]; · iexact Hrd1
    isplitl [Hrd2]; · iexact Hrd2
    iexact Hrdy2
  isplitl [HO]; · iexact HO
  iexact Hod

/-- Hop 13. -/
theorem hop13_wp {R : CellTallies nD τ sig ℕ} (hR : Above (ix d q 13) R) (Q : PUnit → sProp 𝕄) :
    iprop(Rec m K ιs ∗ livePass c d q 6 ∗ Ow c R ∗ recvCr c d q 13 ∗ copyTok c d q 7 ∗ os c d q 7)
      ⊢ iprop(((liveEnd m c d q ∗ Ow c R ∗ od m c d q 6) -∗ Q ⟨⟩) -∗ Wp c (hop c d q 13) Q) := by
  have hO0 : Above 0 R := hR.mono (Nat.zero_le _)
  rw [hop_last c d q]
  simp only [Wp_bind]
  unfold livePass
  iintro ⟨#HR, ⟨HcS, HsP, HrP, HxP, Hxb0, Hxb1, Hcp, HcC, Hcr, -, -, -⟩, HO, Hrc, Hcpt, Hos⟩ Hk
  ihave HsP := (sPos_open c d q 13) $$ HsP
  ihave HrP := (rPos_open c d q 13) $$ HrP
  icases HsP with ⟨HsA, HsB, -⟩
  icases HrP with ⟨HrA, HrB, -⟩
  iapply (wp_waitSend m K ιs c d q (h := 13) (by omega) hO0) $$ [HcS HO HsA]
  · isplitr; · iexact HR
    isplitl [HcS]; · iexact HcS
    isplitl [HO]; · iexact HO
    iexact HsA
  iintro ⟨HO, HsA, Hl⟩
  iapply (wp_waitCopy m K ιs c d q (j := 6) (by omega) hO0) $$ [HcC HO Hcp]
  · isplitr; · iexact HR
    isplitl [HcC]; · iexact HcC
    isplitl [HO]; · iexact HO
    iexact Hcp
  unfold copyPay
  iintro ⟨HO, Hcp, Hod, Hr⟩
  ihave Hl := (sent_back m c d q 12) $$ Hl
  ihave Hs := (rejoin c (commSl d 0 q) (sent m d q 13 c)) $$ [Hl Hr]
  · isplitl [Hl]
    · iexact Hl
    · iexact Hr
  iapply (wp_waitRecv m K ιs c d q (h := 13) (by omega) hR) $$ [Hrc HO HrA]
  · isplitr; · iexact HR
    isplitl [Hrc]; · iexact Hrc
    isplitl [HO]; · iexact HO
    iexact HrA
  iintro ⟨HO, HrA, Hgot⟩
  ihave Hgot := (got_pass m c d q (j := 6)) $$ Hgot
  icases Hgot with ⟨Hl, Hr⟩
  unfold pos
  icases Hcp with ⟨HcpA, #HcpR⟩
  iapply (wp_copyOut m K ιs c d q (j := 7) (by omega)) $$ [Hr Hos Hcpt]
  · isplitr; · iexact HR
    isplitl [Hr]; · iexact Hr
    isplitl [Hos]; · iexact Hos
    isplitl [Hcpt]; · iexact Hcpt
    iexact HcpR
  iintro HcC
  iapply Hk
  ihave HsP := (sPos_step c d q 13) $$ [HsA HsB]
  · unfold pos; isplitl [HsA] <;> iassumption
  ihave HrP := (rPos_step c d q 13) $$ [HrA HrB]
  · unfold pos; isplitl [HrA] <;> iassumption
  unfold liveEnd pos
  isplitl [HsP HrP HxP Hxb0 Hxb1 HcpA HcC Hcr Hl Hs]
  · isplitl [HsP]; · iexact HsP
    isplitl [HrP]; · iexact HrP
    isplitl [HxP]; · iexact HxP
    isplitl [Hxb0]; · iexact Hxb0
    isplitl [Hxb1]; · iexact Hxb1
    isplitl [HcpA]
    · isplitl [HcpA]; · iexact HcpA
      iexact HcpR
    isplitl [HcC]; · iexact HcC
    isplitl [Hcr]; · iexact Hcr
    isplitl [Hl]; · iexact Hl
    unfold Sl; iexists _; iexact Hs
  isplitl [HO]; · iexact HO
  iexact Hod

end Hops

end Cert.RingSum
-- ==== Proof.Loop.lean ====
/-
# The loop over hops

All hops have one shape here: what a hop uses, what it gives back, what it still owes. The loop over all hops of all streams follows by counting.
-/
module

public import proofs.«01_k».proof.Proof.Hop
public import Mathlib.Algebra.BigOperators.Intervals

@[expose] public section

noncomputable section

namespace Cert.RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (K : Dev nD × Kind → ℕ) (ιs : Key → ℕ)

/-! ## Every hop -/

section Hop
variable (c : Dev nD) (d : Bool) (q : Fin 4)

/-- What device `c` holds of the stream before hop `h`. -/
def Live : ℕ → sProp 𝕄
  | 0 => live0 c d q
  | i + 1 => if i < 6 then liveAdd m c d q i else if i < 13 then livePass c d q (i - 6) else liveEnd m c d q

/-- What hop `h` needs besides: the rights to the next hop and fetch, what its wait is for, the argument's next part, -/
def Use (h : ℕ) : sProp 𝕄 :=
  iprop((if h < 13 then hopTok c d q (h + 1) else emp) ∗ (if h < 6 then fetchTok c d q (h + 1) else emp) ∗ recvCr c d q h
    ∗ (if h < 6 then xs m c d q (h + 2) else emp)
    ∗ (if 1 ≤ h ∧ h < 13 then iprop(credTok c d q (h - 1) ∗ credCr c d q (h - 1)) else emp)
    ∗ (if 6 ≤ h then iprop(copyTok c d q (h - 6) ∗ os c d q (h - 6)) else emp))

/-- what it gives back, -/
def Ret : ℕ → sProp 𝕄
  | 0 => iprop(xs m c d q 0 ∗ xs m c d q 1)
  | i + 1 => if i < 6 then xs m c d q (i + 2) else od m c d q (i - 6)

/-- and what it pays. -/
def Pays : ℕ → CellTallies nD τ sig ℕ
  | 0 => Sd c d q 1
  | i + 1 => if i < 12 then Sd c d q (i + 2) + Cr c d q i else 0

/-- Every hop runs: from what the stream holds before it and what it needs, to what the stream holds after it and what it gives back, with its debts paid. -/
theorem hop_wp {R : CellTallies nD τ sig ℕ} {h : ℕ} (hh : h < 14) (hR : Above (ix d q h) R) (Q : PUnit → sProp 𝕄) :
    iprop(Rec m K ιs ∗ Live m c d q h ∗ Ow c (R + Pays c d q h) ∗ Use m c d q h)
      ⊢ iprop(((Live m c d q (h + 1) ∗ Ow c R ∗ Ret m c d q h) -∗ Q ⟨⟩) -∗ Wp c (hop c d q h) Q) := by
  rcases Nat.eq_zero_or_pos h with rfl | hpos
  · rw [show Live m c d q 0 = live0 c d q from rfl, show Live m c d q (0 + 1) = liveAdd m c d q 0 from rfl, show Pays c d q 0 = Sd c d q 1 from rfl,
      show Ret m c d q 0 = iprop(xs m c d q 0 ∗ xs m c d q 1) from rfl]
    refine BIBase.Entails.trans ?_ (hop0_wp m K ιs c d q hR Q)
    unfold Use
    simp only [show (0 : ℕ) < 13 from by decide, show (0 : ℕ) < 6 from by decide, if_true]
    iintro ⟨HR, HL, HO, H1, H2, H3, H4, -, -⟩
    isplitl [HR]; · iexact HR
    isplitl [HL]; · iexact HL
    isplitl [HO]; · iexact HO
    isplitl [H1]; · iexact H1
    isplitl [H2]; · iexact H2
    isplitl [H3]; · iexact H3
    iexact H4
  obtain ⟨i, rfl⟩ : ∃ i, h = i + 1 := ⟨h - 1, by omega⟩
  by_cases h5 : i < 5
  · have hL : Live m c d q (i + 1) = liveAdd m c d q i := if_pos (by omega)
    have hL' : Live m c d q (i + 1 + 1) = liveAdd m c d q (i + 1) := if_pos (by omega)
    have hP : Pays c d q (i + 1) = Sd c d q (i + 2) + Cr c d q i := if_pos (by omega)
    have hT : Ret m c d q (i + 1) = xs m c d q (i + 2) := if_pos (by omega)
    rw [hL, hL', hP, hT, ← add_assoc]
    refine BIBase.Entails.trans ?_ (hopAdd_wp m K ιs c d q h5 hR Q)
    unfold Use
    rw [if_pos (by omega), if_pos (by omega), if_pos (by omega), if_pos (by omega), Nat.add_sub_cancel]
    iintro ⟨HR, HL, HO, H1, H2, H3, H4, ⟨H5, H6⟩, -⟩
    isplitl [HR]; · iexact HR
    isplitl [HL]; · iexact HL
    isplitl [HO]; · iexact HO
    isplitl [H1]; · iexact H1
    isplitl [H2]; · iexact H2
    isplitl [H3]; · iexact H3
    isplitl [H4]; · iexact H4
    isplitl [H5]; · iexact H5
    iexact H6
  by_cases h6 : i = 5
  · subst h6
    rw [show Live m c d q (5 + 1) = liveAdd m c d q 5 from rfl, show Live m c d q (5 + 1 + 1) = livePass c d q 0 from rfl,
      show Pays c d q (5 + 1) = Sd c d q 7 + Cr c d q 5 from rfl, show Ret m c d q (5 + 1) = xs m c d q 7 from rfl]
    refine BIBase.Entails.trans ?_ (hop6_wp m K ιs c d q hR Q)
    unfold Use
    rw [if_pos (by omega), if_neg (by omega), if_neg (by omega), if_pos (by omega), if_pos (by omega)]
    iintro ⟨HR, HL, HO, H1, -, H3, -, ⟨H5, H6⟩, H7, H8⟩
    isplitl [HR]; · iexact HR
    isplitl [HL]; · iexact HL
    isplitl [HO]; · rw [add_assoc]; iexact HO
    isplitl [H1]; · iexact H1
    isplitl [H3]; · iexact H3
    isplitl [H5]; · iexact H5
    isplitl [H6]; · iexact H6
    isplitl [H7]; · iexact H7
    iexact H8
  obtain ⟨j, rfl⟩ : ∃ j, i = j + 6 := ⟨i - 6, by omega⟩
  by_cases h12 : j < 6
  · have hL : Live m c d q (j + 6 + 1) = livePass c d q j := by
      show (if j + 6 < 6 then liveAdd m c d q (j + 6) else if j + 6 < 13 then livePass c d q (j + 6 - 6) else liveEnd m c d q) = _
      rw [if_neg (by omega), if_pos (by omega), Nat.add_sub_cancel]
    have hL' : Live m c d q (j + 6 + 1 + 1) = livePass c d q (j + 1) := by
      show (if j + 6 + 1 < 6 then liveAdd m c d q (j + 6 + 1) else if j + 6 + 1 < 13 then livePass c d q (j + 6 + 1 - 6) else liveEnd m c d q) = _
      rw [if_neg (by omega), if_pos (by omega), show j + 6 + 1 - 6 = j + 1 by omega]
    have hP : Pays c d q (j + 6 + 1) = Sd c d q (j + 8) + Cr c d q (j + 6) := if_pos (by omega)
    have hT : Ret m c d q (j + 6 + 1) = od m c d q j := by
      show (if j + 6 < 6 then xs m c d q (j + 6 + 2) else od m c d q (j + 6 - 6)) = _
      rw [if_neg (by omega), Nat.add_sub_cancel]
    rw [hL, hL', hP, hT, ← add_assoc]
    refine BIBase.Entails.trans ?_ (hopPass_wp m K ιs c d q h12 hR Q)
    unfold Use
    rw [if_pos (by omega), if_neg (by omega), if_neg (by omega), if_pos (by omega), if_pos (by omega), Nat.add_sub_cancel, show j + 6 + 1 - 6 = j + 1 by omega]
    iintro ⟨HR, HL, HO, H1, -, H3, -, ⟨H5, H6⟩, H7, H8⟩
    isplitl [HR]; · iexact HR
    isplitl [HL]; · iexact HL
    isplitl [HO]; · iexact HO
    isplitl [H1]; · iexact H1
    isplitl [H3]; · iexact H3
    isplitl [H5]; · iexact H5
    isplitl [H6]; · iexact H6
    isplitl [H7]; · iexact H7
    iexact H8
  obtain rfl : j = 6 := by omega
  rw [show Live m c d q (6 + 6 + 1) = livePass c d q 6 from rfl, show Live m c d q (6 + 6 + 1 + 1) = liveEnd m c d q from rfl,
    show Ret m c d q (6 + 6 + 1) = od m c d q 6 from rfl]
  refine BIBase.Entails.trans ?_ (hop13_wp m K ιs c d q hR Q)
  unfold Use
  rw [if_neg (by omega), if_neg (by omega), if_neg (by omega), if_neg (by omega), if_pos (by omega)]
  have hP : R + Pays c d q (6 + 6 + 1) = R := add_zero R
  rw [hP]
  iintro ⟨HR, HL, HO, -, -, H3, -, -, H7, H8⟩
  isplitl [HR]; · iexact HR
  isplitl [HL]; · iexact HL
  isplitl [HO]; · iexact HO
  isplitl [H3]; · iexact H3
  isplitl [H7]; · iexact H7
  iexact H8

/-- What a hop pays lies above the levels of the earlier hops of all streams. -/
theorem above_pays {n h : ℕ} (hh : h < 14) (hn : n < ix d q h) : Above n (Pays c d q h) := by
  rcases h with _ | i
  · exact Above.tally _ _ _ _ (by unfold ix at hn ⊢; omega) (by unfold ix; omega)
  · show Above n (if i < 12 then _ else _)
    split
    · exact (Above.tally _ _ _ _ (by unfold ix at hn ⊢; omega) (by unfold ix; omega)).add
        (Above.tally _ _ _ _ (by unfold ix at hn ⊢; omega) (by unfold ix; omega))
    · exact Above.zero n

end Hop

/-! ## Running a sequence -/

/-- A counted family runs when each of its steps keeps what is claimed before it. -/
theorem seq_wp (c : Dev nD) (f : ℕ → Prog (E F) PUnit) (I : ℕ → sProp 𝕄) : ∀ (n i : ℕ)
    (_ : ∀ k, i ≤ k → k < i + n → ∀ Q : PUnit → sProp 𝕄, I k ⊢ iprop((I (k + 1) -∗ Q ⟨⟩) -∗ Wp c (f k) Q)) (Q : PUnit → sProp 𝕄),
    I i ⊢ iprop((I (i + n) -∗ Q ⟨⟩) -∗ Wp c (seqFrom f i n) Q)
  | 0, i, _, Q => by
    iintro HI Hk
    iapply (Wp_ret c)
    iapply Hk; iexact HI
  | n + 1, i, hs, Q => by
    show _ ⊢ iprop(_ -∗ Wp c (f i >>= fun _ => seqFrom f (i + 1) n) Q)
    rw [Wp_bind]
    iintro HI Hk
    iapply (hs i le_rfl (by omega) _) $$ HI
    iintro HI
    iapply (seq_wp c f I n (i + 1) (fun k h1 h2 => hs k (by omega) (by omega)) Q) $$ HI
    rw [show i + 1 + n = i + (n + 1) by omega]
    iexact Hk

/-- The first of a family over an interval, -/
theorem sep_Ico {a b : ℕ} (h : a < b) (Φ : ℕ → sProp 𝕄) : bigSep (Finset.Ico a b) Φ = iprop(Φ a ∗ bigSep (Finset.Ico (a + 1) b) Φ) := by
  have : Finset.Ico a b = insert a (Finset.Ico (a + 1) b) := by ext x; simp only [Finset.mem_insert, Finset.mem_Ico]; omega
  rw [this, bigSep_insert (by simp)]; rfl
/-- any one of a family, -/
theorem sep_erase {s : Finset ℕ} {i : ℕ} (hi : i ∈ s) (Φ : ℕ → sProp 𝕄) : bigSep s Φ = iprop(Φ i ∗ bigSep (s.erase i) Φ) := bigSep_erase hi
/-- and the last of an initial segment. -/
theorem sep_range (n : ℕ) (Φ : ℕ → sProp 𝕄) : bigSep (Finset.range (n + 1)) Φ = iprop(Φ n ∗ bigSep (Finset.range n) Φ) := by
  rw [Finset.range_add_one, bigSep_insert (by simp)]; rfl

/-! ## The loop -/

section Loop
variable (c : Dev nD)

/-- How many hops of stream `s` come before step `t` of the loop. -/
def done (s t : ℕ) : ℕ := (t + 7 - s) / 8

/-- Step `t` of the loop is a hop of stream `t % 8`: what the stream holds, -/
def liveS (s h : ℕ) : sProp 𝕄 := Live m c (dirOf s) (qOf s) h
/-- what the step needs, -/
def useT (t : ℕ) : sProp 𝕄 := Use m c (dirOf (t % 8)) (qOf (t % 8)) (t / 8)
/-- what it gives back, -/
def retT (t : ℕ) : sProp 𝕄 := Ret m c (dirOf (t % 8)) (qOf (t % 8)) (t / 8)
/-- and what it pays. -/
def paysT (t : ℕ) : CellTallies nD τ sig ℕ := Pays c (dirOf (t % 8)) (qOf (t % 8)) (t / 8)

/-- The streams are numbered in program order, -/
theorem strm_of : ∀ s < 8, (strm (dirOf s) (qOf s)).val = s := by decide

/-- so step `t` waits at level `t + 2`. -/
theorem ix_of (t : ℕ) : ix (dirOf (t % 8)) (qOf (t % 8)) (t / 8) = t + 2 := by
  unfold ix; rw [strm_of _ (Nat.mod_lt _ (by decide))]; omega

/-- Before step `t`: the debts and needs of the steps to come, what the eight streams hold, and what the steps before gave back. -/
def loopI (t : ℕ) : sProp 𝕄 :=
  iprop(Rec m K ιs ∗ Ow c (∑ u ∈ Finset.Ico t 112, paysT c u) ∗ bigSep (Finset.range 8) (fun s => liveS m c s (done s t))
    ∗ bigSep (Finset.Ico t 112) (useT m c) ∗ bigSep (Finset.range t) (retT m c))

/-- What later steps pay lies above the level at which step `t` waits. -/
theorem above_rest (t : ℕ) : Above (t + 2) (∑ u ∈ Finset.Ico (t + 1) 112, paysT c u) :=
  Above.sum _ _ fun u hu => by
    rw [Finset.mem_Ico] at hu
    exact above_pays c _ _ (by omega) (by rw [ix_of]; omega)

/-- One step of the loop, -/
theorem loop_step {t : ℕ} (ht : t < 112) (Q : PUnit → sProp 𝕄) :
    loopI m K ιs c t ⊢ iprop((loopI m K ιs c (t + 1) -∗ Q ⟨⟩) -∗ Wp c (hop c (dirOf (t % 8)) (qOf (t % 8)) (t / 8)) Q) := by
  have hs : t % 8 ∈ Finset.range 8 := Finset.mem_range.mpr (Nat.mod_lt _ (by decide))
  have hd : done (t % 8) t = t / 8 := by unfold done; omega
  have hd' : done (t % 8) (t + 1) = t / 8 + 1 := by unfold done; omega
  have hrest : bigSep ((Finset.range 8).erase (t % 8)) (fun s => liveS m c s (done s (t + 1)))
      = bigSep ((Finset.range 8).erase (t % 8)) (fun s => liveS m c s (done s t)) := bigSep_congr fun s hs => by
    have h := Finset.mem_erase.mp hs
    have h8 := Finset.mem_range.mp h.2
    rw [show done s (t + 1) = done s t from by unfold done; omega]
  have hsum : (∑ u ∈ Finset.Ico t 112, paysT c u) = (∑ u ∈ Finset.Ico (t + 1) 112, paysT c u) + Pays c (dirOf (t % 8)) (qOf (t % 8)) (t / 8) := by
    rw [Finset.sum_eq_sum_Ico_succ_bot ht, add_comm]; rfl
  have hR : Above (ix (dirOf (t % 8)) (qOf (t % 8)) (t / 8)) (∑ u ∈ Finset.Ico (t + 1) 112, paysT c u) := by rw [ix_of]; exact above_rest c t
  unfold loopI
  rw [hsum, sep_erase hs, sep_erase hs, hd, hd', hrest, sep_Ico ht, sep_range]
  iintro ⟨#HR, HO, ⟨HL, HLs⟩, ⟨HU, HUs⟩, HT⟩ Hk
  iapply (hop_wp m K ιs c (dirOf (t % 8)) (qOf (t % 8)) (h := t / 8) (by omega) hR) $$ [HO HL HU]
  · isplitr; · iexact HR
    isplitl [HL]; · unfold liveS; iexact HL
    isplitl [HO]; · iexact HO
    unfold useT; iexact HU
  iintro ⟨HL, HO, HT1⟩
  iapply Hk
  isplitr; · iexact HR
  isplitl [HO]; · iexact HO
  isplitl [HL HLs]
  · isplitl [HL]; · unfold liveS; iexact HL
    iexact HLs
  isplitl [HUs]; · iexact HUs
  isplitl [HT1]; · unfold retT; iexact HT1
  iexact HT

/-- and all 112. -/
theorem loop_wp (Q : PUnit → sProp 𝕄) :
    loopI m K ιs c 0 ⊢ iprop((loopI m K ιs c 112 -∗ Q ⟨⟩) -∗ Wp c (seqFrom (fun t => hop c (dirOf (t % 8)) (qOf (t % 8)) (t / 8)) 0 112) Q) :=
  seq_wp c (fun t => hop c (dirOf (t % 8)) (qOf (t % 8)) (t / 8)) (loopI m K ιs c) 112 0 (fun t _ ht Q => loop_step m K ιs c (by omega) Q) Q

end Loop

end Cert.RingSum
-- ==== Proof.Body.lean ====
/-
# The body

The barrier, the first hop of every stream, the loop, the last copies.
-/
module

public import proofs.«01_k».proof.Proof.Loop

@[expose] public section

noncomputable section

namespace Cert.RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (K : Dev nD × Kind → ℕ) (ιs : Key → ℕ)

/-! ## Streams by number -/

/-- The eight streams, in program order, -/
theorem streams (Φ : Bool → Fin 4 → sProp 𝕄) :
    bigSep (Finset.range 8) (fun s => Φ (dirOf s) (qOf s)) = bigSep Finset.univ fun x : Bool × Fin 4 => Φ x.1 x.2 := by
  have hinj : Function.Injective fun x : Bool × Fin 4 => (strm x.1 x.2).val := by
    have h : ∀ x y : Bool × Fin 4, (strm x.1 x.2).val = (strm y.1 y.2).val → x = y := by decide
    exact fun x y => h x y
  have hr : Finset.range 8 = (Finset.univ : Finset (Bool × Fin 4)).map ⟨_, hinj⟩ := by rw [Finset.map_eq_image]; show _ = Finset.image (fun x : Bool × Fin 4 => (strm x.1 x.2).val) Finset.univ; decide
  have hd : ∀ x : Bool × Fin 4, dirOf (strm x.1 x.2).val = x.1 ∧ qOf (strm x.1 x.2).val = x.2 := by decide
  rw [hr, bigSep_map]
  exact bigSep_congr fun x _ => by
    show Φ (dirOf (strm x.1 x.2).val) (qOf (strm x.1 x.2).val) = _
    rw [(hd x).1, (hd x).2]

/-- and the four of a direction. -/
theorem streams_dir (Φ : Bool → Fin 4 → sProp 𝕄) (d : Bool) :
    bigSep (Finset.range 8) (fun s => Φ (dirOf s) (qOf s)) = iprop((bigSep Finset.univ fun q => Φ d q) ∗ bigSep Finset.univ fun q => Φ (!d) q) := by
  rw [streams, bigSep_univ_prod, bigSep_univ_eq_bigSepL [d, !d] (by cases d <;> decide) (by cases d <;> decide)]
  rfl

/-- What lasts may be used at every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## What a device begins and ends with -/

section Start
variable (c : Dev nD) (d : Bool) (q : Fin 4)

/-- Both slots, at any contents, and the reader's counts of them; -/
def slots0 : sProp 𝕄 :=
  iprop(readerAt ES (c, d, q, (0 : Fin 2)) 0 ∗ readerAt ES (c, d, q, (1 : Fin 2)) 0 ∗ Sl (c, d, q, (0 : Fin 2)) ∗ Sl (c, d, q, (1 : Fin 2)))
/-- the same once released; -/
def slots1 : sProp 𝕄 := iprop((rd c d q 0 ∗ rd c d q 1) ∗ (ready c d q 0 ∗ ready c d q 1))
/-- what else a device begins a stream with; -/
def begins : sProp 𝕄 :=
  iprop(hopTok c d q 0 ∗ fetchTok c d q 0 ∗ xs m c d q 0 ∗ xs m c d q 1 ∗ sPos c d q 0 ∗ rPos c d q 0 ∗ xPos c d q 0 ∗ pos (copyC c d q) 0 ∗ creds c d q 0
    ∗ xb c d q 0 ∗ xb c d q 1)
/-- and what it ends the stream with, beside the parts of argument and result the hops gave back. -/
def ends : sProp 𝕄 :=
  iprop(sPos c d q 14 ∗ rPos c d q 14 ∗ xPos c d q 7 ∗ xb c d q 0 ∗ xb c d q 1 ∗ pos (copyC c d q) 8 ∗ creds c d q 12
    ∗ Sl (c, d, q, (0 : Fin 2)) ∗ Sl (c, d, q, (1 : Fin 2)) ∗ od m c d q 7)

/-- The slots are released for the first hops. -/
theorem open_slots : iprop(Rec m K ιs ∗ slots0 c d q) ⊢ iprop(|={Set.univ}=> slots1 c d q : sProp 𝕄) := by
  unfold slots0 slots1 rd ready
  iintro ⟨#HR, Hr0, Hr1, Hs0, Hs1⟩
  imod (step_release m K ιs (c, d, q, (0 : Fin 2)) 0) $$ [Hr0 Hs0] with ⟨Hr0, #Hl0⟩
  · isplitr; · iexact HR
    isplitl [Hr0] <;> iassumption
  imod (step_release m K ιs (c, d, q, (1 : Fin 2)) 0) $$ [Hr1 Hs1] with ⟨Hr1, #Hl1⟩
  · isplitr; · iexact HR
    isplitl [Hr1] <;> iassumption
  imodintro
  isplitl [Hr0 Hr1]
  · isplitl [Hr0]; · iexact Hr0
    iexact Hr1
  isplitr
  · isplitr; · iexact Hl0
    iapply (Rec_reached m K ιs c (.recv d q 0)); iexact HR
  isplitr; · iexact Hl1
  iapply (Rec_reached m K ιs c (.recv d q 1)); iexact HR

/-- The first hop leaves, the first fetch starts. -/
theorem start_wp {R : CellTallies nD τ sig ℕ} (Q : PUnit → sProp 𝕄) :
    iprop(Rec m K ιs ∗ begins m c d q ∗ (rd c d q 0 ∗ rd c d q 1) ∗ (ready c d q 0 ∗ ready c d q 1) ∗ (ready (nbr c d) d q 0 ∗ ready (nbr c d) d q 1)
        ∗ Ow c (R + Sd c d q 0))
      ⊢ iprop(((live0 c d q ∗ Ow c R) -∗ Q ⟨⟩) -∗ Wp c (do startHop c d q 0; fetch c d q 0) Q) := by
  rw [Wp_bind]
  unfold begins live0
  iintro ⟨#HR, ⟨Ht, Hf, Hx0, Hx1, HsP, HrP, HxP, HcP, Hcr, Hb0, Hb1⟩, ⟨Hrd0, Hrd1⟩, ⟨-, #Hy1⟩, ⟨#Hn0, #Hn1⟩, HO⟩ Hk
  iapply (wp_send_zero m K ιs c d q) $$ [Hx0 Ht HO]
  · isplitr; · iexact HR
    isplitl [Hx0]; · iexact Hx0
    isplitr; · iexact Hn0
    isplitl [Ht]; · iexact Ht
    isplitr; · iapply (Rec_reached m K ιs c (.send d q 0)); iexact HR
    iexact HO
  iintro ⟨HcS, HO⟩
  iapply (wp_fetch m K ιs c d q (h := 0) (by omega)) $$ [Hx1 Hb0 Hf]
  · isplitr; · iexact HR
    isplitl [Hx1]; · iexact Hx1
    isplitl [Hb0]; · iexact Hb0
    isplitl [Hf]; · iexact Hf
    iapply (Rec_reached m K ιs c (.xf d q 0)); iexact HR
  iintro HcX
  iapply Hk
  isplitr [HO]
  · isplitl [HcS]; · iexact HcS
    isplitl [HsP]; · iexact HsP
    isplitl [HrP]; · iexact HrP
    isplitl [HxP]; · iexact HxP
    isplitl [HcX]; · iexact HcX
    isplitl [Hb1]; · iexact Hb1
    isplitl [HcP]; · iexact HcP
    isplitl [Hcr]; · iexact Hcr
    isplitl [Hrd0]; · iexact Hrd0
    isplitl [Hrd1]; · iexact Hrd1
    isplitr; · iexact Hy1
    iexact Hn1
  iexact HO

/-- The last copy ends. -/
theorem end_wp (Q : PUnit → sProp 𝕄) :
    iprop(Rec m K ιs ∗ liveEnd m c d q ∗ Ow c 0) ⊢ iprop(((ends m c d q ∗ Ow c 0) -∗ Q ⟨⟩) -∗ Wp c (waitCopy c d q 7) Q) := by
  unfold liveEnd ends
  iintro ⟨#HR, ⟨HsP, HrP, HxP, Hb0, Hb1, HcP, HcC, Hcr, Hl, HS⟩, HO⟩ Hk
  iapply (wp_waitCopy m K ιs c d q (j := 7) (by omega) (Above.zero 0)) $$ [HcC HO HcP]
  · isplitr; · iexact HR
    isplitl [HcC]; · iexact HcC
    isplitl [HO]; · iexact HO
    iexact HcP
  unfold copyPay
  iintro ⟨HO, HcP, Hod, Hr⟩
  ihave Hs := (rejoin c (commSl d 1 q) (sent m d q 14 c)) $$ [Hl Hr]
  · isplitl [Hl]
    · iexact Hl
    · iexact Hr
  iapply Hk
  isplitr [HO]
  · isplitl [HsP]; · iexact HsP
    isplitl [HrP]; · iexact HrP
    isplitl [HxP]; · iexact HxP
    isplitl [Hb0]; · iexact Hb0
    isplitl [Hb1]; · iexact Hb1
    isplitl [HcP]; · iexact HcP
    isplitl [Hcr]; · iexact Hcr
    isplitl [HS]; · iexact HS
    isplitl [Hs]; · unfold Sl; iexists _; iexact Hs
    iexact Hod
  iexact HO

end Start

/-! ## The barrier -/

section Bar
variable (c : Dev nD)

/-- Device `e`'s slots are ready for the first two hops of every stream. -/
def allReady (e : Dev nD) : sProp 𝕄 := bigSep (Finset.range 8) fun s => iprop(ready (F := F) e (dirOf s) (qOf s) 0 ∗ ready (F := F) e (dirOf s) (qOf s) 1)
/-- Readiness for every stream lasts. -/
instance allReady_persistent (e : Dev nD) : BI.Persistent (allReady (F := F) e) := by unfold allReady; infer_instance

/-- It is what a handshake signal hands over. -/
theorem barPay_of (e e' : Dev nD) (d : Bool) (h : nbr e' d = e) : allReady (F := F) e ⊢ barPay e' d := by
  unfold allReady barPay
  rw [h, streams_dir (fun d q => iprop(ready (F := F) e d q 0 ∗ ready (F := F) e d q 1)) d]
  iintro ⟨H, -⟩; iexact H

/-- What the two barrier signals tell of the neighbours. -/
def nbrReady : sProp 𝕄 := bigSep (Finset.range 8) fun s => iprop(ready (F := F) (nbr c (dirOf s)) (dirOf s) (qOf s) 0 ∗ ready (F := F) (nbr c (dirOf s)) (dirOf s) (qOf s) 1)

/-- Both signals together show both neighbours ready. -/
theorem nbrReady_of : iprop(barPay c false ∗ barPay c true) ⊢ (nbrReady c : sProp 𝕄) := by
  unfold nbrReady barPay
  rw [streams_dir (fun d q => iprop(ready (F := F) (nbr c d) d q 0 ∗ ready (F := F) (nbr c d) d q 1)) false]
  iintro ⟨H1, H2⟩
  isplitl [H1]
  · iexact H1
  · iexact H2

/-- What one barrier signal pays. -/
def Bt (e : Dev nD) : CellTallies nD τ sig ℕ := tallyAt (barC e) 1 1

/-- A signal of the handshake, -/
theorem wp_signalBar {O : CellTallies nD τ sig ℕ} (d : Bool) (Q : PUnit → sProp 𝕄) :
    iprop(Rec m K ιs ∗ Ow c (O + Bt (nbr c d)) ∗ dutyTok ER (barC (nbr c d)) 0 (if d then 0 else 1) ∗ allReady c)
      ⊢ iprop((Ow c O -∗ Q ⟨⟩) -∗ Wp c (semSignalWord (nbr c d) barS 1#32) Q) := by
  have hpay : allReady (F := F) c ⊢ payOf m (nbr c d) .bar 0 (if d then 0 else 1) := by
    have h := barPay_of (F := F) c (nbr c d) (!d) (ups_nbr c d)
    cases d
    · exact h
    · exact h
  refine BIBase.Entails.trans ?_ (step_signal m K ιs c (nbr c d) .bar (if d then 0 else 1) 1 (by cases d <;> decide) rfl rfl Q)
  iintro ⟨HR, HO, Ht, Hy⟩
  isplitl [HR]; · iexact HR
  isplitl [HO]; · unfold Bt; iexact HO
  isplitl [Ht]; · iexact Ht
  iapply hpay; iexact Hy

/-- and the wait for both. -/
theorem wp_waitBar {O : CellTallies nD τ sig ℕ} (hO : Above 1 O) (Q : PUnit → sProp 𝕄) :
    iprop(Rec m K ιs ∗ cred (tallyAt (barC c) 1 2) ∗ Ow c O ∗ pos (barC c) 0)
      ⊢ iprop(((Ow c O ∗ pos (barC c) 1 ∗ nbrReady c) -∗ Q ⟨⟩) -∗ Wp c (semWaitWord barS 2#32) Q) := by
  have hexp : (Rd m).expect (barC c) 0 = 2 := by rw [show barC c = ((c : Thread nD τ), Kind.sem .bar) from rfl, expect_kind]; rfl
  have hpay : bigSep ((Rd m).duties (barC c) 0 \ ∅) (fun j => (Rd m).payload (barC c) 0 j) ⊢ nbrReady c := by
    refine BIBase.Entails.trans ?_ (nbrReady_of c)
    rw [Finset.sdiff_empty, show (Rd m).duties (barC c) 0 = insert 0 {1} from duties_kind m c .bar 0, bigSep_insert (by decide), bigSep_singleton,
      show (Rd m).payload (barC c) 0 0 = barPay c false from payload_kind m c .bar 0 0, show (Rd m).payload (barC c) 0 1 = barPay c true from payload_kind m c .bar 0 1]
    exact BI.Entails.refl _
  unfold Ow pos
  iintro ⟨#HR, Hc, ⟨%W, HO⟩, Hat, -⟩ Hk
  iapply (Rounds.wp_wait_rest_token 𝒱₀ ER (Rd m) (c : Thread nD τ) none (κ := K (c, .bar)) (wpE_semWait_eq 𝒱₀ (c : Thread nD τ) none Set.univ) (Set.mem_univ _) 1
    (O := O) (W := W) (R := 0) (m := 0) (T := ∅) (by rw [hexp]; rfl)) $$ [Hc HO Hat]
  · isplitr; · iapply (Rec_inv m K ιs c .bar); iexact HR
    isplitl [Hc]; · iexact Hc
    isplitl [HO]; · iexact HO
    isplitr; · iapply (hO.mayWait (by omega) c (.reg barS)); iapply (Rec_lev m K ιs); iexact HR
    iexact Hat
  iintro ⟨HO, Hat, Hr, Hp⟩
  iapply (Wp_ret c)
  iapply Hk
  isplitl [HO]; · iexists _; iexact HO
  isplitl [Hat Hr]; · isplitl [Hat] <;> iassumption
  iapply hpay; iexact Hp

end Bar

/-! ## The whole body -/

section Whole
variable (c : Dev nD)

/-- What hop 0 of every stream pays, from stream `s` on; -/
def firsts (s : ℕ) : CellTallies nD τ sig ℕ := ∑ u ∈ Finset.Ico s 8, Sd c (dirOf u) (qOf u) 0
/-- and what the loop pays. -/
def laters : CellTallies nD τ sig ℕ := ∑ u ∈ Finset.Ico 0 112, paysT c u

/-- All a device owes at the start. -/
def owed₀ : CellTallies nD τ sig ℕ := laters c + firsts c 0 + Bt (nbr c false) + Bt (nbr c true)

/-- What a device owes beyond the handshake lies above the handshake's level. -/
theorem above_start : Above 1 (laters c + firsts c 0) :=
  (Above.sum _ _ fun u hu => above_pays c _ _ (by rw [Finset.mem_Ico] at hu; omega) (by unfold ix; omega)).add
    (Above.sum _ _ fun u hu => Above.tally _ _ _ _ (by unfold ix; omega) (by unfold ix; omega))

/-- All a device begins with, -/
def beginning : sProp 𝕄 :=
  iprop(pos (barC c) 0 ∗ cred (tallyAt (barC c) 1 2) ∗ dutyTok ER (barC (nbr c true)) 0 0 ∗ dutyTok ER (barC (nbr c false)) 0 1
    ∗ bigSep (Finset.range 8) (fun s => begins m c (dirOf s) (qOf s)) ∗ bigSep (Finset.range 8) (fun s => slots0 c (dirOf s) (qOf s))
    ∗ bigSep (Finset.range 112) (useT m c))
/-- and ends with. -/
def ending : sProp 𝕄 :=
  iprop(pos (barC c) 1 ∗ bigSep (Finset.range 8) (fun s => ends m c (dirOf s) (qOf s)) ∗ bigSep (Finset.range 112) (retT m c))

/-- What the start of stream `s` needs, -/
def startS (s : ℕ) : sProp 𝕄 :=
  iprop(begins m c (dirOf s) (qOf s) ∗ (rd c (dirOf s) (qOf s) 0 ∗ rd c (dirOf s) (qOf s) 1)
    ∗ (ready c (dirOf s) (qOf s) 0 ∗ ready c (dirOf s) (qOf s) 1)
    ∗ (ready (nbr c (dirOf s)) (dirOf s) (qOf s) 0 ∗ ready (nbr c (dirOf s)) (dirOf s) (qOf s) 1))

/-- and what is claimed before the `s`-th is started. -/
def startI (s : ℕ) : sProp 𝕄 :=
  iprop(Rec m K ιs ∗ Ow c (laters c + firsts c s) ∗ bigSep (Finset.Ico s 8) (startS m c) ∗ bigSep (Finset.range s) (fun u => live0 c (dirOf u) (qOf u)))

/-- All eight streams start. -/
theorem starts_wp (Q : PUnit → sProp 𝕄) :
    startI m K ιs c 0 ⊢ iprop((startI m K ιs c 8 -∗ Q ⟨⟩)
      -∗ Wp c (seqFrom (fun s => do startHop c (dirOf s) (qOf s) 0; fetch c (dirOf s) (qOf s) 0) 0 8) Q) := by
  refine seq_wp c (fun s => do startHop c (dirOf s) (qOf s) 0; fetch c (dirOf s) (qOf s) 0) (startI m K ιs c) 8 0 (fun s _ hs Q => ?_) Q
  have h8 : s < 8 := by omega
  have hsum : laters c + firsts c s = laters c + firsts c (s + 1) + Sd c (dirOf s) (qOf s) 0 := by
    unfold firsts; rw [Finset.sum_eq_sum_Ico_succ_bot h8, add_comm (Sd _ _ _ _), add_assoc]
  unfold startI
  rw [hsum, sep_Ico h8, sep_range]
  iintro ⟨#HR, HO, ⟨HS, HSs⟩, HL⟩ Hk
  unfold startS
  icases HS with ⟨H1, H2, H3, H4⟩
  iapply (start_wp m K ιs c (dirOf s) (qOf s)) $$ [HO H1 H2 H3 H4]
  · isplitr; · iexact HR
    isplitl [H1]; · iexact H1
    isplitl [H2]; · iexact H2
    isplitl [H3]; · iexact H3
    isplitl [H4]; · iexact H4
    iexact HO
  iintro ⟨HL1, HO⟩
  iapply Hk
  isplitr; · iexact HR
  isplitl [HO]; · iexact HO
  isplitl [HSs]; · iexact HSs
  isplitl [HL1]; · iexact HL1
  iexact HL

/-- What is claimed before the last copy of stream `s` is waited for. -/
def endI (s : ℕ) : sProp 𝕄 :=
  iprop(Rec m K ιs ∗ Ow c 0 ∗ bigSep (Finset.Ico s 8) (fun u => liveEnd m c (dirOf u) (qOf u)) ∗ bigSep (Finset.range s) (fun u => ends m c (dirOf u) (qOf u)))

/-- All eight last copies are waited for. -/
theorem ends_wp (Q : PUnit → sProp 𝕄) :
    endI m K ιs c 0 ⊢ iprop((endI m K ιs c 8 -∗ Q ⟨⟩) -∗ Wp c (seqFrom (fun s => waitCopy c (dirOf s) (qOf s) 7) 0 8) Q) := by
  refine seq_wp c (fun s => waitCopy c (dirOf s) (qOf s) 7) (endI m K ιs c) 8 0 (fun s _ hs Q => ?_) Q
  unfold endI
  rw [sep_Ico (show s < 8 by omega), sep_range]
  iintro ⟨#HR, HO, ⟨HS, HSs⟩, HL⟩ Hk
  iapply (end_wp m K ιs c (dirOf s) (qOf s)) $$ [HO HS]
  · isplitr; · iexact HR
    isplitl [HS]; · iexact HS
    iexact HO
  iintro ⟨HL1, HO⟩
  iapply Hk
  isplitr; · iexact HR
  isplitl [HO]; · iexact HO
  isplitl [HSs]; · iexact HSs
  isplitl [HL1]; · iexact HL1
  iexact HL

/-- The device learns its own number. -/
theorem wp_device (Q : Dev nD → sProp 𝕄) : Q c ⊢ Wp c (Prog.lift .deviceId) Q := by
  simp only [Prog.lift, wp_deviceId, wp_ret]; exact fupd_intro

/-- The kernel runs, from what a device begins with to what it ends with, every debt paid. -/
theorem body_wp (Q : PUnit → sProp 𝕄) :
    iprop(Rec m K ιs ∗ beginning m c ∗ Ow c (owed₀ c)) ⊢ iprop(((ending m c ∗ Ow c 0) -∗ Q ⟨⟩) -∗ Wp c body Q) := by
  have hopen : iprop(Rec m K ιs ∗ bigSep (Finset.range 8) fun s => slots0 c (dirOf s) (qOf s)) ⊢ iprop(|={Set.univ}=> bigSep (Finset.range 8) fun s => slots1 c (dirOf s) (qOf s) : sProp 𝕄) :=
    (with_persistent fun s _ => open_slots m K ιs c (dirOf s) (qOf s)).trans (bigSep_fupd _ _)
  have hlive0 : bigSep (Finset.range 8) (fun s => liveS m c s (done s 0)) = bigSep (Finset.range 8) (fun u => live0 c (dirOf u) (qOf u)) :=
    bigSep_congr fun s hs => by rw [show done s 0 = 0 from by unfold done; omega]; rfl
  have hlive1 : bigSep (Finset.range 8) (fun s => liveS m c s (done s 112)) = bigSep (Finset.Ico 0 8) (fun u => liveEnd m c (dirOf u) (qOf u)) := by
    rw [← Finset.range_eq_Ico]
    exact bigSep_congr fun s hs => by
      have := Finset.mem_range.mp hs
      rw [show done s 112 = 14 from by unfold done; omega]; rfl
  have hf : laters c + firsts c 8 = laters c := by unfold firsts; rw [Finset.Ico_self, Finset.sum_empty, add_zero]
  unfold body beginning owed₀
  simp only [Wp_bind]
  iintro ⟨#HR, ⟨HbP, HbC, HtT, HtF, HB, HS, HU⟩, HO⟩ Hk
  iapply (wp_device c)
  iapply (Wp_fupd c)
  imod hopen $$ [HS] with HS
  · isplitr; · iexact HR
    iexact HS
  imodintro
  unfold slots1
  ihave HS := (Entails.of_eq (bigSep_sep' (Finset.range 8) (fun s => iprop(rd (F := F) c (dirOf s) (qOf s) 0 ∗ rd c (dirOf s) (qOf s) 1))
    (fun s => iprop(ready c (dirOf s) (qOf s) 0 ∗ ready c (dirOf s) (qOf s) 1)))) $$ HS
  icases HS with ⟨Hrd, Hy⟩
  ihave #Hy := (Entails.of_eq (show (bigSep (Finset.range 8) fun s => iprop(ready c (dirOf s) (qOf s) 0 ∗ ready c (dirOf s) (qOf s) 1)) = allReady (F := F) c from rfl)) $$ Hy
  iapply (wp_signalBar m K ιs c true) $$ [HO HtT]
  · isplitr; · iexact HR
    isplitl [HO]; · iexact HO
    isplitl [HtT]; · iexact HtT
    iexact Hy
  iintro HO
  iapply (wp_signalBar m K ιs c false) $$ [HO HtF]
  · isplitr; · iexact HR
    isplitl [HO]; · iexact HO
    isplitl [HtF]; · iexact HtF
    iexact Hy
  iintro HO
  iapply (wp_waitBar m K ιs c (above_start c)) $$ [HO HbP HbC]
  · isplitr; · iexact HR
    isplitl [HbC]; · iexact HbC
    isplitl [HO]; · iexact HO
    iexact HbP
  iintro ⟨HO, HbP, Hn⟩
  iapply (starts_wp m K ιs c) $$ [HO Hrd HB Hn]
  · unfold startI
    isplitr; · iexact HR
    isplitl [HO]; · iexact HO
    isplitl
    · rw [← Finset.range_eq_Ico]
      unfold startS
      simp only [bigSep_sep']
      unfold allReady nbrReady
      simp only [bigSep_sep']
      isplitl [HB]; · iexact HB
      isplitl [Hrd]; · iexact Hrd
      isplitr; · iexact Hy
      iexact Hn
    · rw [Finset.range_zero, bigSep_empty]; iempintro
  unfold startI
  rw [hf]
  iintro ⟨-, HO, -, HL⟩
  iapply (loop_wp m K ιs c) $$ [HO HL HU]
  · unfold loopI
    isplitr; · iexact HR
    isplitl [HO]; · iexact HO
    isplitl [HL]; · rw [hlive0]; iexact HL
    isplitl [HU]; · rw [← Finset.range_eq_Ico]; iexact HU
    rw [Finset.range_zero, bigSep_empty]; iempintro
  unfold loopI
  rw [hlive1, Finset.Ico_self, Finset.sum_empty]
  iintro ⟨-, HO, HL, -, HT⟩
  iapply (ends_wp m K ιs c) $$ [HO HL]
  · unfold endI
    isplitr; · iexact HR
    isplitl [HO]; · iexact HO
    isplitl [HL]; · iexact HL
    rw [Finset.range_zero, bigSep_empty]; iempintro
  unfold endI
  iintro ⟨-, HO, -, HE⟩
  iapply Hk
  isplitr [HO]
  · unfold ending
    isplitl [HbP]; · iexact HbP
    isplitl [HE]; · iexact HE
    iexact HT
  iexact HO

end Whole

end Cert.RingSum
-- ==== Proof.Deal.lean ====
/-
# Dealing out

What a device holds of each stream as a whole, at the start and at the end, against what the parts of the body take and give back.
-/
module

public import proofs.«01_k».proof.Proof.Body

@[expose] public section

noncomputable section

namespace Cert.RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Families over initial segments -/

section Ranges

/-- Shifting by `a`. -/
def shift (a : ℕ) : ℕ ↪ ℕ := ⟨fun h => a + h, fun x y h => Nat.add_left_cancel h⟩
/-- A shift adds. -/
theorem shift_apply (a h : ℕ) : shift a h = a + h := rfl

/-- Pairs, regrouped: -/
theorem sep_swap (a b x y : sProp 𝕄) : iprop((a ∗ b) ∗ (x ∗ y)) = iprop((a ∗ x) ∗ (b ∗ y)) := by
  have h (a b x y : sProp 𝕄) : iprop((a ∗ b) ∗ (x ∗ y)) ⊢ iprop((a ∗ x) ∗ (b ∗ y)) := by
    iintro ⟨⟨H1, H2⟩, H3, H4⟩
    isplitl [H1 H3]
    · isplitl [H1] <;> iassumption
    · isplitl [H2] <;> iassumption
  exact Entails.antisymm (h _ _ _ _) (h _ _ _ _)

/-- two turned round, -/
theorem sep_flip (a b : sProp 𝕄) : iprop(a ∗ b) = iprop(b ∗ a) := by
  have h (a b : sProp 𝕄) : iprop(a ∗ b) ⊢ iprop(b ∗ a) := by
    iintro ⟨H1, H2⟩
    isplitl [H2] <;> iassumption
  exact Entails.antisymm (h _ _) (h _ _)

/-- the first two turned round. -/
theorem sep_turn (a b x y : sProp 𝕄) : iprop((a ∗ b) ∗ (x ∗ y)) = iprop(b ∗ a ∗ (x ∗ y)) := by
  have h1 : iprop((a ∗ b) ∗ (x ∗ y)) ⊢ iprop(b ∗ a ∗ (x ∗ y)) := by
    iintro ⟨⟨H1, H2⟩, H3⟩
    isplitl [H2]; · iexact H2
    isplitl [H1] <;> iassumption
  have h2 : iprop(b ∗ a ∗ (x ∗ y)) ⊢ iprop((a ∗ b) ∗ (x ∗ y)) := by
    iintro ⟨H2, H1, H3⟩
    isplitl [H1 H2]
    · isplitl [H1] <;> iassumption
    · iexact H3
  exact Entails.antisymm h1 h2

/-- The first of an initial segment, -/
theorem sep_first (Φ : ℕ → sProp 𝕄) (n : ℕ) : bigSep (Finset.range (n + 1)) Φ = iprop(Φ 0 ∗ bigSep (Finset.range n) fun h => Φ (h + 1)) := by
  have hr : Finset.range (n + 1) = insert 0 ((Finset.range n).map (shift 1)) := by
    ext i
    simp only [Finset.mem_range, Finset.mem_insert, Finset.mem_map, shift_apply]
    constructor
    · intro h
      rcases Nat.eq_zero_or_pos i with h' | h'
      · exact Or.inl h'
      · exact Or.inr ⟨i - 1, by omega, by omega⟩
    · rintro (h | ⟨j, h, rfl⟩) <;> omega
  rw [hr, bigSep_insert (by simp only [Finset.mem_map, shift_apply]; rintro ⟨j, -, h⟩; omega), bigSep_map]
  simp only [shift_apply, Nat.add_comm 1]; rfl

/-- a segment as two, -/
theorem sep_add (Φ : ℕ → sProp 𝕄) (a b : ℕ) : bigSep (Finset.range (a + b)) Φ = iprop((bigSep (Finset.range a) Φ) ∗ bigSep (Finset.range b) fun h => Φ (a + h)) := by
  have hr : Finset.range (a + b) = Finset.range a ∪ (Finset.range b).map (shift a) := by
    ext i
    simp only [Finset.mem_range, Finset.mem_union, Finset.mem_map, shift_apply]
    constructor
    · intro h
      rcases Nat.lt_or_ge i a with h' | h'
      · exact Or.inl h'
      · exact Or.inr ⟨i - a, by omega, by omega⟩
    · rintro (h | ⟨j, h, rfl⟩) <;> omega
  have hd : Disjoint (Finset.range a) ((Finset.range b).map (shift a)) := by
    rw [Finset.disjoint_left]
    intro i hi hj
    simp only [Finset.mem_range, Finset.mem_map, shift_apply] at hi hj
    obtain ⟨j, -, rfl⟩ := hj; omega
  rw [hr, bigSep_union hd, bigSep_map]; rfl

/-- A stretch of a segment. -/
theorem sep_pick (Φ : ℕ → sProp 𝕄) (n a k : ℕ) (h : a + k ≤ n) (p : ℕ → Prop) [DecidablePred p] (hp : ∀ i < n, p i ↔ a ≤ i ∧ i < a + k) (Ψ : ℕ → sProp 𝕄)
    (hΨ : ∀ j < k, Ψ (a + j) = Φ j) : bigSep (Finset.range n) (fun i => if p i then Ψ i else iprop(emp)) = bigSep (Finset.range k) Φ := by
  have hr : (Finset.range n).filter p = (Finset.range k).map (shift a) := by
    ext i
    simp only [Finset.mem_range, Finset.mem_filter, Finset.mem_map, shift_apply]
    constructor
    · rintro ⟨h1, h2⟩
      have := (hp i h1).mp h2
      exact ⟨i - a, by omega, by omega⟩
    · rintro ⟨j, h1, rfl⟩
      have h2 : a + j < n := by omega
      exact ⟨h2, (hp _ h2).mpr ⟨Nat.le_add_right a j, by show a + j < a + k; omega⟩⟩
  refine (bigSep_filter (Finset.range n) p Ψ).symm.trans ?_
  rw [hr, bigSep_map]
  exact bigSep_congr fun j hj => hΨ j (Finset.mem_range.mp hj)

/-- as eights, -/
theorem sep_eights (Φ : ℕ → sProp 𝕄) (n : ℕ) : bigSep (Finset.range (8 * n)) Φ = bigSep (Finset.range n) fun h => bigSep (Finset.range 8) fun s => Φ (8 * h + s) := by
  induction n with
  | zero => rfl
  | succ n ih => rw [show 8 * (n + 1) = 8 * n + 8 from rfl, sep_add, ih, sep_range n]; exact sep_flip (F := F) _ _

/-- and a double family in either order. -/
theorem sep_comm_range (a b : ℕ) (Ψ : ℕ → ℕ → sProp 𝕄) :
    (bigSep (Finset.range a) fun i => bigSep (Finset.range b) fun j => Ψ i j) = bigSep (Finset.range b) fun j => bigSep (Finset.range a) fun i => Ψ i j := by
  induction a with
  | zero =>
    simp only [Finset.range_zero, bigSep_empty]
    exact (bigSep_emp_const _).symm
  | succ a ih => simp only [sep_range]; rw [bigSep_sep', ih]

/-- Two families in turn. -/
theorem sep_turns (Ψ : Fin 2 → ℕ → sProp 𝕄) (n : ℕ) :
    iprop((bigSep (Finset.range n) (Ψ 0)) ∗ bigSep (Finset.range n) (Ψ 1)) = bigSep (Finset.range (2 * n)) fun h => Ψ (par h) (h / 2) := by
  induction n with
  | zero =>
    show iprop((bigSep (Finset.range 0) (Ψ 0)) ∗ bigSep (Finset.range 0) (Ψ 1)) = bigSep (Finset.range 0) _
    rw [Finset.range_zero, bigSep_empty, bigSep_empty, bigSep_empty]
    exact Entails.antisymm emp_sep.1 emp_sep.2
  | succ n ih =>
    rw [show 2 * (n + 1) = 2 * n + 1 + 1 from rfl, sep_range, sep_range, sep_range, sep_range, ← ih, sep_swap,
      show par (2 * n + 1) = 1 from Fin.ext (by show (2 * n + 1) % 2 = 1; omega), show par (2 * n) = 0 from Fin.ext (by show (2 * n) % 2 = 0; omega),
      show (2 * n + 1) / 2 = n by omega, show 2 * n / 2 = n by omega]
    exact sep_turn (F := F) _ _ _ _

end Ranges

variable (m : (ℓ : Loc nD τ sig) → Buf (Elt F) ℓ)

/-! ## One stream -/

section Stream
variable (c : Dev nD) (d : Bool) (q : Fin 4)

/-- Every right of a stream the device uses, -/
def toksS : sProp 𝕄 :=
  iprop((bigSep (Finset.range 14) (hopTok c d q)) ∗ (bigSep (Finset.range 7) (fetchTok c d q)) ∗ (bigSep (Finset.range 8) (copyTok c d q))
    ∗ bigSep (Finset.range 12) (credTok c d q))
/-- what it is owed on it, -/
def crsS : sProp 𝕄 := iprop((bigSep (Finset.range 14) (recvCr c d q)) ∗ bigSep (Finset.range 12) (credCr c d q))
/-- the stream's parts of the argument, -/
def xsS : sProp 𝕄 := bigSep (Finset.range 8) (xs m c d q)
/-- its parts of the result, at any contents, -/
def osS : sProp 𝕄 := bigSep (Finset.range 8) (os c d q)
/-- and finished; -/
def odS : sProp 𝕄 := bigSep (Finset.range 8) (od m c d q)
/-- the device's first positions -/
def pos₀ : sProp 𝕄 := iprop(sPos c d q 0 ∗ rPos c d q 0 ∗ xPos c d q 0 ∗ pos (copyC c d q) 0 ∗ creds c d q 0)
/-- and its last; -/
def pos₁ : sProp 𝕄 := iprop(sPos c d q 14 ∗ rPos c d q 14 ∗ xPos c d q 7 ∗ pos (copyC c d q) 8 ∗ creds c d q 12)
/-- where the argument is fetched to. -/
def xbS : sProp 𝕄 := iprop(xb c d q 0 ∗ xb c d q 1)
/-- The stream's two slots, at any contents. -/
def slS : sProp 𝕄 := iprop(Sl (c, d, q, (0 : Fin 2)) ∗ Sl (c, d, q, (1 : Fin 2)))

/-- All that a device has of a stream at the start, -/
def startS' : sProp 𝕄 := iprop(toksS c d q ∗ crsS c d q ∗ xsS m c d q ∗ osS c d q ∗ pos₀ c d q ∗ xbS c d q)
/-- and at the end. -/
def endS' : sProp 𝕄 := iprop(pos₁ c d q ∗ xbS c d q ∗ slS c d q ∗ xsS m c d q ∗ odS m c d q)

/-- What the hops of a stream need, collected by what it is. -/
theorem uses_eq : bigSep (Finset.range 14) (Use m c d q)
    = iprop((bigSep (Finset.range 13) fun h => hopTok c d q (h + 1)) ∗ (bigSep (Finset.range 6) fun h => fetchTok c d q (h + 1)) ∗ (bigSep (Finset.range 14) (recvCr c d q))
      ∗ (bigSep (Finset.range 6) fun h => xs m c d q (h + 2))
      ∗ (bigSep (Finset.range 12) fun k => iprop(credTok c d q k ∗ credCr c d q k)) ∗ bigSep (Finset.range 8) fun j => iprop(copyTok c d q j ∗ os c d q j)) := by
  unfold Use
  rw [bigSep_sep', bigSep_sep', bigSep_sep', bigSep_sep', bigSep_sep',
    sep_pick (fun h => hopTok c d q (h + 1)) 14 0 13 (by omega) (fun i => i < 13) (fun i _ => by omega) _ (fun j _ => by rw [Nat.zero_add]),
    sep_pick (fun h => fetchTok c d q (h + 1)) 14 0 6 (by omega) (fun i => i < 6) (fun i _ => by omega) _ (fun j _ => by rw [Nat.zero_add]),
    sep_pick (fun h => xs m c d q (h + 2)) 14 0 6 (by omega) (fun i => i < 6) (fun i _ => by omega) _ (fun j _ => by rw [Nat.zero_add]),
    sep_pick (fun k => iprop(credTok c d q k ∗ credCr c d q k)) 14 1 12 (by omega) (fun i => 1 ≤ i ∧ i < 13) (fun i _ => by omega)
      (fun i => iprop(credTok c d q (i - 1) ∗ credCr c d q (i - 1))) (fun j _ => by simp only [Nat.add_sub_cancel_left]),
    sep_pick (fun j => iprop(copyTok c d q j ∗ os c d q j)) 14 6 8 (by omega) (fun i => 6 ≤ i) (fun i _ => by omega)
      (fun i => iprop(copyTok c d q (i - 6) ∗ os c d q (i - 6))) (fun j _ => by simp only [Nat.add_sub_cancel_left])]

/-- What the device has at the start is enough for the stream's start and all its hops. -/
theorem startS_deal : startS' m c d q ⊢ iprop(begins m c d q ∗ bigSep (Finset.range 14) (Use m c d q)) := by
  rw [uses_eq, bigSep_sep', bigSep_sep']
  unfold startS' toksS crsS xsS osS pos₀ xbS begins
  rw [sep_first (hopTok c d q) 13, sep_first (fetchTok c d q) 6, sep_first (xs m c d q) 7, sep_first (fun h => xs m c d q (h + 1)) 6]
  iintro ⟨⟨⟨Hh0, Hh⟩, ⟨Hf0, Hf⟩, Hc, Hk⟩, ⟨Hr, Hkc⟩, ⟨Hx0, Hx1, Hx⟩, Ho, ⟨P1, P2, P3, P4, P5⟩, Hb0, Hb1⟩
  isplitl [Hh0 Hf0 Hx0 Hx1 P1 P2 P3 P4 P5 Hb0 Hb1]
  · isplitl [Hh0]; · iexact Hh0
    isplitl [Hf0]; · iexact Hf0
    isplitl [Hx0]; · iexact Hx0
    isplitl [Hx1]; · iexact Hx1
    isplitl [P1]; · iexact P1
    isplitl [P2]; · iexact P2
    isplitl [P3]; · iexact P3
    isplitl [P4]; · iexact P4
    isplitl [P5]; · iexact P5
    isplitl [Hb0] <;> iassumption
  isplitl [Hh]; · iexact Hh
  isplitl [Hf]; · iexact Hf
  isplitl [Hr]; · iexact Hr
  isplitl [Hx]; · iexact Hx
  isplitl [Hk Hkc]
  · isplitl [Hk] <;> iassumption
  isplitl [Hc] <;> iassumption

/-- What the hops give back, collected by what it is. -/
theorem rets_eq : bigSep (Finset.range 14) (Ret m c d q)
    = iprop((xs m c d q 0 ∗ xs m c d q 1) ∗ (bigSep (Finset.range 6) fun h => xs m c d q (h + 2)) ∗ bigSep (Finset.range 7) (od m c d q)) := by
  rw [sep_first (Ret m c d q) 13, sep_add (fun h => Ret m c d q (h + 1)) 6 7]
  rw [bigSep_congr (s := Finset.range 6) (Ψ := fun h => xs m c d q (h + 2)) fun h hh =>
      (show Ret m c d q (h + 1) = xs m c d q (h + 2) from if_pos (Finset.mem_range.mp hh)),
    bigSep_congr (s := Finset.range 7) (Ψ := od m c d q) fun h hh =>
      (show Ret m c d q (6 + h + 1) = od m c d q (6 + h - 6) from if_neg (by omega)).trans (by rw [Nat.add_sub_cancel_left])]
  rfl

/-- What is left at the end, with all that the hops gave back, is everything. -/
theorem endS_gather : iprop(ends m c d q ∗ bigSep (Finset.range 14) (Ret m c d q)) ⊢ endS' m c d q := by
  rw [rets_eq]
  unfold endS' ends xsS odS pos₁ xbS slS
  rw [sep_first (xs m c d q) 7, sep_first (fun h => xs m c d q (h + 1)) 6, sep_range 7 (od m c d q)]
  iintro ⟨⟨P1, P2, P3, Hb0, Hb1, P4, P5, Hs0, Hs1, Ho7⟩, ⟨Hx0, Hx1⟩, Hx, Ho⟩
  isplitl [P1 P2 P3 P4 P5]
  · isplitl [P1]; · iexact P1
    isplitl [P2]; · iexact P2
    isplitl [P3]; · iexact P3
    isplitl [P4] <;> iassumption
  isplitl [Hb0 Hb1]
  · isplitl [Hb0] <;> iassumption
  isplitl [Hs0 Hs1]
  · isplitl [Hs0] <;> iassumption
  isplitl [Hx0 Hx1 Hx]
  · isplitl [Hx0]; · iexact Hx0
    isplitl [Hx1] <;> iassumption
  isplitl [Ho7] <;> iassumption

end Stream

/-! ## All streams -/

section All
variable (c : Dev nD)

/-- Per stream and hop, or per step of the loop. -/
theorem times_eq (Φ : Bool → Fin 4 → ℕ → sProp 𝕄) :
    bigSep (Finset.range 112) (fun t => Φ (dirOf (t % 8)) (qOf (t % 8)) (t / 8))
      = bigSep (Finset.range 8) fun s => bigSep (Finset.range 14) fun h => Φ (dirOf s) (qOf s) h := by
  rw [show 112 = 8 * 14 from rfl, sep_eights, sep_comm_range]
  exact bigSep_congr fun s hs => bigSep_congr fun h _ => by
    have := Finset.mem_range.mp hs
    rw [show (8 * h + s) % 8 = s by omega, show (8 * h + s) / 8 = h by omega]

/-- A device's holdings, stream by stream, are what it begins with; -/
theorem beginning_of :
    iprop(pos (barC c) 0 ∗ cred (tallyAt (barC c) 1 2) ∗ (dutyTok ER (barC (nbr c true)) 0 0 ∗ dutyTok ER (barC (nbr c false)) 0 1)
        ∗ (bigSep Finset.univ fun x : Bool × Fin 4 => startS' m c x.1 x.2) ∗ bigSep Finset.univ fun x : Bool × Fin 4 => slots0 c x.1 x.2)
      ⊢ beginning m c := by
  rw [← streams (fun d q => startS' m c d q), ← streams (fun d q => slots0 c d q)]
  unfold beginning
  iintro ⟨H1, H2, ⟨H3, H4⟩, H5, H6⟩
  ihave H := (show bigSep (Finset.range 8) (fun s => startS' m c (dirOf s) (qOf s))
      ⊢ iprop((bigSep (Finset.range 8) fun s => begins m c (dirOf s) (qOf s)) ∗ bigSep (Finset.range 112) (useT m c)) from by
    rw [show bigSep (Finset.range 112) (useT m c) = _ from times_eq (fun d q h => Use m c d q h), ← bigSep_sep']
    exact bigSep_mono fun s _ => startS_deal m c (dirOf s) (qOf s)) $$ H5
  icases H with ⟨H5, H7⟩
  isplitl [H1]; · iexact H1
  isplitl [H2]; · iexact H2
  isplitl [H3]; · iexact H3
  isplitl [H4]; · iexact H4
  isplitl [H5]; · iexact H5
  isplitl [H6] <;> iassumption

/-- and what it ends with is its holdings again. -/
theorem of_ending : ending m c ⊢ iprop(pos (barC c) 1 ∗ bigSep Finset.univ fun x : Bool × Fin 4 => endS' m c x.1 x.2) := by
  rw [← streams (fun d q => endS' m c d q)]
  unfold ending
  iintro ⟨H1, H2, H3⟩
  isplitl [H1]; · iexact H1
  iapply (show iprop((bigSep (Finset.range 8) fun s => ends m c (dirOf s) (qOf s)) ∗ bigSep (Finset.range 112) (retT m c))
      ⊢ bigSep (Finset.range 8) (fun s => endS' m c (dirOf s) (qOf s)) from by
    rw [show bigSep (Finset.range 112) (retT m c) = _ from times_eq (fun d q h => Ret m c d q h), ← bigSep_sep']
    exact bigSep_mono fun s _ => endS_gather m c (dirOf s) (qOf s))
  isplitl [H2] <;> iassumption

end All

end Cert.RingSum
-- ==== Proof.Buffers.lean ====
/-
# The buffers

Argument, result, slots and fetch buffers, whole, against their parts stream by stream.
-/
module

public import proofs.«01_k».proof.Proof.Deal

@[expose] public section

noncomputable section

namespace Cert.RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Where the parts lie -/

/-- Device `c`'s place on the ring. -/
def place (c : Dev nD) : ℕ := if c.val < 4 then c.val else 11 - c.val

/-- The chunk stream `d` of `c` touches `k` steps behind `c`'s own. -/
def chunk (c : Dev nD) (d : Bool) (k : ℕ) : ℕ := (place c + (if d then k else 7 * k)) % 8

/-- The first row of a part of the argument, -/
theorem xOff_eq : ∀ (c : Dev nD) (d : Bool) (k : Fin 8) (q : Fin 4),
    xOff c d k.val q 0 = 1024 * chunk c d k.val + 512 * d.toNat + 128 * q.val ∧ xOff c d k.val q 1 = 0 := by decide +kernel
/-- and of a part of the result. -/
theorem oOff_eq : ∀ (c : Dev nD) (d : Bool) (j : Fin 8) (q : Fin 4),
    oOff c d j.val q 0 = 1024 * chunk c d (j.val + 7) + 512 * d.toNat + 128 * q.val ∧ oOff c d j.val q 1 = 0 := by decide +kernel

/-- The eight steps touch different chunks, -/
theorem chunk_inj : ∀ (c : Dev nD) (d : Bool) (a : Fin 2) (k k' : Fin 8), chunk c d (k.val + 7 * a.val) = chunk c d (k'.val + 7 * a.val) → k = k' := by decide +kernel
/-- every chunk, -/
theorem chunk_onto : ∀ (c : Dev nD) (d : Bool) (a : Fin 2) (g : Fin 8), ∃ k : Fin 8, chunk c d (k.val + 7 * a.val) = g.val := by decide +kernel
/-- and no other. -/
theorem chunk_lt (c : Dev nD) (d : Bool) (k : ℕ) : chunk c d k < 8 := Nat.mod_lt _ (by decide)

/-- A part: its stream and its step. -/
abbrev Part : Type := (Bool × Fin 4) × Fin 8

/-- A part of the argument as a rectangle, -/
def xR (c : Dev nD) (t : Part) : Rect S8192x1024 :=
  Rect.unit (s := S8192x1024) (xOff c t.1.1 t.2.val t.1.2) S128x1024.size (xOff_inb c t.1.1 t.2 t.1.2)
/-- and one of the result. -/
def oR (c : Dev nD) (t : Part) : Rect S8192x1024 :=
  Rect.unit (s := S8192x1024) (oOff c t.1.1 t.2.val t.1.2) S128x1024.size (oOff_inb c t.1.1 t.2 t.1.2)

/-- Parts lie apart when their rows are blocks of 128 told apart by chunk, half and quarter, -/
theorem rows_apart {off off' : Fin 2 → ℕ} {hb hb'} (g g' : ℕ) (d d' : Bool) (q q' : Fin 4)
    (h : off 0 = 1024 * g + 512 * d.toNat + 128 * q.val) (h' : off' 0 = 1024 * g' + 512 * d'.toNat + 128 * q'.val)
    (hne : ¬(g = g' ∧ d = d' ∧ q = q')) :
    Disjoint (Rect.unit (s := S8192x1024) off S128x1024.size hb).set (Rect.unit (s := S8192x1024) off' S128x1024.size hb').set := by
  refine Rect.unit_disjoint (0 : Fin 2) ?_
  show off 0 + 128 ≤ off' 0 ∨ off' 0 + 128 ≤ off 0
  rw [h, h']
  have hd : d.toNat = d'.toNat → d = d' := by cases d <;> cases d' <;> decide
  have hd1 := Bool.toNat_lt d
  have hd2 := Bool.toNat_lt d'
  have hq : q.val = q'.val → q = q' := Fin.ext
  by_contra hc
  refine hne ⟨by omega, hd (by omega), hq (by omega)⟩

/-- and together cover the rows when every chunk occurs. -/
theorem row_in {off : Fin 2 → ℕ} {hb} (i : S8192x1024.Idx) (g : ℕ) (d : Bool) (q : Fin 4)
    (h : off 0 = 1024 * g + 512 * d.toNat + 128 * q.val) (h1 : off 1 = 0)
    (hi : (i 0).val / 1024 = g) (hd : ((i 0).val / 512) % 2 = d.toNat) (hq : ((i 0).val / 128) % 4 = q.val) :
    i ∈ (Rect.unit (s := S8192x1024) off S128x1024.size hb).set := by
  rw [Rect.mem_set_unit]
  refine Fin.forall_fin_two.mpr ⟨?_, ?_⟩
  · show off 0 ≤ (i 0).val ∧ (i 0).val < off 0 + 128
    omega
  · show off 1 ≤ (i 1).val ∧ (i 1).val < off 1 + 1024
    have : (i 1).val < 1024 := (i 1).isLt
    omega

/-- So the argument's parts lie apart, -/
theorem xR_apart (c : Dev nD) (t t' : Part) (h : t ≠ t') : Disjoint (xR c t).set (xR c t').set := by
  obtain ⟨⟨d, q⟩, k⟩ := t
  obtain ⟨⟨d', q'⟩, k'⟩ := t'
  refine rows_apart _ _ d d' q q' (xOff_eq c d k q).1 (xOff_eq c d' k' q').1 ?_
  rintro ⟨hg, rfl, rfl⟩
  exact h (by rw [chunk_inj c d 0 k k' hg])
/-- and so do the result's. -/
theorem oR_apart (c : Dev nD) (t t' : Part) (h : t ≠ t') : Disjoint (oR c t).set (oR c t').set := by
  obtain ⟨⟨d, q⟩, k⟩ := t
  obtain ⟨⟨d', q'⟩, k'⟩ := t'
  refine rows_apart _ _ d d' q q' (oOff_eq c d k q).1 (oOff_eq c d' k' q').1 ?_
  rintro ⟨hg, rfl, rfl⟩
  exact h (by rw [chunk_inj c d 1 k k' hg])

/-- Half and quarter of a row. -/
def halfOf (i : ℕ) : Bool := i / 512 % 2 == 1
/-- The quarter of a row. -/
def quarterOf (i : ℕ) : Fin 4 := ⟨i / 128 % 4, Nat.mod_lt _ (by decide)⟩
/-- The half of a row, as a number. -/
theorem halfOf_toNat (i : ℕ) : i / 512 % 2 = (halfOf i).toNat := by
  unfold halfOf
  rcases Nat.mod_two_eq_zero_or_one (i / 512) with h | h <;> rw [h] <;> rfl

/-- Every element lies in a part of the argument, -/
theorem x_at (c : Dev nD) (i : S8192x1024.Idx) : ∃ k : Fin 8, i ∈ (xR c ((halfOf (i 0).val, quarterOf (i 0).val), k)).set := by
  have h8 : (i 0).val < 8192 := (i 0).isLt
  obtain ⟨k, hk⟩ := chunk_onto c (halfOf (i 0).val) 0 ⟨(i 0).val / 1024, by omega⟩
  exact ⟨k, row_in i _ _ _ (xOff_eq c _ k _).1 (xOff_eq c _ k _).2 hk.symm (halfOf_toNat _) rfl⟩
/-- and in one of the result. -/
theorem o_at (c : Dev nD) (i : S8192x1024.Idx) : ∃ k : Fin 8, i ∈ (oR c ((halfOf (i 0).val, quarterOf (i 0).val), k)).set := by
  have h8 : (i 0).val < 8192 := (i 0).isLt
  obtain ⟨k, hk⟩ := chunk_onto c (halfOf (i 0).val) 1 ⟨(i 0).val / 1024, by omega⟩
  exact ⟨k, row_in i _ _ _ (oOff_eq c _ k _).1 (oOff_eq c _ k _).2 hk.symm (halfOf_toNat _) rfl⟩

/-- The parts make up the argument -/
theorem xR_cover (c : Dev nD) : (Finset.univ : Finset Part).biUnion (fun t => (xR c t).set) = Finset.univ :=
  Finset.eq_univ_iff_forall.mpr fun i => by
    obtain ⟨k, hk⟩ := x_at c i
    exact Finset.mem_biUnion.mpr ⟨_, Finset.mem_univ _, hk⟩
/-- and the result. -/
theorem oR_cover (c : Dev nD) : (Finset.univ : Finset Part).biUnion (fun t => (oR c t).set) = Finset.univ :=
  Finset.eq_univ_iff_forall.mpr fun i => by
    obtain ⟨k, hk⟩ := o_at c i
    exact Finset.mem_biUnion.mpr ⟨_, Finset.mem_univ _, hk⟩

/-! The slots of one direction, and the fetch buffers. -/

/-- A slot as a rectangle, -/
def cR (t : Fin 4 × Fin 2) : Rect S2x4x128x1024 := commRect t.2 t.1
/-- and a fetch place. -/
def bR (t : (Bool × Fin 4) × Fin 2) : Rect S8x2x128x1024 := xbufRect (strm t.1.1 t.1.2) t.2

/-- Slots lie apart -/
theorem cR_apart (t t' : Fin 4 × Fin 2) (h : t ≠ t') : Disjoint (cR t).set (cR t').set := by
  obtain ⟨q, p⟩ := t
  obtain ⟨q', p'⟩ := t'
  by_cases hp : p.val = p'.val
  · have hq : q.val ≠ q'.val := fun hq => h (by rw [Fin.ext hp, Fin.ext hq])
    unfold cR commRect
    exact Rect.unit_disjoint (1 : Fin 4) (show q.val + 1 ≤ q'.val ∨ q'.val + 1 ≤ q.val by omega)
  · unfold cR commRect
    exact Rect.unit_disjoint (0 : Fin 4) (show p.val + 1 ≤ p'.val ∨ p'.val + 1 ≤ p.val by omega)
/-- and make up their buffer. -/
theorem cR_cover : (Finset.univ : Finset (Fin 4 × Fin 2)).biUnion (fun t => (cR t).set) = Finset.univ :=
  Finset.eq_univ_iff_forall.mpr fun i => Finset.mem_biUnion.mpr ⟨(⟨(i 1).val, (i 1).isLt⟩, ⟨(i 0).val, (i 0).isLt⟩), Finset.mem_univ _, by
    unfold cR commRect
    rw [Rect.mem_set_unit]
    intro a
    fin_cases a
    · exact ⟨Nat.le_refl _, Nat.lt_succ_self _⟩
    · exact ⟨Nat.le_refl _, Nat.lt_succ_self _⟩
    · exact ⟨Nat.zero_le _, by have : (i 2).val < 128 := (i 2).isLt; show (i 2).val < 0 + 128; omega⟩
    · exact ⟨Nat.zero_le _, by have : (i 3).val < 1024 := (i 3).isLt; show (i 3).val < 0 + 1024; omega⟩⟩

/-- Different streams have different numbers, -/
theorem strm_inj : ∀ x y : Bool × Fin 4, (strm x.1 x.2).val = (strm y.1 y.2).val → x = y := by decide
/-- and every number is a stream's. -/
theorem strm_onto : ∀ s : Fin 8, ∃ x : Bool × Fin 4, strm x.1 x.2 = s := by decide

/-- Fetch places lie apart -/
theorem bR_apart (t t' : (Bool × Fin 4) × Fin 2) (h : t ≠ t') : Disjoint (bR t).set (bR t').set := by
  obtain ⟨x, p⟩ := t
  obtain ⟨x', p'⟩ := t'
  by_cases hp : p.val = p'.val
  · have hq : (strm x.1 x.2).val ≠ (strm x'.1 x'.2).val := fun hq => h (by rw [Fin.ext hp, strm_inj x x' hq])
    unfold bR xbufRect
    exact Rect.unit_disjoint (0 : Fin 4) (show (strm x.1 x.2).val + 1 ≤ (strm x'.1 x'.2).val ∨ (strm x'.1 x'.2).val + 1 ≤ (strm x.1 x.2).val by omega)
  · unfold bR xbufRect
    exact Rect.unit_disjoint (1 : Fin 4) (show p.val + 1 ≤ p'.val ∨ p'.val + 1 ≤ p.val by omega)
/-- and make up their buffer. -/
theorem bR_cover : (Finset.univ : Finset ((Bool × Fin 4) × Fin 2)).biUnion (fun t => (bR t).set) = Finset.univ :=
  Finset.eq_univ_iff_forall.mpr fun i => by
    obtain ⟨x, hx⟩ := strm_onto ⟨(i 0).val, (i 0).isLt⟩
    have hx : (strm x.1 x.2).val = (i 0).val := congrArg Fin.val hx
    refine Finset.mem_biUnion.mpr ⟨(x, ⟨(i 1).val, (i 1).isLt⟩), Finset.mem_univ _, ?_⟩
    unfold bR xbufRect
    rw [Rect.mem_set_unit]
    intro a
    fin_cases a
    · show (strm x.1 x.2).val ≤ (i 0).val ∧ (i 0).val < (strm x.1 x.2).val + 1
      omega
    · exact ⟨Nat.le_refl _, Nat.lt_succ_self _⟩
    · exact ⟨Nat.zero_le _, by have : (i 2).val < 128 := (i 2).isLt; show (i 2).val < 0 + 128; omega⟩
    · exact ⟨Nat.zero_le _, by have : (i 3).val < 1024 := (i 3).isLt; show (i 3).val < 0 + 1024; omega⟩

/-! ## Cutting and joining -/

/-- There is a value of every type. -/
instance elt_nonempty (e : EltTy) : Nonempty (Elt F e) := by
  cases e <;> first | exact ⟨(0 : BitVec _)⟩ | exact ⟨FloatOps.ofBits (F := F) _ 0⟩

/-- Contents given part by part are the parts of some contents. -/
theorem glue {T : Type} [Fintype T] [DecidableEq T] {s : Shape} {α : Type} (r : T → Rect s) (hd : ∀ t t', t ≠ t' → Disjoint (r t).set (r t').set)
    (hcov : (Finset.univ : Finset T).biUnion (fun t => (r t).set) = Finset.univ) (Z : (t : T) → (r t).shape.Idx → α) :
    ∃ X : s.Idx → α, ∀ t, (fun j => X ((r t).emb j)) = Z t := by
  have hmem (i : s.Idx) : ∃ t, ∃ j, (r t).emb j = i := by
    obtain ⟨t, -, ht⟩ := Finset.mem_biUnion.mp (hcov.symm ▸ Finset.mem_univ i)
    obtain ⟨j, hj⟩ := (r t).exists_idx_of_mem ht
    exact ⟨t, j, hj⟩
  choose T J hJ using hmem
  refine ⟨fun i => Z (T i) (J i), fun t => funext fun j => ?_⟩
  have key (t' : _) (j' : (r t').shape.Idx) (he : (r t').emb j' = (r t).emb j) : Z t' j' = Z t j := by
    by_cases htt : t' = t
    · subst htt
      rw [(r t').emb.injective he]
    · exact absurd ((r t).idx_mem j) fun hm => Finset.disjoint_left.mp (hd t' t htt) ((r t').idx_mem j') ((show (r t').idx j' = (r t).idx j from he) ▸ hm)
  exact key _ _ (hJ _)

section Cut
variable (c : Dev nD) {sp : Space} {s : Shape}

/-- A buffer at any contents, cut into parts at any contents; -/
theorem cut_any {T : Type} [Fintype T] [DecidableEq T] (M : Memref sig .tc sp s .f32) (r : T → Rect s) (hr : ∀ t a, (r t).stride a = 1)
    (hd : ∀ t t', t ≠ t' → Disjoint (r t).set (r t').set) (hcov : (Finset.univ : Finset T).biUnion (fun t => (r t).set) = Finset.univ) :
    iprop(∃ X, ownsTc c M fullShare X) ⊢ (bigSep Finset.univ fun t => iprop(∃ Z, ownsTc c (M.slice (r t) (hr t)) fullShare Z) : sProp 𝕄) := by
  iintro ⟨%X, H⟩
  ihave H := (show ownsTc c M fullShare X ⊢ (bigSep Finset.univ fun t => ownsTc c (M.slice (r t) (hr t)) fullShare fun j => X ((r t).emb j) : sProp 𝕄) from
    owns_rects (c : Thread nD τ) M fullShare r hr hd hcov X) $$ H
  have h (t : T) : ownsTc c (M.slice (r t) (hr t)) fullShare (fun j => X ((r t).emb j))
    ⊢ (iprop(∃ Z, ownsTc c (M.slice (r t) (hr t)) fullShare Z) : sProp 𝕄) := by iintro H; iexists _; iexact H
  iapply (show (bigSep Finset.univ fun t => ownsTc c (M.slice (r t) (hr t)) fullShare fun j => X ((r t).emb j))
    ⊢ (bigSep Finset.univ fun t => iprop(∃ Z, ownsTc c (M.slice (r t) (hr t)) fullShare Z) : sProp 𝕄) from bigSep_mono fun t _ => h t) $$ H

/-- parts of known contents joined to the whole; -/
theorem join_all {T : Type} [Fintype T] [DecidableEq T] (M : Memref sig .tc sp s .f32) (r : T → Rect s) (hr : ∀ t a, (r t).stride a = 1)
    (hd : ∀ t t', t ≠ t' → Disjoint (r t).set (r t').set) (hcov : (Finset.univ : Finset T).biUnion (fun t => (r t).set) = Finset.univ)
    (Z : (t : T) → (r t).shape.Idx → Elt F .f32) :
    (bigSep Finset.univ fun t => ownsTc c (M.slice (r t) (hr t)) fullShare (Z t))
      ⊢ (iprop(∃ X, ⌜∀ t, (fun j => X ((r t).emb j)) = Z t⌝ ∗ ownsTc c M fullShare X) : sProp 𝕄) := by
  obtain ⟨X, hX⟩ := glue r hd hcov Z
  iintro H
  iexists X
  isplitr; · ipureintro; exact hX
  have he : (bigSep Finset.univ fun t => ownsTc c (M.slice (r t) (hr t)) fullShare (Z t) : sProp 𝕄)
      = bigSep Finset.univ fun t => ownsTc c (M.slice (r t) (hr t)) fullShare fun j => X ((r t).emb j) :=
    bigSep_congr fun t _ => by rw [← hX t]
  iapply ((Entails.of_eq he).trans (owns_of_rects (c : Thread nD τ) M fullShare r hr hd hcov X)) $$ H

/-- and parts at any contents. -/
theorem join_any {T : Type} [Fintype T] [DecidableEq T] (M : Memref sig .tc sp s .f32) (r : T → Rect s) (hr : ∀ t a, (r t).stride a = 1)
    (hd : ∀ t t', t ≠ t' → Disjoint (r t).set (r t').set) (hcov : (Finset.univ : Finset T).biUnion (fun t => (r t).set) = Finset.univ) :
    (bigSep Finset.univ fun t => iprop(∃ Z, ownsTc c (M.slice (r t) (hr t)) fullShare Z)) ⊢ (iprop(∃ X, ownsTc c M fullShare X) : sProp 𝕄) := by
  iintro H
  haveI (t : T) : Nonempty ((r t).shape.Idx → Elt F .f32) := ⟨fun _ => Classical.choice (elt_nonempty .f32)⟩
  ihave H := (BI.bigSep_exists_pi Finset.univ (fun (t : T) (Z : (r t).shape.Idx → Elt F .f32) => (ownsTc c (M.slice (r t) (hr t)) fullShare Z : sProp 𝕄))) $$ H
  icases H with ⟨%Z, H⟩
  ihave H := (join_all c M r hr hd hcov Z) $$ H
  icases H with ⟨%X, -, H⟩
  iexists X; iexact H

/-- A part of rank four, and the same as a matrix. -/
theorem sq_any (M : Memref sig .tc .vmem s .f32) (r : Rect s) (hr : ∀ a, r.stride a = 1) (hq : r.shape.Squeezes S128x1024) :
    (iprop(∃ Z, ownsTc c (M.slice r hr) fullShare Z) : sProp 𝕄) = iprop(∃ Y, ownsTc c ((M.slice r hr).squeeze S128x1024 hq) fullShare Y) := by
  have h1 : (iprop(∃ Z, ownsTc c (M.slice r hr) fullShare Z) : sProp 𝕄) ⊢ iprop(∃ Y, ownsTc c ((M.slice r hr).squeeze S128x1024 hq) fullShare Y) := by
    iintro ⟨%Z, H⟩
    ihave H := (owns_open c _ fullShare Z) $$ H
    icases H with ⟨%f, -, H⟩
    iexists _
    iapply (owns_intro (c : Thread nD τ) ((M.slice r hr).squeeze S128x1024 hq) fullShare f)
    rw [sq_set]; iexact H
  have h2 : (iprop(∃ Y, ownsTc c ((M.slice r hr).squeeze S128x1024 hq) fullShare Y) : sProp 𝕄) ⊢ iprop(∃ Z, ownsTc c (M.slice r hr) fullShare Z) := by
    iintro ⟨%Y, H⟩
    ihave H := (owns_open c _ fullShare Y) $$ H
    icases H with ⟨%f, -, H⟩
    iexists _
    iapply (owns_intro (c : Thread nD τ) (M.slice r hr) fullShare f)
    rw [sq_set]; iexact H
  exact Entails.antisymm h1 h2

end Cut

/-! ## Stream by stream -/

/-- A family over eight counts. -/
theorem sep_fin8 (Φ : Fin 8 → sProp 𝕄) : bigSep (Finset.range 8) (fun k => Φ (mod8 k)) = bigSep Finset.univ Φ := by
  have hr : Finset.range 8 = (Finset.univ : Finset (Fin 8)).map Fin.valEmbedding := by decide
  rw [hr, bigSep_map]
  exact bigSep_congr fun k _ => by rw [show mod8 (Fin.valEmbedding k) = k from Fin.ext (Nat.mod_eq_of_lt k.isLt)]

/-- A family over pairs, one index after the other. -/
theorem sep_parts {A B : Type} [Fintype A] [Fintype B] [DecidableEq A] [DecidableEq B] (Φ : A × B → sProp 𝕄) :
    bigSep Finset.univ Φ = bigSep Finset.univ fun a => bigSep Finset.univ fun b => Φ (a, b) := bigSep_univ_prod Φ

variable (m : (ℓ : Loc nD τ sig) → Buf (Elt F) ℓ)

section Streams
variable (c : Dev nD)

/-- The streams' parts of the argument are all its parts. -/
theorem xs_eq : (bigSep Finset.univ fun x : Bool × Fin 4 => xsS m c x.1 x.2)
    = bigSep Finset.univ fun t : Part => ownsTc c (xM.slice (xR c t) (fun _ => rfl)) fullShare fun j => m ((c : Thread nD τ).loc main_arg0) ((xR c t).emb j) := by
  refine Eq.trans ?_ (sep_parts _).symm
  exact bigSep_congr fun (x : Bool × Fin 4) _ => sep_fin8 fun k => ownsTc c (xSl c x.1 k x.2) fullShare (xv m c x.1 k x.2)

/-- The argument, cut into the streams' parts, -/
theorem x_cut : (((c : Thread nD τ).loc main_arg0) ↦{fullShare} m ((c : Thread nD τ).loc main_arg0) : sProp 𝕄) ⊢ (bigSep Finset.univ fun x : Bool × Fin 4 => xsS m c x.1 x.2 : sProp 𝕄) := by
  rw [xs_eq, ← owns_whole]
  exact owns_rects (c : Thread nD τ) xM fullShare (xR c) (fun _ _ => rfl) (xR_apart c) (xR_cover c) _

/-- and joined again. -/
theorem x_join : (bigSep Finset.univ fun x : Bool × Fin 4 => xsS m c x.1 x.2 : sProp 𝕄) ⊢ (((c : Thread nD τ).loc main_arg0) ↦{fullShare} m ((c : Thread nD τ).loc main_arg0) : sProp 𝕄) := by
  rw [xs_eq, ← owns_whole]
  exact owns_of_rects (c : Thread nD τ) xM fullShare (xR c) (fun _ _ => rfl) (xR_apart c) (xR_cover c) _

/-- The result, cut at any contents, -/
theorem o_cut (f : Buf (Elt F) ((c : Thread nD τ).loc main_v1)) :
    (((c : Thread nD τ).loc main_v1) ↦{fullShare} f : sProp 𝕄) ⊢ (bigSep Finset.univ fun x : Bool × Fin 4 => osS c x.1 x.2 : sProp 𝕄) := by
  have he : (bigSep Finset.univ fun x : Bool × Fin 4 => osS (F := F) c x.1 x.2)
      = bigSep Finset.univ fun t : Part => iprop(∃ Z, ownsTc c (oM.slice (oR c t) (fun _ => rfl)) fullShare Z) := by
    refine Eq.trans ?_ (sep_parts _).symm
    exact bigSep_congr fun (x : Bool × Fin 4) _ => sep_fin8 fun k => iprop(∃ Y, ownsTc c (oSl c x.1 k x.2) fullShare Y)
  rw [he, ← owns_whole]
  iintro H
  iapply (cut_any c oM (oR c) (fun _ _ => rfl) (oR_apart c) (oR_cover c))
  iexists f; iexact H

/-- The result is finished: each part is what its stream carried last. -/
def Finished (c : Dev nD) (X : Buf (Elt F) ((c : Thread nD τ).loc main_v1)) : Prop :=
  ∀ (d : Bool) (q : Fin 4) (j : Fin 8), (oSl c d j q).view.read (Elt F) X = sent m d q (j.val + 7) c

/-- and joined when every part is finished. -/
theorem o_join : (bigSep Finset.univ fun x : Bool × Fin 4 => odS m c x.1 x.2 : sProp 𝕄)
    ⊢ iprop(∃ X, ⌜Finished m c X⌝ ∗ ((c : Thread nD τ).loc main_v1) ↦{fullShare} X) := by
  have he : (bigSep Finset.univ fun x : Bool × Fin 4 => odS m c x.1 x.2)
      = bigSep Finset.univ fun t : Part => ownsTc c (oM.slice (oR c t) (fun _ => rfl)) fullShare (sent m t.1.1 t.1.2 (t.2.val + 7) c) := by
    refine Eq.trans ?_ (sep_parts _).symm
    refine bigSep_congr fun (x : Bool × Fin 4) _ => Eq.trans (bigSep_congr fun j hj => ?_) (sep_fin8 fun k => ownsTc c (oSl c x.1 k x.2) fullShare (sent m x.1 x.2 (k.val + 7) c))
    show od m c x.1 x.2 j = _
    unfold od
    rw [show (mod8 j).val = j from Nat.mod_eq_of_lt (Finset.mem_range.mp hj)]
  rw [he]
  iintro H
  ihave H := (join_all c oM (oR c) (fun _ _ => rfl) (oR_apart c) (oR_cover c) fun t => sent m t.1.1 t.1.2 (t.2.val + 7) c) $$ H
  icases H with ⟨%X, %hX, H⟩
  iexists X
  isplitr
  · ipureintro; exact fun d q j => hX ((d, q), j)
  rw [← owns_whole]; iexact H

/-- One direction's slots. -/
theorem comm_eq (d : Bool) : (bigSep Finset.univ fun q : Fin 4 => slS (F := F) c d q)
    = bigSep Finset.univ fun t : Fin 4 × Fin 2 => iprop(∃ Z, ownsTc c ((commM d).slice (cR t) (fun _ => rfl)) fullShare Z) := by
  refine Eq.trans ?_ (sep_parts _).symm
  refine bigSep_congr fun (q : Fin 4) _ => ?_
  refine Eq.trans ?_ (bigSep_fin_two _).symm
  rw [ sq_any c (commM d) (cR (q, 0)) (fun _ => rfl) squeezes_S1x1x128x1024_S128x1024, sq_any c (commM d) (cR (q, 1)) (fun _ => rfl) squeezes_S1x1x128x1024_S128x1024]
  rfl

/-- The streams' slots are both slot buffers, -/
theorem slots_eq : (bigSep Finset.univ fun x : Bool × Fin 4 => slS (F := F) c x.1 x.2)
    = iprop((∃ f, ((c : Thread nD τ).loc cc0_scratch0) ↦{fullShare} f) ∗ ∃ f, ((c : Thread nD τ).loc cc0_scratch1) ↦{fullShare} f) := by
  have h0 : (iprop(∃ f, ((c : Thread nD τ).loc cc0_scratch0) ↦{fullShare} f) : sProp 𝕄) = iprop(∃ X, ownsTc c (commM false) fullShare X) :=
    congrArg BIBase.exists (funext fun f => (owns_whole (c : Thread nD τ) cc0_scratch0 fullShare f).symm)
  have h1 : (iprop(∃ f, ((c : Thread nD τ).loc cc0_scratch1) ↦{fullShare} f) : sProp 𝕄) = iprop(∃ X, ownsTc c (commM true) fullShare X) :=
    congrArg BIBase.exists (funext fun f => (owns_whole (c : Thread nD τ) cc0_scratch1 fullShare f).symm)
  have hd (d : Bool) : (bigSep Finset.univ fun q : Fin 4 => slS (F := F) c d q) = iprop(∃ X, ownsTc c (commM d) fullShare X) := by
    rw [comm_eq]
    exact Entails.antisymm (join_any c (commM d) cR (fun _ _ => rfl) cR_apart cR_cover) (cut_any c (commM d) cR (fun _ _ => rfl) cR_apart cR_cover)
  rw [h0, h1, ← hd false, ← hd true]
  refine (sep_parts (fun x : Bool × Fin 4 => slS (F := F) c x.1 x.2)).trans ?_
  let Ψ : Bool → sProp 𝕄 := fun d => bigSep Finset.univ fun q : Fin 4 => slS c d q
  exact bigSep_univ_eq_bigSepL (Φ := Ψ) [false, true] (by decide) (by decide)

/-- and their fetch places are the fetch buffer. -/
theorem xbuf_eq : (bigSep Finset.univ fun x : Bool × Fin 4 => xbS (F := F) c x.1 x.2)
    = iprop(∃ f, ((c : Thread nD τ).loc cc0_scratch10) ↦{fullShare} f) := by
  have h0 : (iprop(∃ f, ((c : Thread nD τ).loc cc0_scratch10) ↦{fullShare} f) : sProp 𝕄) = iprop(∃ X, ownsTc c xbufM fullShare X) :=
    congrArg BIBase.exists (funext fun f => (owns_whole (c : Thread nD τ) cc0_scratch10 fullShare f).symm)
  have he : (bigSep Finset.univ fun x : Bool × Fin 4 => xbS (F := F) c x.1 x.2)
      = bigSep Finset.univ fun t : (Bool × Fin 4) × Fin 2 => iprop(∃ Z, ownsTc c (xbufM.slice (bR t) (fun _ => rfl)) fullShare Z) := by
    refine Eq.trans ?_ (sep_parts _).symm
    refine bigSep_congr fun (x : Bool × Fin 4) _ => ?_
    refine Eq.trans ?_ (bigSep_fin_two _).symm
    rw [ sq_any c xbufM (bR (x, 0)) (fun _ => rfl) squeezes_S1x1x128x1024_S128x1024, sq_any c xbufM (bR (x, 1)) (fun _ => rfl) squeezes_S1x1x128x1024_S128x1024]
    rfl
  rw [h0, he]
  exact Entails.antisymm (join_any c xbufM bR (fun _ _ => rfl) bR_apart bR_cover) (cut_any c xbufM bR (fun _ _ => rfl) bR_apart bR_cover)

end Streams

end Cert.RingSum
-- ==== Proof.Ghost.lean ====
/-
# The protocol's resources

What the launch mints, cell by cell, dealt out stream by stream to the device that uses it.
-/
module

public import proofs.«01_k».proof.Proof.Buffers

@[expose] public section

noncomputable section

namespace Cert.RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)

/-! ## The kinds of semaphore, stream by stream -/

/-- The eight semaphores of a stream. -/
def kindAt (k : (Bool × Fin 4) × Fin 8) : Kind :=
  match k.2 with
  | 0 => .send k.1.1 k.1.2 0
  | 1 => .send k.1.1 k.1.2 1
  | 2 => .recv k.1.1 k.1.2 0
  | 3 => .recv k.1.1 k.1.2 1
  | 4 => .xf k.1.1 k.1.2 0
  | 5 => .xf k.1.1 k.1.2 1
  | 6 => .copy k.1.1 k.1.2
  | 7 => .cred k.1.1 k.1.2

/-- They are told apart, -/
theorem kindAt_inj : Function.Injective kindAt := by
  have h : ∀ a b, kindAt a = kindAt b → a = b := by decide +kernel
  exact fun a b => h a b
/-- and with the handshake they are all kinds, -/
theorem kinds_univ : (Finset.univ : Finset Kind) = insert .bar (Finset.univ.map ⟨kindAt, kindAt_inj⟩) := by
  rw [Finset.map_eq_image]
  show _ = insert Kind.bar (Finset.image kindAt Finset.univ)
  decide +kernel
/-- which is none of the streams'. -/
theorem bar_not : Kind.bar ∉ (Finset.univ : Finset ((Bool × Fin 4) × Fin 8)).map ⟨kindAt, kindAt_inj⟩ := by
  rw [Finset.map_eq_image]
  show Kind.bar ∉ Finset.image kindAt Finset.univ
  decide +kernel

/-- A stream's eight. -/
def eight (Φ : Kind → sProp 𝕄) (x : Bool × Fin 4) : sProp 𝕄 :=
  iprop(Φ (.send x.1 x.2 0) ∗ Φ (.send x.1 x.2 1) ∗ Φ (.recv x.1 x.2 0) ∗ Φ (.recv x.1 x.2 1) ∗ Φ (.xf x.1 x.2 0) ∗ Φ (.xf x.1 x.2 1)
    ∗ Φ (.copy x.1 x.2) ∗ Φ (.cred x.1 x.2))

/-- A family over the streams' semaphores, -/
theorem sep_eight (Φ : Kind → sProp 𝕄) :
    (bigSep Finset.univ fun k => Φ (kindAt k)) = bigSep Finset.univ (eight Φ) := by
  refine (sep_parts _).trans (bigSep_congr fun x _ => ?_)
  exact bigSep_univ_eq_bigSepL (Φ := fun i => Φ (kindAt (x, i))) [0, 1, 2, 3, 4, 5, 6, 7] (by decide) (by decide)

/-- and over all of a device's. -/
theorem sep_kinds (Φ : Kind → sProp 𝕄) : bigSep Finset.univ Φ = iprop(Φ .bar ∗ bigSep Finset.univ (eight Φ)) := by
  rw [← sep_eight, kinds_univ, bigSep_insert bar_not, bigSep_map]; rfl

/-! ## Cells -/

/-- The cell of a device and a kind. -/
def cellAt (x : Dev nD × Kind) : GSem nD τ sig := ((x.1 : Thread nD τ), x.2.sem)
/-- Cells are told apart. -/
theorem cellAt_inj : Function.Injective cellAt := by
  rintro ⟨c, k⟩ ⟨c', k'⟩ h
  have h1 : c = c' := by have := congrArg (fun g : GSem nD τ sig => g.1.1) h; exact this
  have h2 : k = k' := Kind.sem_injective (congrArg Prod.snd h)
  rw [h1, h2]

/-- All cells, -/
def cells : Finset (GSem nD τ sig) := Finset.univ.map ⟨cellAt, cellAt_inj⟩
/-- and a right for each of the first rounds and duties of each. -/
def tokAt (x : (Dev nD × Kind) × ℕ × ℕ) : GSem nD τ sig × ℕ × ℕ := (cellAt x.1, x.2)
/-- Rights are told apart. -/
theorem tokAt_inj : Function.Injective tokAt := by
  rintro ⟨a, b⟩ ⟨a', b'⟩ h
  exact Prod.ext (cellAt_inj (congrArg Prod.fst h)) (show b = b' from congrArg Prod.snd h)
/-- All the rights that are minted. -/
def toks : Finset (GSem nD τ sig × ℕ × ℕ) :=
  ((Finset.univ : Finset (Dev nD × Kind)) ×ˢ (Finset.range 8 ×ˢ Finset.range 12)).map ⟨tokAt, tokAt_inj⟩

/-- A family over a product. -/
theorem sep_times {A B : Type} [DecidableEq A] [DecidableEq B] (s : Finset A) (t : Finset B) (Φ : A × B → sProp 𝕄) :
    bigSep (s ×ˢ t) Φ = bigSep s fun a => bigSep t fun b => Φ (a, b) := by
  induction s using Finset.induction_on with
  | empty => rw [Finset.empty_product, bigSep_empty, bigSep_empty]
  | insert a s ha ih =>
    have hd : Disjoint (({a} : Finset A) ×ˢ t) (s ×ˢ t) :=
      Finset.disjoint_left.mpr fun x hx hx' => ha (by
        have h1 := Finset.mem_singleton.mp (Finset.mem_product.mp hx).1
        exact h1 ▸ (Finset.mem_product.mp hx').1)
    rw [Finset.insert_eq, Finset.union_product, bigSep_union hd, Finset.singleton_product, bigSep_map, ← Finset.insert_eq, bigSep_insert ha, ih]
    rfl

/-- The rights minted for a cell. -/
def rights (x : Dev nD × Kind) : sProp 𝕄 := bigSep (Finset.range 8) fun r => bigSep (Finset.range 12) fun j => dutyTok ER (cellAt x) r j

/-- Of a cell's rights, those of the first duty of each round, -/
theorem rights_zero (x : Dev nD × Kind) : rights (F := F) x ⊢ bigSep (Finset.range 8) fun r => dutyTok ER (cellAt x) r 0 :=
  bigSep_mono fun r _ => bigSep_elim (Φ := fun j => dutyTok ER (cellAt x) r j) (Finset.mem_range.mpr (by decide))
/-- and those of every duty of the first round. -/
theorem rights_first (x : Dev nD × Kind) : rights (F := F) x ⊢ bigSep (Finset.range 12) fun j => dutyTok ER (cellAt x) 0 j :=
  bigSep_elim (Φ := fun r => bigSep (Finset.range 12) fun j => dutyTok ER (cellAt x) r j) (Finset.mem_range.mpr (by decide))

/-- A family over all cells, device by device, -/
theorem sep_cells (Φ : GSem nD τ sig → sProp 𝕄) : bigSep cells Φ = bigSep Finset.univ fun c : Dev nD => bigSep Finset.univ fun k : Kind => Φ (cellAt (c, k)) := by
  unfold cells; rw [bigSep_map]; exact sep_parts _
/-- and all rights, device by device. -/
theorem sep_toks : (bigSep toks fun x => dutyTok ER x.1 x.2.1 x.2.2) = bigSep Finset.univ fun c : Dev nD => bigSep Finset.univ fun k : Kind => rights (F := F) (c, k) := by
  unfold toks
  rw [bigSep_map, sep_times]
  refine Eq.trans (bigSep_congr fun x _ => ?_) (sep_parts rights)
  rw [sep_times]; rfl

/-- Per device a family, cell by cell; over all devices, the barriers' and the streams'. -/
abbrev St : Type := Dev nD × (Bool × Fin 4)

/-- Over all devices: the handshakes', and the streams'. -/
theorem sep_devs (Φ : Dev nD × Kind → sProp 𝕄) :
    (bigSep Finset.univ fun c : Dev nD => bigSep Finset.univ fun k : Kind => Φ (c, k))
      = iprop((bigSep Finset.univ fun c : Dev nD => Φ (c, .bar)) ∗ bigSep Finset.univ fun y : St => eight (fun k => Φ (y.1, k)) y.2) := by
  rw [bigSep_congr (s := Finset.univ) (fun (c : Dev nD) _ => sep_kinds fun k => Φ (c, k)), bigSep_sep', sep_parts (fun y : St => eight (fun k => Φ (y.1, k)) y.2)]

/-! ## Dealing -/

/-- The devices, seen from the next one on, -/
def nbrE (d : Bool) : Dev nD ≃ Dev nD := ⟨fun c => nbr c d, fun c => ups c d, fun c => ups_nbr c d, fun c => nbr_ups c d⟩
/-- and the streams. -/
def nbrS : St ≃ St := ⟨fun y => (nbr y.1 y.2.1, y.2), fun y => (ups y.1 y.2.1, y.2), fun y => Prod.ext (ups_nbr y.1 y.2.1) rfl, fun y => Prod.ext (nbr_ups y.1 y.2.1) rfl⟩

/-- A slot's key is its stream and its place, -/
def keyE : St × Fin 2 ≃ Key :=
  ⟨fun y => (y.1.1, y.1.2.1, y.1.2.2, y.2), fun k => ((k.1, (k.2.1, k.2.2.1)), k.2.2.2), fun _ => rfl, fun _ => rfl⟩

/-- so the slots go by two to a stream. -/
theorem sep_keys (Φ : Key → sProp 𝕄) :
    bigSep Finset.univ Φ = bigSep Finset.univ fun y : St => iprop(Φ (y.1, y.2.1, y.2.2, 0) ∗ Φ (y.1, y.2.1, y.2.2, 1)) := by
  rw [bigSep_univ_equiv keyE]
  refine (sep_parts _).trans (bigSep_congr fun y _ => ?_)
  exact bigSep_fin_two _

section Own
variable (c : Dev nD) (d : Bool) (q : Fin 4)

/-- The rights minted for a stream's own cells, by use. -/
def sendT : sProp 𝕄 := bigSep (Finset.range 14) fun h => dutyTok ER (sendC c d (par h) q) (h / 2) 0
/-- Those of the arrivals, -/
def recvT : sProp 𝕄 := bigSep (Finset.range 14) fun h => dutyTok ER (recvC c d (par h) q) (h / 2) 0
/-- of the credits, -/
def credT : sProp 𝕄 := bigSep (Finset.range 12) fun k => dutyTok ER (credC c d q) 0 k
/-- those to write its slots, -/
def writeT : sProp 𝕄 := bigSep (Finset.range 14) fun h => writeTok ES (c, d, q, par h) (h / 2 + 1)
/-- and all of the cells' together. -/
def ownT : sProp 𝕄 := iprop(sendT c d q ∗ recvT c d q ∗ (bigSep (Finset.range 7) (fetchTok c d q)) ∗ (bigSep (Finset.range 8) (copyTok c d q)) ∗ credT c d q)

/-- Two cells' rights in turn. -/
theorem rights_turns (k : Fin 2 → Kind) (n : ℕ) (hn : n ≤ 16) :
    iprop(rights (c, k 0) ∗ rights (c, k 1)) ⊢ bigSep (Finset.range n) fun h => (dutyTok ER (cellAt (c, k (par h))) (h / 2) 0 : sProp 𝕄) :=
  (BI.sep_mono (rights_zero (c, k 0)) (rights_zero (c, k 1))).trans
    ((Entails.of_eq (sep_turns (fun p r => dutyTok ER (cellAt (c, k p)) r 0) 8)).trans (bigSep_subset (Finset.range_subset_range.mpr hn)))

/-- A stream's rights by use. -/
theorem own_rights : eight (fun k => rights (F := F) (c, k)) (d, q) ⊢ ownT c d q := by
  unfold eight ownT
  iintro ⟨S0, S1, R0, R1, X0, X1, Hc, Hk⟩
  isplitl [S0 S1]
  · iapply (show iprop(rights (c, .send d q 0) ∗ rights (c, .send d q 1)) ⊢ (sendT c d q : sProp 𝕄) from rights_turns c (fun p => .send d q p) 14 (by omega))
    isplitl [S0] <;> iassumption
  isplitl [R0 R1]
  · iapply (show iprop(rights (c, .recv d q 0) ∗ rights (c, .recv d q 1)) ⊢ (recvT c d q : sProp 𝕄) from rights_turns c (fun p => .recv d q p) 14 (by omega))
    isplitl [R0] <;> iassumption
  isplitl [X0 X1]
  · iapply (rights_turns c (fun p => .xf d q p) 7 (by omega))
    isplitl [X0] <;> iassumption
  isplitl [Hc]
  · iapply (rights_zero (c, .copy d q)); iexact Hc
  · iapply (show rights (c, .cred d q) ⊢ (credT c d q : sProp 𝕄) from rights_first (c, .cred d q)); iexact Hk

/-- What a stream's device uses, by where it was minted. -/
theorem toks_of : iprop(sendT c d q ∗ (recvT (nbr c d) d q ∗ writeT (nbr c d) d q) ∗ (bigSep (Finset.range 7) (fetchTok c d q))
    ∗ (bigSep (Finset.range 8) (copyTok c d q)) ∗ credT (ups c d) d q) ⊢ toksS (F := F) c d q := by
  have he : bigSep (Finset.range 14) (hopTok (F := F) c d q) = iprop(sendT c d q ∗ recvT (nbr c d) d q ∗ writeT (nbr c d) d q) := by
    unfold hopTok sendT recvT writeT
    rw [bigSep_sep', bigSep_sep']
  unfold toksS
  rw [he]
  iintro ⟨H1, H2, H3, H4, H5⟩
  isplitl [H1 H2]
  · isplitl [H1] <;> iassumption
  isplitl [H3]; · iexact H3
  isplitl [H4]; · iexact H4
  iapply (show credT (ups c d) d q ⊢ (bigSep (Finset.range 12) (credTok c d q) : sProp 𝕄) from .rfl); iexact H5

/-- The slots' counts. -/
def readersS : sProp 𝕄 := iprop(readerAt ES (c, d, q, (0 : Fin 2)) 0 ∗ readerAt ES (c, d, q, (1 : Fin 2)) 0)

/-- A stream's places at the start. -/
theorem pos_of : eight (fun k => pos (F := F) (cellAt (c, k)) 0) (d, q) ⊢ pos₀ c d q := by
  unfold eight pos₀ sPos rPos xPos creds
  rw [if_pos (by decide)]
  iintro ⟨S0, S1, R0, R1, X0, X1, Hc, Hk⟩
  isplitl [S0 S1]
  · iapply (show iprop(pos (cellAt (c, .send d q 0)) 0 ∗ pos (cellAt (c, .send d q 1)) 0) ⊢ (two (fun p => sendC c d p q) 0 : sProp 𝕄) from .rfl)
    isplitl [S0] <;> iassumption
  isplitl [R0 R1]
  · iapply (show iprop(pos (cellAt (c, .recv d q 0)) 0 ∗ pos (cellAt (c, .recv d q 1)) 0) ⊢ (two (fun p => recvC c d p q) 0 : sProp 𝕄) from .rfl)
    isplitl [R0] <;> iassumption
  isplitl [X0 X1]
  · iapply (show iprop(pos (cellAt (c, .xf d q 0)) 0 ∗ pos (cellAt (c, .xf d q 1)) 0) ⊢ (two (fun p => xC c d p q) 0 : sProp 𝕄) from .rfl)
    isplitl [X0] <;> iassumption
  isplitl [Hc]; · iexact Hc
  iexists ∅
  isplitr; · ipureintro; exact ⟨Finset.empty_subset _, by decide⟩
  rw [bigSep_empty]
  isplitl
  · iapply (show pos (cellAt (c, .cred d q)) 0 ⊢ (atPos ER (credC c d q) 0 ∅ 0 : sProp 𝕄) from by unfold pos; iintro ⟨H, -⟩; iexact H)
    iexact Hk
  · iempintro

end Own

/-! ## A device's share -/

/-- What the launch deals device `c`. -/
def linear (c : Dev nD) : sProp 𝕄 :=
  iprop(pos (barC c) 0 ∗ (dutyTok ER (barC (nbr c true)) 0 0 ∗ dutyTok ER (barC (nbr c false)) 0 1)
    ∗ bigSep Finset.univ fun x : Bool × Fin 4 => iprop(toksS c x.1 x.2 ∗ pos₀ c x.1 x.2 ∗ readersS c x.1 x.2))

/-- The barriers' rights go to the neighbours. -/
theorem bars_deal : (bigSep Finset.univ fun c : Dev nD => rights (F := F) (c, .bar))
    ⊢ bigSep Finset.univ fun c : Dev nD => iprop(dutyTok ER (barC (nbr c true)) 0 0 ∗ dutyTok ER (barC (nbr c false)) 0 1) := by
  have h (c : Dev nD) : rights (F := F) (c, .bar) ⊢ iprop(dutyTok ER (barC c) 0 0 ∗ dutyTok ER (barC c) 0 1) := by
    refine (rights_first (c, .bar)).trans ?_
    refine BIBase.Entails.trans (show _ ⊢ bigSep ({0, 1} : Finset ℕ) fun j => (dutyTok ER (barC c) 0 j : sProp 𝕄) from bigSep_subset (by decide)) ?_
    rw [bigSep_insert (by decide), bigSep_singleton]
    exact .rfl
  have h0 : (bigSep Finset.univ fun c : Dev nD => (dutyTok ER (barC c) 0 0 : sProp 𝕄)) = bigSep Finset.univ fun c : Dev nD => dutyTok ER (barC (nbr c true)) 0 0 :=
    bigSep_univ_equiv (nbrE true) _
  have h1 : (bigSep Finset.univ fun c : Dev nD => (dutyTok ER (barC c) 0 1 : sProp 𝕄)) = bigSep Finset.univ fun c : Dev nD => dutyTok ER (barC (nbr c false)) 0 1 :=
    bigSep_univ_equiv (nbrE false) _
  refine (bigSep_mono fun c _ => h c).trans ?_
  rw [bigSep_sep', bigSep_sep', h0, h1]
  exact BI.Entails.refl _

/-- A stream's rights go to the device before it and the device after it. -/
theorem streams_deal : iprop((bigSep Finset.univ fun y : St => eight (fun k => rights (F := F) (y.1, k)) y.2) ∗ bigSep Finset.univ fun y : St => writeT y.1 y.2.1 y.2.2)
    ⊢ bigSep Finset.univ fun y : St => toksS y.1 y.2.1 y.2.2 := by
  refine BIBase.Entails.trans ?_ (bigSep_mono fun y _ => toks_of y.1 y.2.1 y.2.2)
  simp only [bigSep_sep']
  have h0 : (bigSep Finset.univ fun y : St => (recvT y.1 y.2.1 y.2.2 : sProp 𝕄)) = bigSep Finset.univ fun y : St => recvT (nbr y.1 y.2.1) y.2.1 y.2.2 :=
    bigSep_univ_equiv nbrS _
  have h1 : (bigSep Finset.univ fun y : St => (writeT y.1 y.2.1 y.2.2 : sProp 𝕄)) = bigSep Finset.univ fun y : St => writeT (nbr y.1 y.2.1) y.2.1 y.2.2 :=
    bigSep_univ_equiv nbrS _
  have h2 : (bigSep Finset.univ fun y : St => (credT y.1 y.2.1 y.2.2 : sProp 𝕄)) = bigSep Finset.univ fun y : St => credT (ups y.1 y.2.1) y.2.1 y.2.2 :=
    bigSep_univ_equiv nbrS.symm _
  rw [← h0, ← h1, ← h2]
  iintro ⟨H, HW⟩
  ihave H := (show (bigSep Finset.univ fun y : St => eight (fun k => rights (F := F) (y.1, k)) y.2) ⊢ (bigSep Finset.univ fun y : St => ownT y.1 y.2.1 y.2.2) from
    bigSep_mono fun y _ => own_rights y.1 y.2.1 y.2.2) $$ H
  unfold ownT
  simp only [bigSep_sep']
  icases H with ⟨H1, H2, H3, H4, H5⟩
  isplitl [H1]; · iexact H1
  isplitl [H2 HW]
  · isplitl [H2] <;> iassumption
  isplitl [H3]; · iexact H3
  isplitl [H4]; · iexact H4
  iexact H5

/-- The rights to write, stream by stream. -/
theorem writes_eq : (bigSep ((Finset.univ : Finset Key) ×ˢ Finset.range 7) fun x => (writeTok ES x.1 (x.2 + 1) : sProp 𝕄))
    = bigSep Finset.univ fun y : St => writeT y.1 y.2.1 y.2.2 := by
  rw [sep_times, sep_keys]
  exact bigSep_congr fun y _ => sep_turns (fun p r => writeTok ES (y.1, y.2.1, y.2.2, p) (r + 1)) 7

/-- All that is minted, dealt. -/
theorem deal : iprop((bigSep Finset.univ fun c : Dev nD => bigSep Finset.univ fun k : Kind => pos (cellAt (c, k)) 0)
      ∗ (bigSep Finset.univ fun c : Dev nD => bigSep Finset.univ fun k : Kind => rights (c, k))
      ∗ (bigSep Finset.univ fun k : Key => readerAt ES k 0)
      ∗ bigSep ((Finset.univ : Finset Key) ×ˢ Finset.range 7) fun x => writeTok ES x.1 (x.2 + 1))
    ⊢ (bigSep Finset.univ fun c : Dev nD => linear c : sProp 𝕄) := by
  unfold linear
  rw [bigSep_sep', bigSep_sep', ← sep_parts (fun y : St => iprop(toksS y.1 y.2.1 y.2.2 ∗ pos₀ y.1 y.2.1 y.2.2 ∗ readersS y.1 y.2.1 y.2.2)),
    bigSep_sep' (Finset.univ : Finset St) (fun y => toksS y.1 y.2.1 y.2.2), bigSep_sep' (Finset.univ : Finset St) (fun y => pos₀ y.1 y.2.1 y.2.2),
    sep_devs (fun x => pos (cellAt x) 0), sep_devs (fun x => rights x), writes_eq, sep_keys]
  iintro ⟨⟨P1, P2⟩, ⟨T1, T2⟩, HR, HW⟩
  isplitl [P1]; · iexact P1
  isplitl [T1]; · iapply bars_deal; iexact T1
  isplitl [T2 HW]
  · iapply streams_deal
    isplitl [T2] <;> iassumption
  isplitl [P2]
  · iapply (show (bigSep Finset.univ fun y : St => eight (fun k => pos (F := F) (cellAt (y.1, k)) 0) y.2) ⊢ (bigSep Finset.univ fun y : St => pos₀ y.1 y.2.1 y.2.2) from
      bigSep_mono fun y _ => pos_of y.1 y.2.1 y.2.2)
    iexact P2
  · iexact HR

/-! ## The launch credit -/

section Credit
variable (c : Dev nD) (d : Bool) (q : Fin 4)

/-- What all devices owe on hop `h` is, at each, the arrival of its hop; -/
theorem credit_send (h : ℕ) : Pipeline.launchCred (fun e => Sd e d q h) c ⊢ (recvCr c d q h : sProp 𝕄) :=
  Pipeline.launchCred_tallyAt (.dma (recvS d (par h) q)) (fun e => nbr e d) (fun e => ups e d) (fun e => nbr_ups e d) (fun e => ups_nbr e d) _ _ c
/-- on credit `k`, that credit; -/
theorem credit_cred (k : ℕ) : Pipeline.launchCred (fun e => Cr e d q k) c ⊢ (credCr c d q k : sProp 𝕄) :=
  Pipeline.launchCred_tallyAt (.reg (credS d q)) (fun e => ups e d) (fun e => nbr e d) (fun e => ups_nbr e d) (fun e => nbr_ups e d) _ _ c
/-- at the handshake, one signal from either side; -/
theorem credit_bar : Pipeline.launchCred (fun e => Bt (nbr e d)) c ⊢ (cred (tallyAt (barC c) 1 1) : sProp 𝕄) :=
  Pipeline.launchCred_tallyAt (.reg barS) (fun e => nbr e d) (fun e => ups e d) (fun e => nbr_ups e d) (fun e => ups_nbr e d) _ _ c

/-- The credit one hop's payments come to. -/
def payCr (h : ℕ) : sProp 𝕄 :=
  iprop((if h < 13 then recvCr c d q (h + 1) else emp) ∗ if 1 ≤ h ∧ h < 13 then credCr c d q (h - 1) else emp)

/-- and what one hop pays in all. -/
theorem credit_pays (h : ℕ) : Pipeline.launchCred (fun e => Pays e d q h) c ⊢ (payCr c d q h : sProp 𝕄) := by
  unfold payCr
  cases h with
  | zero =>
    rw [if_pos (by decide), if_neg (by decide)]
    iintro H
    isplitl
    · iapply (credit_send c d q 1); iexact H
    · iempintro
  | succ i =>
    by_cases hi : i < 12
    · rw [if_pos (by omega), if_pos (by omega), show (fun e => Pays e d q (i + 1)) = fun e => Sd e d q (i + 2) + Cr e d q i from funext fun e => if_pos hi,
        Pipeline.launchCred_add]
      exact BI.sep_mono (credit_send c d q (i + 2)) (credit_cred c d q i)
    · rw [if_neg (by omega), if_neg (by omega)]
      iintro -
      isplitl <;> iempintro

/-- What a stream is owed by the hops, collected. -/
theorem payCrs_eq : bigSep (Finset.range 14) (payCr (F := F) c d q)
    = iprop((bigSep (Finset.range 13) fun h => recvCr c d q (h + 1)) ∗ bigSep (Finset.range 12) (credCr c d q)) := by
  unfold payCr
  rw [bigSep_sep',
    sep_pick (fun h => recvCr c d q (h + 1)) 14 0 13 (by omega) (fun i => i < 13) (fun i _ => by omega) _ (fun j _ => by rw [Nat.zero_add]),
    sep_pick (credCr c d q) 14 1 12 (by omega) (fun i => 1 ≤ i ∧ i < 13) (fun i _ => by omega)
      (fun i => credCr c d q (i - 1)) (fun j _ => by simp only [Nat.add_sub_cancel_left])]

end Credit

/-- What all devices owe together is what each of them waits for. -/
theorem credits (c : Dev nD) : Pipeline.launchCred owed₀ c
    ⊢ (iprop(cred (tallyAt (barC c) 1 2) ∗ bigSep Finset.univ fun x : Bool × Fin 4 => crsS c x.1 x.2) : sProp 𝕄) := by
  have hl : Pipeline.launchCred laters c ⊢ (bigSep (Finset.range 8) fun s => bigSep (Finset.range 14) fun h => payCr c (dirOf s) (qOf s) h : sProp 𝕄) := by
    rw [show laters = fun e => ∑ u ∈ Finset.Ico 0 112, paysT e u from rfl, Pipeline.launchCred_sum _ (fun u e => paysT e u), ← Finset.range_eq_Ico, ← times_eq]
    exact bigSep_mono fun u _ => credit_pays c _ _ _
  have hf : Pipeline.launchCred (fun e => firsts e 0) c ⊢ (bigSep (Finset.range 8) fun s => recvCr c (dirOf s) (qOf s) 0 : sProp 𝕄) := by
    rw [show (fun e => firsts e 0) = fun e => ∑ u ∈ Finset.Ico 0 8, Sd e (dirOf u) (qOf u) 0 from rfl, Pipeline.launchCred_sum _ (fun u e => Sd e (dirOf u) (qOf u) 0),
      ← Finset.range_eq_Ico]
    exact bigSep_mono fun u _ => credit_send c _ _ _
  rw [show (owed₀ : Dev nD → CellTallies nD τ sig ℕ) = fun e => (laters e + firsts e 0 + Bt (nbr e false)) + Bt (nbr e true) from rfl, Pipeline.launchCred_add, Pipeline.launchCred_add,
    Pipeline.launchCred_add, ← streams (fun d q => crsS c d q)]
  iintro ⟨⟨⟨H1, H2⟩, H3⟩, H4⟩
  isplitl [H3 H4]
  · ihave H3 := (credit_bar (F := F) c false) $$ H3
    ihave H4 := (credit_bar (F := F) c true) $$ H4
    rw [show (tallyAt (barC c) 1 2 : CellTallies nD τ sig ℕ) = tallyAt (barC c) 1 1 + tallyAt (barC c) 1 1 from (tallyAt_add _ _ 1 1).symm]
    iapply (cred_add _ _).2
    isplitl [H3] <;> iassumption
  ihave H1 := hl $$ H1
  ihave H2 := hf $$ H2
  iapply (show iprop((bigSep (Finset.range 8) fun s => bigSep (Finset.range 14) fun h => payCr c (dirOf s) (qOf s) h) ∗ bigSep (Finset.range 8) fun s => recvCr c (dirOf s) (qOf s) 0)
      ⊢ (bigSep (Finset.range 8) fun s => crsS c (dirOf s) (qOf s) : sProp 𝕄) from by
    rw [← bigSep_sep']
    refine bigSep_mono fun s _ => ?_
    rw [payCrs_eq]
    unfold crsS
    rw [sep_first (recvCr c (dirOf s) (qOf s)) 13]
    exact show iprop(((bigSep (Finset.range 13) fun h => recvCr c (dirOf s) (qOf s) (h + 1)) ∗ bigSep (Finset.range 12) (credCr c (dirOf s) (qOf s))) ∗ recvCr c (dirOf s) (qOf s) 0)
      ⊢ (iprop((recvCr c (dirOf s) (qOf s) 0 ∗ bigSep (Finset.range 13) fun h => recvCr c (dirOf s) (qOf s) (h + 1)) ∗ bigSep (Finset.range 12) (credCr c (dirOf s) (qOf s))) : sProp 𝕄) from by
        iintro ⟨⟨A, B⟩, C⟩
        isplitl [A C]
        · isplitl [C] <;> iassumption
        · iexact B)
  isplitl [H1] <;> iassumption

end Cert.RingSum
-- ==== Proof.Launch.lean ====
/-
# The launch

From any memory with every semaphore at zero: the run ends, argument unchanged, every part of the result what its stream
carried last, every semaphore at zero.
-/
module

public import proofs.«01_k».proof.Proof.Ghost
public import Idealize.ShloMosaic.Lib.Pipeline.CollectiveSegs

@[expose] public section

noncomputable section

namespace Cert.RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-- The memory at the start, every semaphore at zero. -/
def s₀ : MemSt nD τ sig (Elt F) := ⟨m, fun _ => 0, ρ⟩

/-! ## The kernel's own semaphores -/

/-- The streams' semaphores. -/
def osem (k : (Bool × Fin 4) × Fin 8) : SemLoc sig := (kindAt k).sem

/-- They are all the kernel declares for itself. -/
theorem ownSemFacts : Pipeline.OwnSemFacts cfg0.spec osem := by decide +kernel

/-- Levels are in use on the cores alone. -/
theorem L_of_ne (g : GSem nD τ sig) (h : g.1.2 ≠ .tc) : L g = ∅ := if_neg h

/-- Beside them there is the handshake's semaphore, -/
theorem unscoped_eq (c : Dev nD) : (unscopedSems0 c : sProp 𝕄) = semVal (cellAt (c, .bar)) 0 := by
  unfold unscopedSems0; rw [bigSep_eq_bigSepL_of_eq [SemLoc.reg barS] (by decide) (by decide)]; rfl

/-- and together they are a device's cells. -/
theorem sems_eq (c : Dev nD) :
    (iprop(Pipeline.ownSems0 (Ix := ℕ) (Name := ℕ) (U := UU) (Lvl := ℕ) (Val := Elt F) (τ := τ) osem c ∗ unscopedSems0 c) : sProp 𝕄)
      = bigSep Finset.univ fun k : Kind => semVal (cellAt (c, k)) 0 := by
  rw [sep_kinds, unscoped_eq, ← sep_eight]
  exact sep_flip (F := F) _ _

/-! ## The first instant -/

/-- What is minted for device `c`; device 0 holds the slots'. -/
def G (c : Dev nD) : sProp 𝕄 :=
  iprop((bigSep Finset.univ fun k : Kind => roundState ER (Rd m) (cellAt (c, k)) 0)
    ∗ ((bigSep Finset.univ fun k : Kind => reached ER (cellAt (c, k)) 0) ∗ bigSep Finset.univ fun k : Kind => atPos ER (cellAt (c, k)) 0 ∅ 0)
    ∗ (bigSep Finset.univ fun k : Kind => rights (c, k))
    ∗ if c = 0 then BI.own (ES (initSlots (Finset.univ : Finset Key) 7)) else emp)

/-- The ghost state at the start. -/
def u₀ : UU :=
  (initOf (Pipeline.cells cfgs cellOf_inj) (Pipeline.launchToks cfgs cellOf_inj), (initOf cells toks, initSlots Finset.univ 7))

/-- What only device 0 has. -/
theorem at_zero (X : sProp 𝕄) : (bigSep Finset.univ fun c : Dev nD => if c = 0 then X else iprop(emp)) = X := by
  refine (bigSep_filter Finset.univ (fun c : Dev nD => c = 0) fun _ => X).symm.trans ?_
  rw [show (Finset.univ : Finset (Dev nD)).filter (fun c => c = 0) = {0} from by decide, bigSep_singleton]

/-- The rounds' part and the slots'. -/
theorem split_rest (a : URounds (GSem nD τ sig) ℕ) (b : USlots Key) : BI.own (embR (a, b)) ⊢ (iprop(BI.own (ER a) ∗ BI.own (ES b)) : sProp 𝕄) :=
  own_pair_emb embR a b

/-- The ghost state at the start gives each device its share. -/
theorem mint : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX := (split_rest _ _) $$ HX
  icases HX with ⟨HR, HS⟩
  imod (Rounds.fund ER (Rd m) cells toks) $$ HR with ⟨Hst, Hr, Hat, Htok⟩
  imodintro
  isplitl [HP]; · iexact HP
  unfold G
  rw [bigSep_sep', bigSep_sep', bigSep_sep', bigSep_sep', at_zero, ← sep_cells (fun g => roundState ER (Rd m) g 0), ← sep_cells (fun g => reached ER g 0),
    ← sep_cells (fun g => atPos ER g 0 ∅ 0), ← sep_toks]
  isplitl [Hst]; · iexact Hst
  isplitl [Hr Hat]
  · isplitl [Hr] <;> iassumption
  isplitl [Htok] <;> iassumption

/-- What device `c` has after the first instant: the invariants, and its share. -/
def G' (c : Dev nD) : sProp 𝕄 :=
  iprop(∃ (K : Dev nD × Kind → ℕ) (ιs : Key → ℕ),
    ((bigSep Finset.univ fun ck : Dev nD × Kind => cellInv ER (Rd m) (K ck) (cellAt ck))
      ∗ (bigSep Finset.univ fun ck : Dev nD × Kind => reached ER (cellAt ck) 0)
      ∗ bigSep Finset.univ fun k : Key => slotInv ES (ιs k) k (Sl k)) ∗ linear c)

/-- A device's cells are put into their invariants. -/
theorem open_cells (c : Dev nD) :
    iprop((bigSep Finset.univ fun k : Kind => semVal (cellAt (c, k)) 0) ∗ bigSep Finset.univ fun k : Kind => roundState ER (Rd m) (cellAt (c, k)) 0)
      ⊢ (|={Set.univ}=> bigSep Finset.univ fun k : Kind => iprop(∃ κ : ℕ, cellInv ER (Rd m) κ (cellAt (c, k))) : sProp 𝕄) := by
  rw [← bigSep_sep']
  exact (bigSep_mono fun k _ => (Rounds.body_intro ER (Rd m) (cellAt (c, k))).trans inv_alloc).trans (bigSep_fupd _ _)

/-- All devices at once: invariants for cells and slots, and each device's share of the rights. -/
theorem glob : (bigSep Finset.univ fun c =>
      iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) := by
  have h1 (c : Dev nD) : iprop(Pipeline.ownSems0 (Ix := ℕ) (Name := ℕ) (U := UU) (Lvl := ℕ) (Val := Elt F) (τ := τ) osem c ∗ unscopedSems0 c ∗ G m c)
      ⊢ (|={Set.univ}=> iprop((bigSep Finset.univ fun k : Kind => iprop(∃ κ : ℕ, cellInv ER (Rd m) κ (cellAt (c, k))))
        ∗ ((bigSep Finset.univ fun k : Kind => reached ER (cellAt (c, k)) 0) ∗ bigSep Finset.univ fun k : Kind => atPos ER (cellAt (c, k)) 0 ∅ 0)
        ∗ (bigSep Finset.univ fun k : Kind => rights (c, k))
        ∗ if c = 0 then BI.own (ES (initSlots (Finset.univ : Finset Key) 7)) else emp) : sProp 𝕄) := by
    unfold G
    iintro ⟨Ho, Hu, Hst, H⟩
    ihave Hv := (Entails.of_eq (sems_eq (F := F) c)) $$ [Ho Hu]
    · isplitl [Ho] <;> iassumption
    imod (open_cells m c) $$ [Hv Hst] with HI
    · isplitl [Hv] <;> iassumption
    imodintro
    isplitl [HI] <;> iassumption
  refine BIBase.Entails.trans ((bigSep_mono fun c _ => h1 c).trans (bigSep_fupd _ _)) ?_
  rw [bigSep_sep', bigSep_sep', bigSep_sep', bigSep_sep', at_zero]
  rw [← sep_parts (fun ck : Dev nD × Kind => iprop(∃ κ : ℕ, cellInv ER (Rd m) κ (cellAt ck)))]
  iintro H
  imod H with ⟨HI, ⟨HR, Hat⟩, Ht, HS⟩
  ihave HK := (BI.bigSep_exists_pi Finset.univ (fun (ck : Dev nD × Kind) (κ : ℕ) => (cellInv ER (Rd m) κ (cellAt ck) : sProp 𝕄))) $$ HI
  icases HK with ⟨%K, #HI⟩
  imod (slots_init ES (Es := Set.univ) (Finset.univ : Finset Key) 7 (Sl (F := F))) $$ HS with ⟨%ιs, -, #HSl, Hrd, Hwr⟩
  imodintro
  ihave HR := (Entails.of_eq (sep_parts (fun ck : Dev nD × Kind => (reached ER (cellAt ck) 0 : sProp 𝕄))).symm) $$ HR
  icases HR with #HR
  ihave HL := (deal (F := F)) $$ [Hat Ht Hrd Hwr]
  · isplitl [Hat]
    · unfold pos
      rw [← sep_parts (fun ck : Dev nD × Kind => iprop(atPos ER (cellAt ck) 0 ∅ 0 ∗ reached ER (cellAt ck) 0)), bigSep_sep',
        sep_parts (fun ck : Dev nD × Kind => atPos ER (cellAt ck) 0 ∅ 0)]
      isplitl [Hat]; · iexact Hat
      iexact HR
    isplitl [Ht]; · iexact Ht
    isplitl [Hrd] <;> iassumption
  have h2 (c : Dev nD) : iprop(((bigSep Finset.univ fun ck : Dev nD × Kind => cellInv ER (Rd m) (K ck) (cellAt ck))
      ∗ (bigSep Finset.univ fun ck : Dev nD × Kind => reached ER (cellAt ck) 0)
      ∗ bigSep Finset.univ fun k : Key => slotInv ES (ιs k) k (Sl k)) ∗ linear c) ⊢ (G' m c : sProp 𝕄) := by
    unfold G'
    iintro H
    iexists K; iexists ιs; iexact H
  iapply (with_persistent fun c _ => h2 c)
  isplitr
  · isplitr; · iexact HI
    isplitr; · iexact HR
    iexact HSl
  · iexact HL

/-! ## The region -/

/-- What the kernel begins with, -/
def Φ₀ (c : Dev nD) : sProp 𝕄 := iprop(∃ K ιs, Rec m K ιs ∗ beginning m c)
/-- Where the kernel's buffers are, at any contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ ∃ f, ((c : Thread nD τ).loc cc0_scratch10) ↦{fullShare} f)
/-- What is left outside of the kernel. -/
def out (c : Dev nD) : sProp 𝕄 :=
  iprop(unscopedSems0 c ∗ (((c : Thread nD τ).loc main_arg0) ↦{fullShare} m ((c : Thread nD τ).loc main_arg0))
    ∗ ∃ X, ⌜Finished m c X⌝ ∗ ((c : Thread nD τ).loc main_v1) ↦{fullShare} X)
/-- What the kernel ends with. -/
def Φ₁ (c : Dev nD) : sProp 𝕄 :=
  iprop(out m c ∗ Pipeline.ownSems0 (Ix := ℕ) (Name := ℕ) (U := UU) (Lvl := ℕ) (Val := Elt F) (τ := τ) osem c ∗ scratch c)

/-- The kernel's one region: no windows, what holds before and after it, and what is owed. -/
def dats (_ : Fin 1) (c : Dev nD) : Pipeline.Dat τ (Elt F) ℕ ℕ UU ℕ cfg0 c where
  A w := w.elim0
  after w _ := w.elim0
  Φ t := match t with | ⟨0, _⟩ => Φ₀ m c | ⟨_ + 1, _⟩ => Φ₁ m c
  q _ := fullShare
  owed t := match t with | ⟨0, _⟩ => owed₀ c | ⟨_ + 1, _⟩ => 0

/-- What the launch hands the region beside the kernel's buffers. -/
def X (c : Dev nD) : sProp 𝕄 :=
  iprop(∃ K ιs, Rec m K ιs ∗ linear c ∗ cred (tallyAt (barC c) 1 2) ∗ (bigSep Finset.univ fun x : Bool × Fin 4 => crsS c x.1 x.2)
    ∗ (bigSep Finset.univ fun x : Bool × Fin 4 => xsS m c x.1 x.2) ∗ bigSep Finset.univ fun x : Bool × Fin 4 => osS c x.1 x.2)

/-- The launch hands over the array parts, the debts owed and the share of the ghost state. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ (|={Set.univ}=> iprop(X m c ∗ emp) : sProp 𝕄) := by
  rw [show (Pipeline.unscopedRestP Pipeline.Prefetch.none cfg0.spec c (fun b => m ((c : Thread nD τ).loc b)) : sProp 𝕄)
    = iprop((((c : Thread nD τ).loc main_arg0) ↦{fullShare} m ((c : Thread nD τ).loc main_arg0)) ∗ (((c : Thread nD τ).loc main_v1) ↦{fullShare} m ((c : Thread nD τ).loc main_v1)))
    from unscopedRest0_eq c _]
  unfold G' X Rec
  iintro ⟨⟨Hx, Ho⟩, Hlev, Hcr, -, ⟨%K, %ιs, ⟨HI, HR, HS⟩, HL⟩⟩
  ihave Hx := (x_cut m c) $$ Hx
  ihave Ho := (o_cut c _) $$ Ho
  ihave Hcr := (credits (F := F) c) $$ Hcr
  icases Hcr with ⟨Hb, Hcr⟩
  imodintro
  isplitl
  · iexists K; iexists ιs
    isplitl [HI HR HS Hlev]
    · isplitl [HI]; · iexact HI
      isplitl [HR]; · iexact HR
      isplitl [HS] <;> iassumption
    isplitl [HL]; · iexact HL
    isplitl [Hb]; · iexact Hb
    isplitl [Hcr]; · iexact Hcr
    isplitl [Hx] <;> iassumption
  · iempintro

/-- The buffers are the streams' slots and fetch places. -/
theorem scratch_eq (c : Dev nD) : (scratch c : sProp 𝕄)
    = iprop((bigSep Finset.univ fun x : Bool × Fin 4 => slS c x.1 x.2) ∗ bigSep Finset.univ fun x : Bool × Fin 4 => xbS c x.1 x.2) := by
  have h {a b d : sProp 𝕄} : iprop(a ∗ b ∗ d) ⊢ iprop((a ∗ b) ∗ d) := by
    iintro ⟨A, B, C⟩
    isplitr [C]
    · isplitl [A] <;> iassumption
    · iexact C
  have h' {a b d : sProp 𝕄} : iprop((a ∗ b) ∗ d) ⊢ iprop(a ∗ b ∗ d) := by
    iintro ⟨⟨A, B⟩, C⟩
    isplitl [A]; · iexact A
    isplitl [B] <;> iassumption
  rw [slots_eq, xbuf_eq]; unfold scratch
  exact BI.Entails.antisymm h h'

/-- With the kernel's buffers this is what a device begins with. -/
theorem enter (c : Dev nD) : iprop(X m c ∗ scratch c) ⊢ (Φ₀ m c : sProp 𝕄) := by
  have hs : iprop((bigSep Finset.univ fun x : Bool × Fin 4 => readersS c x.1 x.2) ∗ bigSep Finset.univ fun x : Bool × Fin 4 => slS c x.1 x.2)
      ⊢ (bigSep Finset.univ fun x : Bool × Fin 4 => slots0 c x.1 x.2 : sProp 𝕄) := by
    rw [← bigSep_sep']
    refine bigSep_mono fun x _ => ?_
    unfold readersS slS slots0
    exact show iprop((readerAt ES (c, x.1, x.2, (0 : Fin 2)) 0 ∗ readerAt ES (c, x.1, x.2, (1 : Fin 2)) 0) ∗ Sl (c, x.1, x.2, (0 : Fin 2)) ∗ Sl (c, x.1, x.2, (1 : Fin 2)))
      ⊢ (iprop(readerAt ES (c, x.1, x.2, (0 : Fin 2)) 0 ∗ readerAt ES (c, x.1, x.2, (1 : Fin 2)) 0 ∗ Sl (c, x.1, x.2, (0 : Fin 2)) ∗ Sl (c, x.1, x.2, (1 : Fin 2))) : sProp 𝕄) from by
        iintro ⟨⟨A, B⟩, C⟩
        isplitl [A]; · iexact A
        isplitl [B] <;> iassumption
  rw [scratch_eq]
  unfold X Φ₀ linear
  simp only [bigSep_sep']
  iintro ⟨⟨%K, %ιs, HR, ⟨Hp, Hb, Ht, Hps, Hrd⟩, Hbc, Hcr, Hx, Ho⟩, Hsl, Hxb⟩
  iexists K; iexists ιs
  isplitl [HR]; · iexact HR
  iapply (beginning_of m c)
  isplitl [Hp]; · iexact Hp
  isplitl [Hbc]; · iexact Hbc
  isplitl [Hb]; · iexact Hb
  isplitr [Hrd Hsl]
  · unfold startS'
    simp only [bigSep_sep']
    isplitl [Ht]; · iexact Ht
    isplitl [Hcr]; · iexact Hcr
    isplitl [Hx]; · iexact Hx
    isplitl [Ho]; · iexact Ho
    isplitl [Hps] <;> iassumption
  · iapply hs
    isplitl [Hrd] <;> iassumption

/-! ## The last instant -/

section Finish
variable (K : Dev nD × Kind → ℕ) (ιs : Key → ℕ) (c : Dev nD)

/-- A cell whose rounds are over is taken out of its invariant, at zero; -/
theorem close_cell (k : Kind) (R : ℕ) (h : ∀ r, R ≤ r → dutiesOf k r = ∅) :
    iprop(Rec m K ιs ∗ atPos ER (cellAt (c, k)) R ∅ 0) ⊢ (|={Set.univ}=> semVal (cellAt (c, k)) 0 : sProp 𝕄) := by
  iintro ⟨HR, Hp⟩
  ihave HI := (Rec_inv m K ιs c k) $$ HR
  iapply (Rounds.cell_close ER (Rd m) (Set.mem_univ (K (c, k))) (fun h => h) (R := R) fun r hr => (duties_kind m c k r).trans (h r hr))
  isplitl [HI]
  · iapply (show cellInv ER (Rd m) (K (c, k)) ((c : Thread nD τ), k.sem) ⊢ (cellInv ER (Rd m) (K (c, k)) (cellAt (c, k)) : sProp 𝕄) from .rfl)
    iexact HI
  · iexact Hp

/-- the same from a place at its end; -/
theorem close_pos (k : Kind) (R : ℕ) (h : ∀ r, R ≤ r → dutiesOf k r = ∅) :
    iprop(Rec m K ιs ∗ pos (cellAt (c, k)) R) ⊢ (|={Set.univ}=> semVal (cellAt (c, k)) 0 : sProp 𝕄) := by
  unfold pos
  iintro ⟨HR, Hp, -⟩
  iapply (close_cell m K ιs c k R h)
  isplitl [HR] <;> iassumption

/-- and all of a stream's cells. -/
theorem close_stream (x : Bool × Fin 4) :
    iprop(Rec m K ιs ∗ pos₁ c x.1 x.2) ⊢ (|={Set.univ}=> eight (fun k => semVal (cellAt (c, k)) 0) x : sProp 𝕄) := by
  obtain ⟨d, q⟩ := x
  have e1 : (sPos c d q 14 : sProp 𝕄) = iprop(pos (cellAt (c, .send d q 0)) 7 ∗ pos (cellAt (c, .send d q 1)) 7) := rfl
  have e2 : (rPos c d q 14 : sProp 𝕄) = iprop(pos (cellAt (c, .recv d q 0)) 7 ∗ pos (cellAt (c, .recv d q 1)) 7) := rfl
  have e3 : (xPos c d q 7 : sProp 𝕄) = iprop(pos (cellAt (c, .xf d q 1)) 3 ∗ pos (cellAt (c, .xf d q 0)) 4) := rfl
  have e4 : (creds c d q 12 : sProp 𝕄) = atPos ER (cellAt (c, .cred d q)) 1 ∅ 0 := if_neg (by decide)
  have e5 : (pos (copyC c d q) 8 : sProp 𝕄) = pos (cellAt (c, .copy d q)) 8 := rfl
  unfold pos₁ eight
  show iprop(Rec m K ιs ∗ sPos c d q 14 ∗ rPos c d q 14 ∗ xPos c d q 7 ∗ pos (copyC c d q) 8 ∗ creds c d q 12) ⊢ (_ : sProp 𝕄)
  rw [e1, e2, e3, e4, e5]
  iintro ⟨#HR, ⟨S0, S1⟩, ⟨R0, R1⟩, ⟨X1, X0⟩, Hc, Hk⟩
  imod (close_pos m K ιs c (.send d q 0) 7 fun r hr => if_neg (by omega)) $$ [S0] with S0
  · isplitr; · iexact HR
    iexact S0
  imod (close_pos m K ιs c (.send d q 1) 7 fun r hr => if_neg (by omega)) $$ [S1] with S1
  · isplitr; · iexact HR
    iexact S1
  imod (close_pos m K ιs c (.recv d q 0) 7 fun r hr => if_neg (by omega)) $$ [R0] with R0
  · isplitr; · iexact HR
    iexact R0
  imod (close_pos m K ιs c (.recv d q 1) 7 fun r hr => if_neg (by omega)) $$ [R1] with R1
  · isplitr; · iexact HR
    iexact R1
  imod (close_pos m K ιs c (.xf d q 0) 4 fun r hr => if_neg (by show ¬ 2 * r + 0 < 7; omega)) $$ [X0] with X0
  · isplitr; · iexact HR
    iexact X0
  imod (close_pos m K ιs c (.xf d q 1) 3 fun r hr => if_neg (by show ¬ 2 * r + 1 < 7; omega)) $$ [X1] with X1
  · isplitr; · iexact HR
    iexact X1
  imod (close_pos m K ιs c (.copy d q) 8 fun r hr => if_neg (by omega)) $$ [Hc] with Hc
  · isplitr; · iexact HR
    iexact Hc
  imod (close_cell m K ιs c (.cred d q) 1 fun r hr => if_neg (by omega)) $$ [Hk] with Hk
  · isplitr; · iexact HR
    iexact Hk
  imodintro
  isplitl [S0]; · iexact S0
  isplitl [S1]; · iexact S1
  isplitl [R0]; · iexact R0
  isplitl [R1]; · iexact R1
  isplitl [X0]; · iexact X0
  isplitl [X1]; · iexact X1
  isplitl [Hc] <;> iassumption

/-- At the end the arrays are whole again and every semaphore is at zero. -/
theorem finish : iprop(Rec m K ιs ∗ ending m c) ⊢ (|={Set.univ}=> Φ₁ m c : sProp 𝕄) := by
  refine BIBase.Entails.trans (sep_mono_right (of_ending m c)) ?_
  unfold endS'
  simp only [bigSep_sep']
  rw [slots_eq, xbuf_eq]
  iintro ⟨#HR, Hb, Hp, Hxb, ⟨Hs0, Hs1⟩, Hx, Ho⟩
  imod (close_pos m K ιs c .bar 1 fun r hr => if_neg (by omega)) $$ [Hb] with Hb
  · isplitr; · iexact HR
    iexact Hb
  imod ((with_persistent (R := Rec m K ιs) fun x _ => close_stream m K ιs c x).trans (bigSep_fupd Finset.univ fun x : Bool × Fin 4 => eight (fun k => semVal (cellAt (c, k)) 0) x)) $$ [Hp] with Hp
  · isplitr; · iexact HR
    iexact Hp
  imodintro
  ihave Hx := (x_join m c) $$ Hx
  ihave Ho := (o_join m c) $$ Ho
  ihave Hv := (Entails.of_eq ((sep_kinds (fun k => (semVal (cellAt (c, k)) 0 : sProp 𝕄))).symm.trans (sems_eq (F := F) c).symm)) $$ [Hb Hp]
  · isplitl [Hb] <;> iassumption
  icases Hv with ⟨Hv, Hu⟩
  unfold Φ₁ out scratch
  isplitl [Hu Hx Ho]
  · isplitl [Hu]; · iexact Hu
    isplitl [Hx] <;> iassumption
  isplitl [Hv]; · iexact Hv
  isplitl [Hs0]; · iexact Hs0
  isplitl [Hs1] <;> iassumption

end Finish

/-! ## The region's obligations -/

/-- There are no windows. -/
theorem W_empty (Φ : Fin cfg0.W → sProp 𝕄) : bigSep Finset.univ Φ = iprop(emp) := by
  rw [show (Finset.univ : Finset (Fin cfg0.W)) = ∅ from rfl, bigSep_empty]; rfl

/-- The ghost state may be updated after a program. -/
theorem Wp_post {α : Type} (c : Dev nD) (p : Prog (E F) α) (Q : α → sProp 𝕄) : Wp c p (fun a => iprop(|={Set.univ}=> Q a)) ⊢ Wp c p Q := wp_fupd _ _ _ _ _

/-- The kernel runs between the two, -/
theorem region_wp (c : Dev nD) (Q : PUnit → sProp 𝕄) :
    iprop(Φ₀ m c ∗ Ow c (owed₀ c)) ⊢ iprop(((Φ₁ m c ∗ Ow c 0) -∗ Q ⟨⟩) -∗ Wp c body Q) := by
  unfold Φ₀
  iintro ⟨⟨%K, %ιs, #HR, HB⟩, Ho⟩ Hk
  iapply (Wp_post c body Q)
  iapply (body_wp m K ιs c (fun a => iprop(|={Set.univ}=> Q a))) $$ [HB Ho]
  · isplitr; · iexact HR
    isplitl [HB] <;> iassumption
  iintro ⟨HE, Ho⟩
  imod (finish m K ιs c) $$ [HE] with H1
  · isplitr; · iexact HR
    iexact HE
  imodintro
  iapply Hk
  isplitl [H1] <;> iassumption

/-- and so does any program that is the kernel. -/
theorem region_of (c : Dev nD) (B B' : CellTallies nD τ sig ℕ → sProp 𝕄) (hB : B (owed₀ c) ⊢ Ow c (owed₀ c)) (hB' : Ow c 0 ⊢ B' 0)
    (p : Prog (E F) PUnit) (hp : p = body) : iprop(Φ₀ m c ∗ B (owed₀ c) ∗ emp) ⊢ Wp c p (fun _ => iprop(Φ₁ m c ∗ B' 0 ∗ emp)) := by
  subst hp
  iintro ⟨HΦ, Ho, -⟩
  iapply (region_wp m c (fun _ => iprop(Φ₁ m c ∗ B' 0 ∗ emp))) $$ [HΦ Ho]
  · isplitl [HΦ]; · iexact HΦ
    iapply hB; iexact Ho
  iintro ⟨HΦ, Ho⟩
  isplitl [HΦ]; · iexact HΦ
  isplitl
  · iapply hB'; iexact Ho
  · iempintro

/-- What is owed, without its record of waits, -/
theorem owes_in (c : Dev nD) (O : CellTallies nD τ sig ℕ) (W : Set (SemLoc sig × ℕ)) :
    Pipeline.owesWithin c O W ⊢ (Ow c O : sProp 𝕄) := by
  unfold Pipeline.owesWithin Ow
  iintro ⟨%V, -, H⟩
  iexists V; iexact H

/-- and with one that allows every wait. -/
theorem owes_out (c : Dev nD) (O : CellTallies nD τ sig ℕ) (W : Set (SemLoc sig × ℕ)) (h : W = Set.univ) :
    Ow c O ⊢ (Pipeline.owesWithin c O W : sProp 𝕄) := by
  subst h
  unfold Pipeline.owesWithin Ow
  iintro ⟨%V, H⟩
  iexists V
  isplitr; · ipureintro; exact fun _ _ => trivial
  iexact H

set_option maxRecDepth 1000000 in
set_option maxHeartbeats 0 in
/-- The printed body runs. -/
theorem body_obligation (c : Dev nD) : Pipeline.BodyObligation (dats m 0 c) (defs₀ (F := F)) 𝒱₀ (0 : ℕ) Set.univ := fun t => by
  have ht : t = t0_0 := fin_N0 t
  subst ht
  rw [W_empty, W_empty]
  exact region_of m c (fun O => Pipeline.owesWithin c O ((dats m 0 c).bound 0 t0_0.castSucc)) (fun O => Pipeline.owesWithin c O ((dats m 0 c).bound 0 t0_0.succ))
    (owes_in c _ _) (owes_out c _ _ (Set.univ_union _)) (bodyAt0 (F := F) t0_0) (body_eq t0_0)

/-- Every window, there being none, is held whole. -/
theorem share_eq (c : Dev nD) (w : Fin cfg0.W) : (dats m 0 c).share w = fullShare := w.elim0

/-- Into the region, -/
theorem region_in (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  iintro ⟨HX, -, HS⟩
  iapply (enter m c)
  unfold scratch
  isplitl [HX] <;> iassumption

/-- and out of it. -/
theorem region_out (c : Dev nD) :
    (dats m 0 c).Φ (Fin.last cfg0.N) ⊢ iprop(out m c ∗ Pipeline.ownSems0 osem c ∗ Pipeline.scopedRest cfg0.spec c) := by
  rw [show (dats m 0 c).Φ (Fin.last cfg0.N) = Φ₁ m c from rfl, scopedRest0_eq]
  unfold Φ₁ scratch
  iintro H; iexact H

/-- What is known of device `c` at the end. -/
def Ended (c : Dev nD) (s : MemSt nD τ sig (Elt F)) : Prop :=
  s.mem ((c : Thread nD τ).loc main_arg0) = m ((c : Thread nD τ).loc main_arg0) ∧ Finished m c (s.mem ((c : Thread nD τ).loc main_v1))
    ∧ ∀ sm : SemLoc sig, sm.isScoped .tc = false → s.sem ((c.tc : Thread nD τ), sm) = 0

/-- An array that is owned has those contents in memory. -/
theorem read_whole (c : Dev nD) (b : Ref sig .tc) (f : Buf (Elt F) ((c : Thread nD τ).loc b)) (s' : Phys nD τ sig (Elt F)) :
    iprop((((c : Thread nD τ).loc b) ↦{fullShare} f) ∗ SI s') ⊢ (iprop(⌜s'.mem.mem ((c : Thread nD τ).loc b) = f⌝ ∗ SI s') : sProp 𝕄) := by
  iintro ⟨Hx, HSI⟩
  icombine HSI Hx gives %h
  isplitr; · ipureintro; exact Buf.eq_of_forall_mem_univ h
  iexact HSI

/-- What is left at the end shows the memory at the end. -/
theorem ended (c : Dev nD) (s' : Phys nD τ sig (Elt F)) :
    iprop(out m c ∗ emp ∗ SI s') ⊢ (|={Set.univ}=> iprop(⌜Ended m c s'.mem⌝ ∗ SI s') : sProp 𝕄) := by
  unfold out
  iintro ⟨⟨Hu, Hx, ⟨%X, %hX, Ho⟩⟩, -, HSI⟩
  ihave H := (read_whole c main_arg0 _ s') $$ [Hx HSI]
  · isplitl [Hx] <;> iassumption
  icases H with ⟨%h1, HSI⟩
  ihave H := (read_whole c main_v1 _ s') $$ [Ho HSI]
  · isplitl [Ho] <;> iassumption
  icases H with ⟨%h2, HSI⟩
  imod (Pipeline.unscopedSems0_read (X := unscopedSems0 c) (c := c) fupd_intro s') $$ [Hu HSI] with ⟨%h3, HSI⟩
  · isplitl [Hu] <;> iassumption
  imodintro
  isplitr; · ipureintro; exact ⟨h1, h2 ▸ hX, h3⟩
  iexact HSI

/-- Windows, there being none, wait for nothing. -/
theorem waits (c : Dev nD) : (levAts L lv : sProp 𝕄) ⊢ Pipeline.cellsWaits cfgs (dats m) (0 : ℕ) 0 c :=
  Pipeline.cellsWaits_intro cfgs (dats m) (0 : ℕ) 0 c fun w s t => w.elim0

set_option maxRecDepth 1000000 in
/-- For any float values, from any memory with every semaphore at zero: every weakly fair run of the eight kernels ends,
    with each device's argument unchanged, its result finished and every semaphore at zero. -/
theorem run_main : θ_run defs (onTc (τ := τ) (main (F := F))) (s₀ m ρ) (fun r => (∀ c, Ended m c r.2) ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := mint m) (hglob := glob m)
    (hA := fun _ w => w.elim0) (hpf := fun _ k => k.elim0)
    (X := X m) (Y := out m) (Z := fun _ => iprop(emp))
    (hX := start_intro m ρ) (hin := region_in m) (hout := region_out m)
    (QY := Ended m) (hY := ended m)
    (hQ := fun _ h hs => ⟨fun c => (h c).2.2, sem_eq_zero hs fun c => (h c).2.2.2.2⟩)

end Cert.RingSum
-- ==== Proof.Value.lean ====
/-
# The value

At exact values: seven hops of a stream sum one part of the eight arguments, seven more carry the sum around; so every
part of the result, on every device, is the sum over the eight devices — which is what the reference computes.
-/
module

public import proofs.«01_k».proof.Proof.Launch
public import proofs.«01_k».proof.Proof.Gen.ReferenceIdeal.Run
public import Idealize.ShloMosaic.Lib.Layout
public import Idealize.ShloMosaic.PureOps.Ideal.Laws

@[expose] public section

noncomputable section

namespace Cert.RingSum

open Cert.KernelIdeal Cert.KernelIdeal.Gen
open Idealize.ShloMosaic
open Idealize.ShloMosaic.TcCoe

/-! ## What a stream carries -/

/-- Row and column of the result where entry `j` of a part of chunk `g` lies. -/
def spot (g : ℕ) (hg : g < 8) (d : Bool) (q : Fin 4) (j : S128x1024.Idx) : S8192x1024.Idx :=
  Shape.pair ⟨1024 * g + 512 * d.toNat + 128 * q.val + (j 0).val, by
      have h0 : (j 0).val < 128 := (j 0).isLt
      have h1 := Bool.toNat_lt d
      show _ < 8192; omega⟩
    ⟨(j 1).val, (j 1).isLt⟩

/-- Where an entry of a part lies, from the part's first row. -/
theorem spot_of {off : Fin 2 → ℕ} {hb} (g : ℕ) (hg : g < 8) (d : Bool) (q : Fin 4) (j : S128x1024.Idx)
    (h : off 0 = 1024 * g + 512 * d.toNat + 128 * q.val) (h1 : off 1 = 0) :
    (Rect.unit (s := S8192x1024) off S128x1024.size hb).emb j = spot g hg d q j := by
  funext a
  apply Fin.ext
  rcases a with ⟨_ | _ | n, ha⟩
  · show off 0 + 1 * (j 0).val = 1024 * g + 512 * d.toNat + 128 * q.val + (j 0).val
    omega
  · show off 1 + 1 * (j 1).val = (j 1).val
    omega
  · exact absurd ha (by show ¬ n + 1 + 1 < 2; omega)

/-- A device's part one step further behind is its upstream neighbour's. -/
theorem chunk_ups (c : Dev nD) (d : Bool) (h : ℕ) : chunk (ups c d) d h = chunk c d (h + 1) := by
  have hp : ∀ (c : Dev nD) (d : Bool), place (ups c d) = (place c + if d then 1 else 7) % 8 := by decide +kernel
  unfold chunk
  rw [hp]
  cases d
  · show ((place c + 7) % 8 + 7 * h) % 8 = (place c + 7 * (h + 1)) % 8
    omega
  · show ((place c + 1) % 8 + h) % 8 = (place c + (h + 1)) % 8
    omega

/-- The device `k` places upstream. -/
def back (d : Bool) : ℕ → Dev nD → Dev nD
  | 0, c => c
  | k + 1, c => back d k (ups c d)

/-- Eight steps back round the ring visit every device once. -/
theorem back_bij : ∀ (d : Bool) (c : Dev nD), Function.Bijective fun k : Fin 8 => back d k.val c := by decide +kernel

section Ring
variable (m : (ℓ : Loc nD τ sig) → Buf (Elt Ideal) ℓ)

/-- Device `e`'s argument at an index, as an extended real. -/
def arg (e : Dev nD) (i : S8192x1024.Idx) : EReal := m ((e : Thread nD τ).loc main_arg0) i

/-- The sum over the devices. -/
def total (i : S8192x1024.Idx) : EReal := ∑ e : Dev nD, arg m e i

/-- An element of a device's own part. -/
theorem xv_eq (c : Dev nD) (d : Bool) (k : Fin 8) (q : Fin 4) (j : S128x1024.Idx) :
    (xv m c d k q j : EReal) = arg m c (spot (chunk c d k.val) (chunk_lt c d _) d q j) := by
  rw [← spot_of (chunk c d k.val) (chunk_lt c d _) d q j (xOff_eq c d k q).1 (xOff_eq c d k q).2 (hb := xOff_inb c d k q)]
  rfl

/-- Equal chunks have equal elements. -/
theorem spot_congr {g g' : ℕ} (h : g = g') (hg : g < 8) (hg' : g' < 8) (d : Bool) (q : Fin 4) (j : S128x1024.Idx) : spot g hg d q j = spot g' hg' d q j := by
  subst h; rfl

/-- After `h ≤ 7` hops: the sum over a device and the `h` upstream of it. -/
theorem sent_sum (d : Bool) (q : Fin 4) (j : S128x1024.Idx) : ∀ (h : ℕ), h ≤ 7 → ∀ c : Dev nD,
    (sent m d q h c j : EReal) = ∑ i ∈ Finset.range (h + 1), arg m (back d i c) (spot (chunk c d h) (chunk_lt c d h) d q j)
  | 0, _, c => by
    rw [Finset.sum_range_one]
    exact xv_eq m c d 0 q j
  | h + 1, hh, c => by
    rw [Finset.sum_range_succ']
    have e : (sent m d q (h + 1) c j : EReal) = (sent m d q h (ups c d) j : EReal) + (xv m c d (mod8 (h + 1)) q j : EReal) := by
      show (if h < 7 then addS (sent m d q h (ups c d)) (xv m c d (mod8 (h + 1)) q) else sent m d q h (ups c d)) j = _
      rw [if_pos (by omega)]
      rfl
    rw [e, sent_sum d q j h (by omega) (ups c d), xv_eq,
      spot_congr (chunk_ups c d h) (chunk_lt _ _ _) (chunk_lt c d (h + 1)) d q j,
      spot_congr (show chunk c d (mod8 (h + 1)).val = chunk c d (h + 1) by rw [show (mod8 (h + 1)).val = h + 1 from Nat.mod_eq_of_lt (by omega)]) (chunk_lt _ _ _) (chunk_lt c d (h + 1)) d q j]
    rfl

/-- After seven hops, and ever after: the sum over all devices. -/
theorem sent_total (d : Bool) (q : Fin 4) (j : S128x1024.Idx) : ∀ (n : ℕ) (c : Dev nD),
    (sent m d q (n + 7) c j : EReal) = total m (spot (chunk c d (n + 7)) (chunk_lt c d _) d q j)
  | 0, c => by
    rw [sent_sum m d q j 7 (Nat.le_refl _) c, Finset.sum_range]
    exact (back_bij d c).sum_comp fun e => arg m e (spot (chunk c d 7) (chunk_lt c d _) d q j)
  | n + 1, c => by
    have e : sent m d q (n + 1 + 7) c = sent m d q (n + 7) (ups c d) := by
      show (if n + 7 < 7 then _ else _) = _
      exact if_neg (by omega)
    rw [e, sent_total d q j n (ups c d)]
    exact congrArg (total m) (spot_congr (by rw [chunk_ups, Nat.add_right_comm]) _ _ d q j)

/-- A finished result is the sum over the devices, everywhere. -/
theorem finished_total (c : Dev nD) (X : Buf (Elt Ideal) ((c : Thread nD τ).loc main_v1)) (h : Finished m c X) (i : S8192x1024.Idx) :
    (X i : EReal) = total m i := by
  obtain ⟨k, hk⟩ := o_at c i
  obtain ⟨j, hj⟩ := (oR c ((halfOf (i 0).val, quarterOf (i 0).val), k)).exists_idx_of_mem hk
  have e := congrFun (h (halfOf (i 0).val) (quarterOf (i 0).val) k) j
  have e' : (X ((oR c ((halfOf (i 0).val, quarterOf (i 0).val), k)).emb j) : EReal) = total m ((oR c ((halfOf (i 0).val, quarterOf (i 0).val), k)).emb j) := by
    refine Eq.trans (show _ = _ from e) ((sent_total m _ _ j k.val c).trans ?_)
    exact congrArg (total m) (spot_of _ _ _ _ j (oOff_eq c _ k _).1 (oOff_eq c _ k _).2 (hb := oOff_inb c _ k _)).symm
  rw [show (oR c ((halfOf (i 0).val, quarterOf (i 0).val), k)).emb j = i from hj] at e'
  exact e'

end Ring

/-! ## What the reference computes -/

/-- The shape of the whole argument, -/
abbrev Whole : Shape := ⟨2, ![65536, 1024]⟩

/-- cut into eight blocks of rows. -/
theorem tiles : Layout.Tiles S8192x1024 Whole 0 8 := by decide

/-- The whole array as eight matrices, then their sum. -/
def summed (x : Whole.Idx → EReal) : S8192x1024.Idx → EReal :=
  Host.reduceAdd (F := Ideal) (φ := .f32) (shapeCast Cert.ReferenceIdeal.S8x8192x1024 x Cert.ReferenceIdeal.Gen.shapeCasts_S65536x1024_S8x8192x1024)
    (constant Cert.ReferenceIdeal.S_ .f32 0x00000000#32) Cert.ReferenceIdeal.Gen.reducesTo_S8x8192x1024_S8192x1024_d0 Cert.ReferenceIdeal.Gen.h_S_

/-- The reference sums over the first of three axes. -/
theorem reduces : Shape.Reduces Cert.ReferenceIdeal.S8x8192x1024 [0] S8192x1024 := by decide

/-- The reference's result is the sum of the eight blocks, element by element. -/
theorem summed_eq (x : Whole.Idx → EReal) (i : S8192x1024.Idx) : summed x i = ∑ e : Fin 8, x (tiles.idx e i) := by
  have h0 : (constant (F := Ideal) Cert.ReferenceIdeal.S_ .f32 0x00000000#32 (Shape.Idx.first Cert.ReferenceIdeal.Gen.h_S_) : EReal) = 0 := Ideal.ofBits_zero_f32
  refine (Ideal.hostReduceAdd_single Cert.ReferenceIdeal.Gen.reducesTo_S8x8192x1024_S8192x1024_d0 reduces _ _ i).trans ?_
  rw [h0, zero_add]
  refine Finset.sum_congr rfl fun e _ => ?_
  refine congrArg x (Shape.reshapeEquiv_eq_of_rowMajor _ ?_)
  refine (Shape.rowMajor_val_two (d := ![65536, 1024]) _).trans (Eq.trans ?_ (Shape.rowMajor_val_three (d := ![8, 8192, 1024]) _).symm)
  show (e.val * 8192 + (i 0).val) * 1024 + (i 1).val = (e.val * 8192 + (i 0).val) * 1024 + (i 1).val
  rfl

/-- The sum over the devices' arguments is the reference's result of the whole. -/
theorem total_eq (m : (ℓ : Loc nD τ sig) → Buf (Elt Ideal) ℓ) (x : Whole.Idx → EReal) (h : ∀ e i, arg m e i = x (tiles.idx e i)) (i : S8192x1024.Idx) :
    total m i = summed x i :=
  (Finset.sum_congr rfl fun e _ => h e i).trans (summed_eq x i).symm

end Cert.RingSum
-- ==== Proof.lean ====
/-
# The claims

The eight kernels' run, ended and quiet, at bit patterns and at exact values; the reference's run; and that both compute
one array, the sum of the eight blocks of the argument.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The printed kernel is the same text as the idealized one: its run is the same, at bit patterns. -/
theorem frame_kernel : Cert.quiescent_Kernel := fun m ρ _ =>
  (θ_run Cert.KernelIdeal.defs _ _).mono (fun _ h => ⟨fun c => (h.1 c).1, h.2⟩) (Cert.RingSum.run_main (F := Bits) m ρ)

/-- The idealized kernel's run: no fault, the argument unchanged, every counter at zero. -/
theorem frame_ideal : Cert.quiescent_KernelIdeal := fun m ρ _ =>
  (θ_run Cert.KernelIdeal.defs _ _).mono (fun _ h => ⟨fun c => (h.1 c).1, h.2⟩) (Cert.RingSum.run_main (F := Ideal) m ρ)

/-- The reference uses no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On every device the kernel leaves the sum of the eight blocks, which is what the reference computes of the whole. -/
theorem value : Cert.algebraic_KernelIdeal_ReferenceIdeal := fun m ρ m' ρ' _ hagree =>
  ⟨Cert.RingSum.summed (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨funext fun i =>
        (Cert.RingSum.finished_total m c _ (h.1 c).2.1 i).trans (Cert.RingSum.total_eq m _ (fun e i => congrFun (hagree e) i) i), (h.1 c).1⟩) (Cert.RingSum.run_main (F := Ideal) m ρ),
    (θ_run Cert.ReferenceIdeal.defs _ _).mono (fun _ h => h 0) (Cert.ReferenceIdeal.Value.run (F := Ideal) m' ρ')⟩

/-- All that is claimed, together. -/
theorem claim : Cert.Claim := ⟨Cert.Kernel.Gen.facts, Cert.KernelIdeal.Gen.facts, Cert.ReferenceIdeal.Gen.facts,
  frame_kernel, frame_ideal, frame_reference, trivial, value⟩

end Cert.Proof

end
